-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range_KernelIdeal [hPre_finite_in_range_KernelIdeal : Cert.Pre_finite_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range_ReferenceIdeal [hPre_finite_in_range_ReferenceIdeal : Cert.Pre_finite_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_range_KernelIdeal [hKernelIdeal : Cert.KernelIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_range_ReferenceIdeal [hReferenceIdeal : Cert.ReferenceIdeal.Facts] [hPre_finite_in_range_ReferenceIdeal : Cert.Pre_finite_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_range_KernelIdeal [hKernelIdeal : Cert.KernelIdeal.Facts] [hReferenceIdeal : Cert.ReferenceIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_range_KernelIdeal : Cert.Pre_finite_in_range_KernelIdeal.Facts) (hPre_finite_in_range_ReferenceIdeal : Cert.Pre_finite_in_range_ReferenceIdeal.Facts),
    quiescent_Kernel (hKernel := hKernel)
    ∧ quiescent_KernelIdeal (hKernelIdeal := hKernelIdeal)
    ∧ quiescent_KernelIdeal_pre_finite_in_range_KernelIdeal (hKernelIdeal := hKernelIdeal) (hPre_finite_in_range_KernelIdeal := hPre_finite_in_range_KernelIdeal)
    ∧ quiescent_ReferenceIdeal (hReferenceIdeal := hReferenceIdeal)
    ∧ quiescent_ReferenceIdeal_pre_finite_in_range_ReferenceIdeal (hReferenceIdeal := hReferenceIdeal) (hPre_finite_in_range_ReferenceIdeal := hPre_finite_in_range_ReferenceIdeal)
    ∧ preserves_Kernel_KernelIdeal
    ∧ algebraic_KernelIdeal_ReferenceIdeal_pre_finite_in_range_KernelIdeal (hKernelIdeal := hKernelIdeal) (hReferenceIdeal := hReferenceIdeal) (hPre_finite_in_range_KernelIdeal := hPre_finite_in_range_KernelIdeal)
-- ==== Pre_finite_in_range_KernelIdeal.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x2048 .f32) (main_arg1 : FVec F S2048x16384 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 32 := constantI S_ 32 32768#32
  let main_v11 : IVec S1024 32 := broadcastInDim S1024 ![] bcast_S_S1024 main_c_3
  let main_v12 : IVec S1024 1 := cmpi .slt main_arg2 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Pre_finite_in_range_ReferenceIdeal.lean ====
abbrev S1024x2048 : Shape := ⟨2, ![1024, 2048]⟩
abbrev S2048x32768 : Shape := ⟨2, ![2048, 32768]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x2048 .f32) (main_arg1 : FVec F S2048x32768 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 32 := constantI S_ 32 32768#32
  let main_v11 : IVec S1024 32 := broadcastInDim S1024 ![] bcast_S_S1024 main_c_3
  let main_v12 : IVec S1024 1 := cmpi .slt main_arg2 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x2048 : Shape := ⟨2, ![1024, 2048]⟩
abbrev S2048x16384 : Shape := ⟨2, ![2048, 16384]⟩
abbrev S1024 : Shape := ⟨1, ![1024]⟩
abbrev S1024x1 : Shape := ⟨2, ![1024, 1]⟩
abbrev S8x128 : Shape := ⟨2, ![8, 128]⟩
abbrev S2048x2048 : Shape := ⟨2, ![2048, 2048]⟩
abbrev S16x128 : Shape := ⟨2, ![16, 128]⟩
abbrev S15x16x128 : Shape := ⟨3, ![15, 16, 128]⟩
abbrev S4 : Shape := ⟨1, ![4]⟩
abbrev S15 : Shape := ⟨1, ![15]⟩
abbrev S_ : Shape := ⟨0, ![]⟩
abbrev S1 : Shape := ⟨1, ![1]⟩
abbrev S2048x512 : Shape := ⟨2, ![2048, 512]⟩
abbrev S1x512 : Shape := ⟨2, ![1, 512]⟩
abbrev S1x1024 : Shape := ⟨2, ![1, 1024]⟩
abbrev S1024x512 : Shape := ⟨2, ![1024, 512]⟩
abbrev S1x16x128 : Shape := ⟨3, ![1, 16, 128]⟩

abbrev nBuf : Space → Nat
  | .hbm => 6
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024, .i32⟩
  | .hbm, ⟨3, _⟩ => ⟨S1024x1, .i32⟩
  | .hbm, ⟨4, _⟩ => ⟨S8x128, .f32⟩
  | .hbm, ⟨5, _⟩ => ⟨S1024, .f32⟩
  | .local _ .vmem, ⟨0, _⟩ => ⟨S1024x2048, .f32⟩
  | .local _ .vmem, ⟨1, _⟩ => ⟨S1024x1, .i32⟩
  | .local _ .vmem, ⟨2, _⟩ => ⟨S8x128, .f32⟩
  | .local _ .vmem, ⟨3, _⟩ => ⟨S2048x2048, .f32⟩
  | .local _ .vmem, ⟨4, _⟩ => ⟨S16x128, .f32⟩
  | .local _ .vmem, ⟨5, _⟩ => ⟨S15x16x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c1_i32_5 : BitVec 32 := 1#32
  let v17 : BitVec 32 := Scalar.addi v15 c1_i32_5
  let c16_i32 : BitVec 32 := 16#32
  let c0_i32 : BitVec 32 := 0#32
  let v18 : BitVec 1 := Scalar.cmpi .eq c16_i32 c0_i32
  let c1_i32_6 : BitVec 32 := 1#32
  let v19 : BitVec 32 := Scalar.select v18 c1_i32_6 c16_i32
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c8_i32_10 : BitVec 32 := 8#32
  let c0_i32_13 : BitVec 32 := 0#32
  let v34 : BitVec 1 := Scalar.cmpi .sgt c8_i32_10 c0_i32_13
  let v35 : BitVec 32 := Scalar.extui v34
  let c0_i32_14 : BitVec 32 := 0#32
  let v36 : BitVec 1 := Scalar.cmpi .slt c8_i32_10 c0_i32_14
  let v37 : BitVec 32 := Scalar.extui v36
  let v38 : BitVec 32 := Scalar.subi v35 v37
  let v39 : BitVec 1 := Scalar.cmpi .ne v33 v38
  let v40 : BitVec 32 := Scalar.remsi v27 c8_i32_10
  let c0_i32_15 : BitVec 32 := 0#32
  let v41 : BitVec 1 := Scalar.cmpi .ne v40 c0_i32_15
  let v42 : BitVec 1 := Scalar.andi v39 v41
  let v28 : BitVec 32 := Scalar.divsi v27 c8_i32_10
  let c1_i32_16 : BitVec 32 := 1#32
  let v43 : BitVec 32 := Scalar.subi v28 c1_i32_16
  let v44 : BitVec 32 := Scalar.select v42 v43 v28
  let c8_i32_37 : BitVec 32 := 8#32
  let v82 : BitVec 32 := Scalar.muli v44 c8_i32_37
  let v83 : BitVec 32 := Scalar.addi c0_i32_38 v82
  let c0_i32_18 : BitVec 32 := 0#32
  let v46 : BitVec 1 := Scalar.cmpi .sgt v27 c0_i32_18
  let v47 : BitVec 32 := Scalar.extui v46
  let c0_i32_19 : BitVec 32 := 0#32
  let v48 : BitVec 1 := Scalar.cmpi .slt v27 c0_i32_19
  let v49 : BitVec 32 := Scalar.extui v48
  let v50 : BitVec 32 := Scalar.subi v47 v49
  let c4_i32_17 : BitVec 32 := 4#32
  let c0_i32_20 : BitVec 32 := 0#32
  let v51 : BitVec 1 := Scalar.cmpi .sgt c4_i32_17 c0_i32_20
  let v52 : BitVec 32 := Scalar.extui v51
  let c0_i32_21 : BitVec 32 := 0#32
  let v53 : BitVec 1 := Scalar.cmpi .slt c4_i32_17 c0_i32_21
  let v54 : BitVec 32 := Scalar.extui v53
  let v55 : BitVec 32 := Scalar.subi v52 v54
  let v56 : BitVec 1 := Scalar.cmpi .ne v50 v55
  let v57 : BitVec 32 := Scalar.remsi v27 c4_i32_17
  let c0_i32_22 : BitVec 32 := 0#32
  let v58 : BitVec 1 := Scalar.cmpi .ne v57 c0_i32_22
  let v59 : BitVec 1 := Scalar.andi v56 v58
  let v45 : BitVec 32 := Scalar.divsi v27 c4_i32_17
  let c1_i32_23 : BitVec 32 := 1#32
  let v60 : BitVec 32 := Scalar.subi v45 c1_i32_23
  let v61 : BitVec 32 := Scalar.select v59 v60 v45
  let c2_i32_24 : BitVec 32 := 2#32
  let c0_i32_25 : BitVec 32 := 0#32
  let v62 : BitVec 1 := Scalar.cmpi .eq c2_i32_24 c0_i32_25
  let c1_i32_26 : BitVec 32 := 1#32
  let v63 : BitVec 32 := Scalar.select v62 c1_i32_26 c2_i32_24
  let v64 : BitVec 32 := Scalar.remsi v61 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let c4_i32_39 : BitVec 32 := 4#32
  let v84 : BitVec 32 := Scalar.muli v71 c4_i32_39
  let v85 : BitVec 32 := Scalar.addi v83 v84
  let c4_i32_30 : BitVec 32 := 4#32
  let c0_i32_31 : BitVec 32 := 0#32
  let v72 : BitVec 1 := Scalar.cmpi .eq c4_i32_30 c0_i32_31
  let c1_i32_32 : BitVec 32 := 1#32
  let v73 : BitVec 32 := Scalar.select v72 c1_i32_32 c4_i32_30
  let v74 : BitVec 32 := Scalar.remsi v27 v73
  let c0_i32_34 : BitVec 32 := 0#32
  let v76 : BitVec 1 := Scalar.cmpi .slt v74 c0_i32_34
  let c0_i32_35 : BitVec 32 := 0#32
  let v77 : BitVec 1 := Scalar.cmpi .slt v73 c0_i32_35
  let v78 : BitVec 1 := Scalar.xori v76 v77
  let c0_i32_33 : BitVec 32 := 0#32
  let v75 : BitVec 1 := Scalar.cmpi .ne v74 c0_i32_33
  let v79 : BitVec 1 := Scalar.andi v78 v75
  let v80 : BitVec 32 := Scalar.addi v74 v73
  let v81 : BitVec 32 := Scalar.select v79 v80 v74
  let c1_i32_40 : BitVec 32 := 1#32
  let v86 : BitVec 32 := Scalar.muli v81 c1_i32_40
  let v87 : BitVec 32 := Scalar.addi v85 v86
  v87.toNat
def k0_dev2 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c2_i32_41 : BitVec 32 := 2#32
  let v88 : BitVec 32 := Scalar.addi v15 c2_i32_41
  let c16_i32_42 : BitVec 32 := 16#32
  let c0_i32_43 : BitVec 32 := 0#32
  let v89 : BitVec 1 := Scalar.cmpi .eq c16_i32_42 c0_i32_43
  let c1_i32_44 : BitVec 32 := 1#32
  let v90 : BitVec 32 := Scalar.select v89 c1_i32_44 c16_i32_42
  let v91 : BitVec 32 := Scalar.remsi v88 v90
  let c0_i32_46 : BitVec 32 := 0#32
  let v93 : BitVec 1 := Scalar.cmpi .slt v91 c0_i32_46
  let c0_i32_47 : BitVec 32 := 0#32
  let v94 : BitVec 1 := Scalar.cmpi .slt v90 c0_i32_47
  let v95 : BitVec 1 := Scalar.xori v93 v94
  let c0_i32_45 : BitVec 32 := 0#32
  let v92 : BitVec 1 := Scalar.cmpi .ne v91 c0_i32_45
  let v96 : BitVec 1 := Scalar.andi v95 v92
  let v97 : BitVec 32 := Scalar.addi v91 v90
  let v98 : BitVec 32 := Scalar.select v96 v97 v91
  let c0_i32_49 : BitVec 32 := 0#32
  let v100 : BitVec 1 := Scalar.cmpi .sgt v98 c0_i32_49
  let v101 : BitVec 32 := Scalar.extui v100
  let c0_i32_50 : BitVec 32 := 0#32
  let v102 : BitVec 1 := Scalar.cmpi .slt v98 c0_i32_50
  let v103 : BitVec 32 := Scalar.extui v102
  let v104 : BitVec 32 := Scalar.subi v101 v103
  let c8_i32_48 : BitVec 32 := 8#32
  let c0_i32_51 : BitVec 32 := 0#32
  let v105 : BitVec 1 := Scalar.cmpi .sgt c8_i32_48 c0_i32_51
  let v106 : BitVec 32 := Scalar.extui v105
  let c0_i32_52 : BitVec 32 := 0#32
  let v107 : BitVec 1 := Scalar.cmpi .slt c8_i32_48 c0_i32_52
  let v108 : BitVec 32 := Scalar.extui v107
  let v109 : BitVec 32 := Scalar.subi v106 v108
  let v110 : BitVec 1 := Scalar.cmpi .ne v104 v109
  let v111 : BitVec 32 := Scalar.remsi v98 c8_i32_48
  let c0_i32_53 : BitVec 32 := 0#32
  let v112 : BitVec 1 := Scalar.cmpi .ne v111 c0_i32_53
  let v113 : BitVec 1 := Scalar.andi v110 v112
  let v99 : BitVec 32 := Scalar.divsi v98 c8_i32_48
  let c1_i32_54 : BitVec 32 := 1#32
  let v114 : BitVec 32 := Scalar.subi v99 c1_i32_54
  let v115 : BitVec 32 := Scalar.select v113 v114 v99
  let c8_i32_75 : BitVec 32 := 8#32
  let v153 : BitVec 32 := Scalar.muli v115 c8_i32_75
  let v154 : BitVec 32 := Scalar.addi c0_i32_76 v153
  let c0_i32_56 : BitVec 32 := 0#32
  let v117 : BitVec 1 := Scalar.cmpi .sgt v98 c0_i32_56
  let v118 : BitVec 32 := Scalar.extui v117
  let c0_i32_57 : BitVec 32 := 0#32
  let v119 : BitVec 1 := Scalar.cmpi .slt v98 c0_i32_57
  let v120 : BitVec 32 := Scalar.extui v119
  let v121 : BitVec 32 := Scalar.subi v118 v120
  let c4_i32_55 : BitVec 32 := 4#32
  let c0_i32_58 : BitVec 32 := 0#32
  let v122 : BitVec 1 := Scalar.cmpi .sgt c4_i32_55 c0_i32_58
  let v123 : BitVec 32 := Scalar.extui v122
  let c0_i32_59 : BitVec 32 := 0#32
  let v124 : BitVec 1 := Scalar.cmpi .slt c4_i32_55 c0_i32_59
  let v125 : BitVec 32 := Scalar.extui v124
  let v126 : BitVec 32 := Scalar.subi v123 v125
  let v127 : BitVec 1 := Scalar.cmpi .ne v121 v126
  let v128 : BitVec 32 := Scalar.remsi v98 c4_i32_55
  let c0_i32_60 : BitVec 32 := 0#32
  let v129 : BitVec 1 := Scalar.cmpi .ne v128 c0_i32_60
  let v130 : BitVec 1 := Scalar.andi v127 v129
  let v116 : BitVec 32 := Scalar.divsi v98 c4_i32_55
  let c1_i32_61 : BitVec 32 := 1#32
  let v131 : BitVec 32 := Scalar.subi v116 c1_i32_61
  let v132 : BitVec 32 := Scalar.select v130 v131 v116
  let c2_i32_62 : BitVec 32 := 2#32
  let c0_i32_63 : BitVec 32 := 0#32
  let v133 : BitVec 1 := Scalar.cmpi .eq c2_i32_62 c0_i32_63
  let c1_i32_64 : BitVec 32 := 1#32
  let v134 : BitVec 32 := Scalar.select v133 c1_i32_64 c2_i32_62
  let v135 : BitVec 32 := Scalar.remsi v132 v134
  let c0_i32_66 : BitVec 32 := 0#32
  let v137 : BitVec 1 := Scalar.cmpi .slt v135 c0_i32_66
  let c0_i32_67 : BitVec 32 := 0#32
  let v138 : BitVec 1 := Scalar.cmpi .slt v134 c0_i32_67
  let v139 : BitVec 1 := Scalar.xori v137 v138
  let c0_i32_65 : BitVec 32 := 0#32
  let v136 : BitVec 1 := Scalar.cmpi .ne v135 c0_i32_65
  let v140 : BitVec 1 := Scalar.andi v139 v136
  let v141 : BitVec 32 := Scalar.addi v135 v134
  let v142 : BitVec 32 := Scalar.select v140 v141 v135
  let c4_i32_77 : BitVec 32 := 4#32
  let v155 : BitVec 32 := Scalar.muli v142 c4_i32_77
  let v156 : BitVec 32 := Scalar.addi v154 v155
  let c4_i32_68 : BitVec 32 := 4#32
  let c0_i32_69 : BitVec 32 := 0#32
  let v143 : BitVec 1 := Scalar.cmpi .eq c4_i32_68 c0_i32_69
  let c1_i32_70 : BitVec 32 := 1#32
  let v144 : BitVec 32 := Scalar.select v143 c1_i32_70 c4_i32_68
  let v145 : BitVec 32 := Scalar.remsi v98 v144
  let c0_i32_72 : BitVec 32 := 0#32
  let v147 : BitVec 1 := Scalar.cmpi .slt v145 c0_i32_72
  let c0_i32_73 : BitVec 32 := 0#32
  let v148 : BitVec 1 := Scalar.cmpi .slt v144 c0_i32_73
  let v149 : BitVec 1 := Scalar.xori v147 v148
  let c0_i32_71 : BitVec 32 := 0#32
  let v146 : BitVec 1 := Scalar.cmpi .ne v145 c0_i32_71
  let v150 : BitVec 1 := Scalar.andi v149 v146
  let v151 : BitVec 32 := Scalar.addi v145 v144
  let v152 : BitVec 32 := Scalar.select v150 v151 v145
  let c1_i32_78 : BitVec 32 := 1#32
  let v157 : BitVec 32 := Scalar.muli v152 c1_i32_78
  let v158 : BitVec 32 := Scalar.addi v156 v157
  v158.toNat
def k0_dev3 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c3_i32 : BitVec 32 := 3#32
  let v159 : BitVec 32 := Scalar.addi v15 c3_i32
  let c16_i32_79 : BitVec 32 := 16#32
  let c0_i32_80 : BitVec 32 := 0#32
  let v160 : BitVec 1 := Scalar.cmpi .eq c16_i32_79 c0_i32_80
  let c1_i32_81 : BitVec 32 := 1#32
  let v161 : BitVec 32 := Scalar.select v160 c1_i32_81 c16_i32_79
  let v162 : BitVec 32 := Scalar.remsi v159 v161
  let c0_i32_83 : BitVec 32 := 0#32
  let v164 : BitVec 1 := Scalar.cmpi .slt v162 c0_i32_83
  let c0_i32_84 : BitVec 32 := 0#32
  let v165 : BitVec 1 := Scalar.cmpi .slt v161 c0_i32_84
  let v166 : BitVec 1 := Scalar.xori v164 v165
  let c0_i32_82 : BitVec 32 := 0#32
  let v163 : BitVec 1 := Scalar.cmpi .ne v162 c0_i32_82
  let v167 : BitVec 1 := Scalar.andi v166 v163
  let v168 : BitVec 32 := Scalar.addi v162 v161
  let v169 : BitVec 32 := Scalar.select v167 v168 v162
  let c0_i32_86 : BitVec 32 := 0#32
  let v171 : BitVec 1 := Scalar.cmpi .sgt v169 c0_i32_86
  let v172 : BitVec 32 := Scalar.extui v171
  let c0_i32_87 : BitVec 32 := 0#32
  let v173 : BitVec 1 := Scalar.cmpi .slt v169 c0_i32_87
  let v174 : BitVec 32 := Scalar.extui v173
  let v175 : BitVec 32 := Scalar.subi v172 v174
  let c8_i32_85 : BitVec 32 := 8#32
  let c0_i32_88 : BitVec 32 := 0#32
  let v176 : BitVec 1 := Scalar.cmpi .sgt c8_i32_85 c0_i32_88
  let v177 : BitVec 32 := Scalar.extui v176
  let c0_i32_89 : BitVec 32 := 0#32
  let v178 : BitVec 1 := Scalar.cmpi .slt c8_i32_85 c0_i32_89
  let v179 : BitVec 32 := Scalar.extui v178
  let v180 : BitVec 32 := Scalar.subi v177 v179
  let v181 : BitVec 1 := Scalar.cmpi .ne v175 v180
  let v182 : BitVec 32 := Scalar.remsi v169 c8_i32_85
  let c0_i32_90 : BitVec 32 := 0#32
  let v183 : BitVec 1 := Scalar.cmpi .ne v182 c0_i32_90
  let v184 : BitVec 1 := Scalar.andi v181 v183
  let v170 : BitVec 32 := Scalar.divsi v169 c8_i32_85
  let c1_i32_91 : BitVec 32 := 1#32
  let v185 : BitVec 32 := Scalar.subi v170 c1_i32_91
  let v186 : BitVec 32 := Scalar.select v184 v185 v170
  let c8_i32_112 : BitVec 32 := 8#32
  let v224 : BitVec 32 := Scalar.muli v186 c8_i32_112
  let v225 : BitVec 32 := Scalar.addi c0_i32_113 v224
  let c0_i32_93 : BitVec 32 := 0#32
  let v188 : BitVec 1 := Scalar.cmpi .sgt v169 c0_i32_93
  let v189 : BitVec 32 := Scalar.extui v188
  let c0_i32_94 : BitVec 32 := 0#32
  let v190 : BitVec 1 := Scalar.cmpi .slt v169 c0_i32_94
  let v191 : BitVec 32 := Scalar.extui v190
  let v192 : BitVec 32 := Scalar.subi v189 v191
  let c4_i32_92 : BitVec 32 := 4#32
  let c0_i32_95 : BitVec 32 := 0#32
  let v193 : BitVec 1 := Scalar.cmpi .sgt c4_i32_92 c0_i32_95
  let v194 : BitVec 32 := Scalar.extui v193
  let c0_i32_96 : BitVec 32 := 0#32
  let v195 : BitVec 1 := Scalar.cmpi .slt c4_i32_92 c0_i32_96
  let v196 : BitVec 32 := Scalar.extui v195
  let v197 : BitVec 32 := Scalar.subi v194 v196
  let v198 : BitVec 1 := Scalar.cmpi .ne v192 v197
  let v199 : BitVec 32 := Scalar.remsi v169 c4_i32_92
  let c0_i32_97 : BitVec 32 := 0#32
  let v200 : BitVec 1 := Scalar.cmpi .ne v199 c0_i32_97
  let v201 : BitVec 1 := Scalar.andi v198 v200
  let v187 : BitVec 32 := Scalar.divsi v169 c4_i32_92
  let c1_i32_98 : BitVec 32 := 1#32
  let v202 : BitVec 32 := Scalar.subi v187 c1_i32_98
  let v203 : BitVec 32 := Scalar.select v201 v202 v187
  let c2_i32_99 : BitVec 32 := 2#32
  let c0_i32_100 : BitVec 32 := 0#32
  let v204 : BitVec 1 := Scalar.cmpi .eq c2_i32_99 c0_i32_100
  let c1_i32_101 : BitVec 32 := 1#32
  let v205 : BitVec 32 := Scalar.select v204 c1_i32_101 c2_i32_99
  let v206 : BitVec 32 := Scalar.remsi v203 v205
  let c0_i32_103 : BitVec 32 := 0#32
  let v208 : BitVec 1 := Scalar.cmpi .slt v206 c0_i32_103
  let c0_i32_104 : BitVec 32 := 0#32
  let v209 : BitVec 1 := Scalar.cmpi .slt v205 c0_i32_104
  let v210 : BitVec 1 := Scalar.xori v208 v209
  let c0_i32_102 : BitVec 32 := 0#32
  let v207 : BitVec 1 := Scalar.cmpi .ne v206 c0_i32_102
  let v211 : BitVec 1 := Scalar.andi v210 v207
  let v212 : BitVec 32 := Scalar.addi v206 v205
  let v213 : BitVec 32 := Scalar.select v211 v212 v206
  let c4_i32_114 : BitVec 32 := 4#32
  let v226 : BitVec 32 := Scalar.muli v213 c4_i32_114
  let v227 : BitVec 32 := Scalar.addi v225 v226
  let c4_i32_105 : BitVec 32 := 4#32
  let c0_i32_106 : BitVec 32 := 0#32
  let v214 : BitVec 1 := Scalar.cmpi .eq c4_i32_105 c0_i32_106
  let c1_i32_107 : BitVec 32 := 1#32
  let v215 : BitVec 32 := Scalar.select v214 c1_i32_107 c4_i32_105
  let v216 : BitVec 32 := Scalar.remsi v169 v215
  let c0_i32_109 : BitVec 32 := 0#32
  let v218 : BitVec 1 := Scalar.cmpi .slt v216 c0_i32_109
  let c0_i32_110 : BitVec 32 := 0#32
  let v219 : BitVec 1 := Scalar.cmpi .slt v215 c0_i32_110
  let v220 : BitVec 1 := Scalar.xori v218 v219
  let c0_i32_108 : BitVec 32 := 0#32
  let v217 : BitVec 1 := Scalar.cmpi .ne v216 c0_i32_108
  let v221 : BitVec 1 := Scalar.andi v220 v217
  let v222 : BitVec 32 := Scalar.addi v216 v215
  let v223 : BitVec 32 := Scalar.select v221 v222 v216
  let c1_i32_115 : BitVec 32 := 1#32
  let v228 : BitVec 32 := Scalar.muli v223 c1_i32_115
  let v229 : BitVec 32 := Scalar.addi v227 v228
  v229.toNat
def k0_dev4 (d0 : Dev nD) : Nat :=
  let c0_i32_151 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c4_i32_116 : BitVec 32 := 4#32
  let v230 : BitVec 32 := Scalar.addi v15 c4_i32_116
  let c16_i32_117 : BitVec 32 := 16#32
  let c0_i32_118 : BitVec 32 := 0#32
  let v231 : BitVec 1 := Scalar.cmpi .eq c16_i32_117 c0_i32_118
  let c1_i32_119 : BitVec 32 := 1#32
  let v232 : BitVec 32 := Scalar.select v231 c1_i32_119 c16_i32_117
  let v233 : BitVec 32 := Scalar.remsi v230 v232
  let c0_i32_121 : BitVec 32 := 0#32
  let v235 : BitVec 1 := Scalar.cmpi .slt v233 c0_i32_121
  let c0_i32_122 : BitVec 32 := 0#32
  let v236 : BitVec 1 := Scalar.cmpi .slt v232 c0_i32_122
  let v237 : BitVec 1 := Scalar.xori v235 v236
  let c0_i32_120 : BitVec 32 := 0#32
  let v234 : BitVec 1 := Scalar.cmpi .ne v233 c0_i32_120
  let v238 : BitVec 1 := Scalar.andi v237 v234
  let v239 : BitVec 32 := Scalar.addi v233 v232
  let v240 : BitVec 32 := Scalar.select v238 v239 v233
  let c0_i32_124 : BitVec 32 := 0#32
  let v242 : BitVec 1 := Scalar.cmpi .sgt v240 c0_i32_124
  let v243 : BitVec 32 := Scalar.extui v242
  let c0_i32_125 : BitVec 32 := 0#32
  let v244 : BitVec 1 := Scalar.cmpi .slt v240 c0_i32_125
  let v245 : BitVec 32 := Scalar.extui v244
  let v246 : BitVec 32 := Scalar.subi v243 v245
  let c8_i32_123 : BitVec 32 := 8#32
  let c0_i32_126 : BitVec 32 := 0#32
  let v247 : BitVec 1 := Scalar.cmpi .sgt c8_i32_123 c0_i32_126
  let v248 : BitVec 32 := Scalar.extui v247
  let c0_i32_127 : BitVec 32 := 0#32
  let v249 : BitVec 1 := Scalar.cmpi .slt c8_i32_123 c0_i32_127
  let v250 : BitVec 32 := Scalar.extui v249
  let v251 : BitVec 32 := Scalar.subi v248 v250
  let v252 : BitVec 1 := Scalar.cmpi .ne v246 v251
  let v253 : BitVec 32 := Scalar.remsi v240 c8_i32_123
  let c0_i32_128 : BitVec 32 := 0#32
  let v254 : BitVec 1 := Scalar.cmpi .ne v253 c0_i32_128
  let v255 : BitVec 1 := Scalar.andi v252 v254
  let v241 : BitVec 32 := Scalar.divsi v240 c8_i32_123
  let c1_i32_129 : BitVec 32 := 1#32
  let v256 : BitVec 32 := Scalar.subi v241 c1_i32_129
  let v257 : BitVec 32 := Scalar.select v255 v256 v241
  let c8_i32_150 : BitVec 32 := 8#32
  let v295 : BitVec 32 := Scalar.muli v257 c8_i32_150
  let v296 : BitVec 32 := Scalar.addi c0_i32_151 v295
  let c0_i32_131 : BitVec 32 := 0#32
  let v259 : BitVec 1 := Scalar.cmpi .sgt v240 c0_i32_131
  let v260 : BitVec 32 := Scalar.extui v259
  let c0_i32_132 : BitVec 32 := 0#32
  let v261 : BitVec 1 := Scalar.cmpi .slt v240 c0_i32_132
  let v262 : BitVec 32 := Scalar.extui v261
  let v263 : BitVec 32 := Scalar.subi v260 v262
  let c4_i32_130 : BitVec 32 := 4#32
  let c0_i32_133 : BitVec 32 := 0#32
  let v264 : BitVec 1 := Scalar.cmpi .sgt c4_i32_130 c0_i32_133
  let v265 : BitVec 32 := Scalar.extui v264
  let c0_i32_134 : BitVec 32 := 0#32
  let v266 : BitVec 1 := Scalar.cmpi .slt c4_i32_130 c0_i32_134
  let v267 : BitVec 32 := Scalar.extui v266
  let v268 : BitVec 32 := Scalar.subi v265 v267
  let v269 : BitVec 1 := Scalar.cmpi .ne v263 v268
  let v270 : BitVec 32 := Scalar.remsi v240 c4_i32_130
  let c0_i32_135 : BitVec 32 := 0#32
  let v271 : BitVec 1 := Scalar.cmpi .ne v270 c0_i32_135
  let v272 : BitVec 1 := Scalar.andi v269 v271
  let v258 : BitVec 32 := Scalar.divsi v240 c4_i32_130
  let c1_i32_136 : BitVec 32 := 1#32
  let v273 : BitVec 32 := Scalar.subi v258 c1_i32_136
  let v274 : BitVec 32 := Scalar.select v272 v273 v258
  let c2_i32_137 : BitVec 32 := 2#32
  let c0_i32_138 : BitVec 32 := 0#32
  let v275 : BitVec 1 := Scalar.cmpi .eq c2_i32_137 c0_i32_138
  let c1_i32_139 : BitVec 32 := 1#32
  let v276 : BitVec 32 := Scalar.select v275 c1_i32_139 c2_i32_137
  let v277 : BitVec 32 := Scalar.remsi v274 v276
  let c0_i32_141 : BitVec 32 := 0#32
  let v279 : BitVec 1 := Scalar.cmpi .slt v277 c0_i32_141
  let c0_i32_142 : BitVec 32 := 0#32
  let v280 : BitVec 1 := Scalar.cmpi .slt v276 c0_i32_142
  let v281 : BitVec 1 := Scalar.xori v279 v280
  let c0_i32_140 : BitVec 32 := 0#32
  let v278 : BitVec 1 := Scalar.cmpi .ne v277 c0_i32_140
  let v282 : BitVec 1 := Scalar.andi v281 v278
  let v283 : BitVec 32 := Scalar.addi v277 v276
  let v284 : BitVec 32 := Scalar.select v282 v283 v277
  let c4_i32_152 : BitVec 32 := 4#32
  let v297 : BitVec 32 := Scalar.muli v284 c4_i32_152
  let v298 : BitVec 32 := Scalar.addi v296 v297
  let c4_i32_143 : BitVec 32 := 4#32
  let c0_i32_144 : BitVec 32 := 0#32
  let v285 : BitVec 1 := Scalar.cmpi .eq c4_i32_143 c0_i32_144
  let c1_i32_145 : BitVec 32 := 1#32
  let v286 : BitVec 32 := Scalar.select v285 c1_i32_145 c4_i32_143
  let v287 : BitVec 32 := Scalar.remsi v240 v286
  let c0_i32_147 : BitVec 32 := 0#32
  let v289 : BitVec 1 := Scalar.cmpi .slt v287 c0_i32_147
  let c0_i32_148 : BitVec 32 := 0#32
  let v290 : BitVec 1 := Scalar.cmpi .slt v286 c0_i32_148
  let v291 : BitVec 1 := Scalar.xori v289 v290
  let c0_i32_146 : BitVec 32 := 0#32
  let v288 : BitVec 1 := Scalar.cmpi .ne v287 c0_i32_146
  let v292 : BitVec 1 := Scalar.andi v291 v288
  let v293 : BitVec 32 := Scalar.addi v287 v286
  let v294 : BitVec 32 := Scalar.select v292 v293 v287
  let c1_i32_153 : BitVec 32 := 1#32
  let v299 : BitVec 32 := Scalar.muli v294 c1_i32_153
  let v300 : BitVec 32 := Scalar.addi v298 v299
  v300.toNat
def k0_dev5 (d0 : Dev nD) : Nat :=
  let c0_i32_188 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c5_i32 : BitVec 32 := 5#32
  let v301 : BitVec 32 := Scalar.addi v15 c5_i32
  let c16_i32_154 : BitVec 32 := 16#32
  let c0_i32_155 : BitVec 32 := 0#32
  let v302 : BitVec 1 := Scalar.cmpi .eq c16_i32_154 c0_i32_155
  let c1_i32_156 : BitVec 32 := 1#32
  let v303 : BitVec 32 := Scalar.select v302 c1_i32_156 c16_i32_154
  let v304 : BitVec 32 := Scalar.remsi v301 v303
  let c0_i32_158 : BitVec 32 := 0#32
  let v306 : BitVec 1 := Scalar.cmpi .slt v304 c0_i32_158
  let c0_i32_159 : BitVec 32 := 0#32
  let v307 : BitVec 1 := Scalar.cmpi .slt v303 c0_i32_159
  let v308 : BitVec 1 := Scalar.xori v306 v307
  let c0_i32_157 : BitVec 32 := 0#32
  let v305 : BitVec 1 := Scalar.cmpi .ne v304 c0_i32_157
  let v309 : BitVec 1 := Scalar.andi v308 v305
  let v310 : BitVec 32 := Scalar.addi v304 v303
  let v311 : BitVec 32 := Scalar.select v309 v310 v304
  let c0_i32_161 : BitVec 32 := 0#32
  let v313 : BitVec 1 := Scalar.cmpi .sgt v311 c0_i32_161
  let v314 : BitVec 32 := Scalar.extui v313
  let c0_i32_162 : BitVec 32 := 0#32
  let v315 : BitVec 1 := Scalar.cmpi .slt v311 c0_i32_162
  let v316 : BitVec 32 := Scalar.extui v315
  let v317 : BitVec 32 := Scalar.subi v314 v316
  let c8_i32_160 : BitVec 32 := 8#32
  let c0_i32_163 : BitVec 32 := 0#32
  let v318 : BitVec 1 := Scalar.cmpi .sgt c8_i32_160 c0_i32_163
  let v319 : BitVec 32 := Scalar.extui v318
  let c0_i32_164 : BitVec 32 := 0#32
  let v320 : BitVec 1 := Scalar.cmpi .slt c8_i32_160 c0_i32_164
  let v321 : BitVec 32 := Scalar.extui v320
  let v322 : BitVec 32 := Scalar.subi v319 v321
  let v323 : BitVec 1 := Scalar.cmpi .ne v317 v322
  let v324 : BitVec 32 := Scalar.remsi v311 c8_i32_160
  let c0_i32_165 : BitVec 32 := 0#32
  let v325 : BitVec 1 := Scalar.cmpi .ne v324 c0_i32_165
  let v326 : BitVec 1 := Scalar.andi v323 v325
  let v312 : BitVec 32 := Scalar.divsi v311 c8_i32_160
  let c1_i32_166 : BitVec 32 := 1#32
  let v327 : BitVec 32 := Scalar.subi v312 c1_i32_166
  let v328 : BitVec 32 := Scalar.select v326 v327 v312
  let c8_i32_187 : BitVec 32 := 8#32
  let v366 : BitVec 32 := Scalar.muli v328 c8_i32_187
  let v367 : BitVec 32 := Scalar.addi c0_i32_188 v366
  let c0_i32_168 : BitVec 32 := 0#32
  let v330 : BitVec 1 := Scalar.cmpi .sgt v311 c0_i32_168
  let v331 : BitVec 32 := Scalar.extui v330
  let c0_i32_169 : BitVec 32 := 0#32
  let v332 : BitVec 1 := Scalar.cmpi .slt v311 c0_i32_169
  let v333 : BitVec 32 := Scalar.extui v332
  let v334 : BitVec 32 := Scalar.subi v331 v333
  let c4_i32_167 : BitVec 32 := 4#32
  let c0_i32_170 : BitVec 32 := 0#32
  let v335 : BitVec 1 := Scalar.cmpi .sgt c4_i32_167 c0_i32_170
  let v336 : BitVec 32 := Scalar.extui v335
  let c0_i32_171 : BitVec 32 := 0#32
  let v337 : BitVec 1 := Scalar.cmpi .slt c4_i32_167 c0_i32_171
  let v338 : BitVec 32 := Scalar.extui v337
  let v339 : BitVec 32 := Scalar.subi v336 v338
  let v340 : BitVec 1 := Scalar.cmpi .ne v334 v339
  let v341 : BitVec 32 := Scalar.remsi v311 c4_i32_167
  let c0_i32_172 : BitVec 32 := 0#32
  let v342 : BitVec 1 := Scalar.cmpi .ne v341 c0_i32_172
  let v343 : BitVec 1 := Scalar.andi v340 v342
  let v329 : BitVec 32 := Scalar.divsi v311 c4_i32_167
  let c1_i32_173 : BitVec 32 := 1#32
  let v344 : BitVec 32 := Scalar.subi v329 c1_i32_173
  let v345 : BitVec 32 := Scalar.select v343 v344 v329
  let c2_i32_174 : BitVec 32 := 2#32
  let c0_i32_175 : BitVec 32 := 0#32
  let v346 : BitVec 1 := Scalar.cmpi .eq c2_i32_174 c0_i32_175
  let c1_i32_176 : BitVec 32 := 1#32
  let v347 : BitVec 32 := Scalar.select v346 c1_i32_176 c2_i32_174
  let v348 : BitVec 32 := Scalar.remsi v345 v347
  let c0_i32_178 : BitVec 32 := 0#32
  let v350 : BitVec 1 := Scalar.cmpi .slt v348 c0_i32_178
  let c0_i32_179 : BitVec 32 := 0#32
  let v351 : BitVec 1 := Scalar.cmpi .slt v347 c0_i32_179
  let v352 : BitVec 1 := Scalar.xori v350 v351
  let c0_i32_177 : BitVec 32 := 0#32
  let v349 : BitVec 1 := Scalar.cmpi .ne v348 c0_i32_177
  let v353 : BitVec 1 := Scalar.andi v352 v349
  let v354 : BitVec 32 := Scalar.addi v348 v347
  let v355 : BitVec 32 := Scalar.select v353 v354 v348
  let c4_i32_189 : BitVec 32 := 4#32
  let v368 : BitVec 32 := Scalar.muli v355 c4_i32_189
  let v369 : BitVec 32 := Scalar.addi v367 v368
  let c4_i32_180 : BitVec 32 := 4#32
  let c0_i32_181 : BitVec 32 := 0#32
  let v356 : BitVec 1 := Scalar.cmpi .eq c4_i32_180 c0_i32_181
  let c1_i32_182 : BitVec 32 := 1#32
  let v357 : BitVec 32 := Scalar.select v356 c1_i32_182 c4_i32_180
  let v358 : BitVec 32 := Scalar.remsi v311 v357
  let c0_i32_184 : BitVec 32 := 0#32
  let v360 : BitVec 1 := Scalar.cmpi .slt v358 c0_i32_184
  let c0_i32_185 : BitVec 32 := 0#32
  let v361 : BitVec 1 := Scalar.cmpi .slt v357 c0_i32_185
  let v362 : BitVec 1 := Scalar.xori v360 v361
  let c0_i32_183 : BitVec 32 := 0#32
  let v359 : BitVec 1 := Scalar.cmpi .ne v358 c0_i32_183
  let v363 : BitVec 1 := Scalar.andi v362 v359
  let v364 : BitVec 32 := Scalar.addi v358 v357
  let v365 : BitVec 32 := Scalar.select v363 v364 v358
  let c1_i32_190 : BitVec 32 := 1#32
  let v370 : BitVec 32 := Scalar.muli v365 c1_i32_190
  let v371 : BitVec 32 := Scalar.addi v369 v370
  v371.toNat
def k0_dev6 (d0 : Dev nD) : Nat :=
  let c0_i32_225 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c6_i32 : BitVec 32 := 6#32
  let v372 : BitVec 32 := Scalar.addi v15 c6_i32
  let c16_i32_191 : BitVec 32 := 16#32
  let c0_i32_192 : BitVec 32 := 0#32
  let v373 : BitVec 1 := Scalar.cmpi .eq c16_i32_191 c0_i32_192
  let c1_i32_193 : BitVec 32 := 1#32
  let v374 : BitVec 32 := Scalar.select v373 c1_i32_193 c16_i32_191
  let v375 : BitVec 32 := Scalar.remsi v372 v374
  let c0_i32_195 : BitVec 32 := 0#32
  let v377 : BitVec 1 := Scalar.cmpi .slt v375 c0_i32_195
  let c0_i32_196 : BitVec 32 := 0#32
  let v378 : BitVec 1 := Scalar.cmpi .slt v374 c0_i32_196
  let v379 : BitVec 1 := Scalar.xori v377 v378
  let c0_i32_194 : BitVec 32 := 0#32
  let v376 : BitVec 1 := Scalar.cmpi .ne v375 c0_i32_194
  let v380 : BitVec 1 := Scalar.andi v379 v376
  let v381 : BitVec 32 := Scalar.addi v375 v374
  let v382 : BitVec 32 := Scalar.select v380 v381 v375
  let c0_i32_198 : BitVec 32 := 0#32
  let v384 : BitVec 1 := Scalar.cmpi .sgt v382 c0_i32_198
  let v385 : BitVec 32 := Scalar.extui v384
  let c0_i32_199 : BitVec 32 := 0#32
  let v386 : BitVec 1 := Scalar.cmpi .slt v382 c0_i32_199
  let v387 : BitVec 32 := Scalar.extui v386
  let v388 : BitVec 32 := Scalar.subi v385 v387
  let c8_i32_197 : BitVec 32 := 8#32
  let c0_i32_200 : BitVec 32 := 0#32
  let v389 : BitVec 1 := Scalar.cmpi .sgt c8_i32_197 c0_i32_200
  let v390 : BitVec 32 := Scalar.extui v389
  let c0_i32_201 : BitVec 32 := 0#32
  let v391 : BitVec 1 := Scalar.cmpi .slt c8_i32_197 c0_i32_201
  let v392 : BitVec 32 := Scalar.extui v391
  let v393 : BitVec 32 := Scalar.subi v390 v392
  let v394 : BitVec 1 := Scalar.cmpi .ne v388 v393
  let v395 : BitVec 32 := Scalar.remsi v382 c8_i32_197
  let c0_i32_202 : BitVec 32 := 0#32
  let v396 : BitVec 1 := Scalar.cmpi .ne v395 c0_i32_202
  let v397 : BitVec 1 := Scalar.andi v394 v396
  let v383 : BitVec 32 := Scalar.divsi v382 c8_i32_197
  let c1_i32_203 : BitVec 32 := 1#32
  let v398 : BitVec 32 := Scalar.subi v383 c1_i32_203
  let v399 : BitVec 32 := Scalar.select v397 v398 v383
  let c8_i32_224 : BitVec 32 := 8#32
  let v437 : BitVec 32 := Scalar.muli v399 c8_i32_224
  let v438 : BitVec 32 := Scalar.addi c0_i32_225 v437
  let c0_i32_205 : BitVec 32 := 0#32
  let v401 : BitVec 1 := Scalar.cmpi .sgt v382 c0_i32_205
  let v402 : BitVec 32 := Scalar.extui v401
  let c0_i32_206 : BitVec 32 := 0#32
  let v403 : BitVec 1 := Scalar.cmpi .slt v382 c0_i32_206
  let v404 : BitVec 32 := Scalar.extui v403
  let v405 : BitVec 32 := Scalar.subi v402 v404
  let c4_i32_204 : BitVec 32 := 4#32
  let c0_i32_207 : BitVec 32 := 0#32
  let v406 : BitVec 1 := Scalar.cmpi .sgt c4_i32_204 c0_i32_207
  let v407 : BitVec 32 := Scalar.extui v406
  let c0_i32_208 : BitVec 32 := 0#32
  let v408 : BitVec 1 := Scalar.cmpi .slt c4_i32_204 c0_i32_208
  let v409 : BitVec 32 := Scalar.extui v408
  let v410 : BitVec 32 := Scalar.subi v407 v409
  let v411 : BitVec 1 := Scalar.cmpi .ne v405 v410
  let v412 : BitVec 32 := Scalar.remsi v382 c4_i32_204
  let c0_i32_209 : BitVec 32 := 0#32
  let v413 : BitVec 1 := Scalar.cmpi .ne v412 c0_i32_209
  let v414 : BitVec 1 := Scalar.andi v411 v413
  let v400 : BitVec 32 := Scalar.divsi v382 c4_i32_204
  let c1_i32_210 : BitVec 32 := 1#32
  let v415 : BitVec 32 := Scalar.subi v400 c1_i32_210
  let v416 : BitVec 32 := Scalar.select v414 v415 v400
  let c2_i32_211 : BitVec 32 := 2#32
  let c0_i32_212 : BitVec 32 := 0#32
  let v417 : BitVec 1 := Scalar.cmpi .eq c2_i32_211 c0_i32_212
  let c1_i32_213 : BitVec 32 := 1#32
  let v418 : BitVec 32 := Scalar.select v417 c1_i32_213 c2_i32_211
  let v419 : BitVec 32 := Scalar.remsi v416 v418
  let c0_i32_215 : BitVec 32 := 0#32
  let v421 : BitVec 1 := Scalar.cmpi .slt v419 c0_i32_215
  let c0_i32_216 : BitVec 32 := 0#32
  let v422 : BitVec 1 := Scalar.cmpi .slt v418 c0_i32_216
  let v423 : BitVec 1 := Scalar.xori v421 v422
  let c0_i32_214 : BitVec 32 := 0#32
  let v420 : BitVec 1 := Scalar.cmpi .ne v419 c0_i32_214
  let v424 : BitVec 1 := Scalar.andi v423 v420
  let v425 : BitVec 32 := Scalar.addi v419 v418
  let v426 : BitVec 32 := Scalar.select v424 v425 v419
  let c4_i32_226 : BitVec 32 := 4#32
  let v439 : BitVec 32 := Scalar.muli v426 c4_i32_226
  let v440 : BitVec 32 := Scalar.addi v438 v439
  let c4_i32_217 : BitVec 32 := 4#32
  let c0_i32_218 : BitVec 32 := 0#32
  let v427 : BitVec 1 := Scalar.cmpi .eq c4_i32_217 c0_i32_218
  let c1_i32_219 : BitVec 32 := 1#32
  let v428 : BitVec 32 := Scalar.select v427 c1_i32_219 c4_i32_217
  let v429 : BitVec 32 := Scalar.remsi v382 v428
  let c0_i32_221 : BitVec 32 := 0#32
  let v431 : BitVec 1 := Scalar.cmpi .slt v429 c0_i32_221
  let c0_i32_222 : BitVec 32 := 0#32
  let v432 : BitVec 1 := Scalar.cmpi .slt v428 c0_i32_222
  let v433 : BitVec 1 := Scalar.xori v431 v432
  let c0_i32_220 : BitVec 32 := 0#32
  let v430 : BitVec 1 := Scalar.cmpi .ne v429 c0_i32_220
  let v434 : BitVec 1 := Scalar.andi v433 v430
  let v435 : BitVec 32 := Scalar.addi v429 v428
  let v436 : BitVec 32 := Scalar.select v434 v435 v429
  let c1_i32_227 : BitVec 32 := 1#32
  let v441 : BitVec 32 := Scalar.muli v436 c1_i32_227
  let v442 : BitVec 32 := Scalar.addi v440 v441
  v442.toNat
def k0_dev7 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c7_i32 : BitVec 32 := 7#32
  let v443 : BitVec 32 := Scalar.addi v15 c7_i32
  let c16_i32_228 : BitVec 32 := 16#32
  let c0_i32_229 : BitVec 32 := 0#32
  let v444 : BitVec 1 := Scalar.cmpi .eq c16_i32_228 c0_i32_229
  let c1_i32_230 : BitVec 32 := 1#32
  let v445 : BitVec 32 := Scalar.select v444 c1_i32_230 c16_i32_228
  let v446 : BitVec 32 := Scalar.remsi v443 v445
  let c0_i32_232 : BitVec 32 := 0#32
  let v448 : BitVec 1 := Scalar.cmpi .slt v446 c0_i32_232
  let c0_i32_233 : BitVec 32 := 0#32
  let v449 : BitVec 1 := Scalar.cmpi .slt v445 c0_i32_233
  let v450 : BitVec 1 := Scalar.xori v448 v449
  let c0_i32_231 : BitVec 32 := 0#32
  let v447 : BitVec 1 := Scalar.cmpi .ne v446 c0_i32_231
  let v451 : BitVec 1 := Scalar.andi v450 v447
  let v452 : BitVec 32 := Scalar.addi v446 v445
  let v453 : BitVec 32 := Scalar.select v451 v452 v446
  let c0_i32_235 : BitVec 32 := 0#32
  let v455 : BitVec 1 := Scalar.cmpi .sgt v453 c0_i32_235
  let v456 : BitVec 32 := Scalar.extui v455
  let c0_i32_236 : BitVec 32 := 0#32
  let v457 : BitVec 1 := Scalar.cmpi .slt v453 c0_i32_236
  let v458 : BitVec 32 := Scalar.extui v457
  let v459 : BitVec 32 := Scalar.subi v456 v458
  let c8_i32_234 : BitVec 32 := 8#32
  let c0_i32_237 : BitVec 32 := 0#32
  let v460 : BitVec 1 := Scalar.cmpi .sgt c8_i32_234 c0_i32_237
  let v461 : BitVec 32 := Scalar.extui v460
  let c0_i32_238 : BitVec 32 := 0#32
  let v462 : BitVec 1 := Scalar.cmpi .slt c8_i32_234 c0_i32_238
  let v463 : BitVec 32 := Scalar.extui v462
  let v464 : BitVec 32 := Scalar.subi v461 v463
  let v465 : BitVec 1 := Scalar.cmpi .ne v459 v464
  let v466 : BitVec 32 := Scalar.remsi v453 c8_i32_234
  let c0_i32_239 : BitVec 32 := 0#32
  let v467 : BitVec 1 := Scalar.cmpi .ne v466 c0_i32_239
  let v468 : BitVec 1 := Scalar.andi v465 v467
  let v454 : BitVec 32 := Scalar.divsi v453 c8_i32_234
  let c1_i32_240 : BitVec 32 := 1#32
  let v469 : BitVec 32 := Scalar.subi v454 c1_i32_240
  let v470 : BitVec 32 := Scalar.select v468 v469 v454
  let c8_i32_261 : BitVec 32 := 8#32
  let v508 : BitVec 32 := Scalar.muli v470 c8_i32_261
  let v509 : BitVec 32 := Scalar.addi c0_i32_262 v508
  let c0_i32_242 : BitVec 32 := 0#32
  let v472 : BitVec 1 := Scalar.cmpi .sgt v453 c0_i32_242
  let v473 : BitVec 32 := Scalar.extui v472
  let c0_i32_243 : BitVec 32 := 0#32
  let v474 : BitVec 1 := Scalar.cmpi .slt v453 c0_i32_243
  let v475 : BitVec 32 := Scalar.extui v474
  let v476 : BitVec 32 := Scalar.subi v473 v475
  let c4_i32_241 : BitVec 32 := 4#32
  let c0_i32_244 : BitVec 32 := 0#32
  let v477 : BitVec 1 := Scalar.cmpi .sgt c4_i32_241 c0_i32_244
  let v478 : BitVec 32 := Scalar.extui v477
  let c0_i32_245 : BitVec 32 := 0#32
  let v479 : BitVec 1 := Scalar.cmpi .slt c4_i32_241 c0_i32_245
  let v480 : BitVec 32 := Scalar.extui v479
  let v481 : BitVec 32 := Scalar.subi v478 v480
  let v482 : BitVec 1 := Scalar.cmpi .ne v476 v481
  let v483 : BitVec 32 := Scalar.remsi v453 c4_i32_241
  let c0_i32_246 : BitVec 32 := 0#32
  let v484 : BitVec 1 := Scalar.cmpi .ne v483 c0_i32_246
  let v485 : BitVec 1 := Scalar.andi v482 v484
  let v471 : BitVec 32 := Scalar.divsi v453 c4_i32_241
  let c1_i32_247 : BitVec 32 := 1#32
  let v486 : BitVec 32 := Scalar.subi v471 c1_i32_247
  let v487 : BitVec 32 := Scalar.select v485 v486 v471
  let c2_i32_248 : BitVec 32 := 2#32
  let c0_i32_249 : BitVec 32 := 0#32
  let v488 : BitVec 1 := Scalar.cmpi .eq c2_i32_248 c0_i32_249
  let c1_i32_250 : BitVec 32 := 1#32
  let v489 : BitVec 32 := Scalar.select v488 c1_i32_250 c2_i32_248
  let v490 : BitVec 32 := Scalar.remsi v487 v489
  let c0_i32_252 : BitVec 32 := 0#32
  let v492 : BitVec 1 := Scalar.cmpi .slt v490 c0_i32_252
  let c0_i32_253 : BitVec 32 := 0#32
  let v493 : BitVec 1 := Scalar.cmpi .slt v489 c0_i32_253
  let v494 : BitVec 1 := Scalar.xori v492 v493
  let c0_i32_251 : BitVec 32 := 0#32
  let v491 : BitVec 1 := Scalar.cmpi .ne v490 c0_i32_251
  let v495 : BitVec 1 := Scalar.andi v494 v491
  let v496 : BitVec 32 := Scalar.addi v490 v489
  let v497 : BitVec 32 := Scalar.select v495 v496 v490
  let c4_i32_263 : BitVec 32 := 4#32
  let v510 : BitVec 32 := Scalar.muli v497 c4_i32_263
  let v511 : BitVec 32 := Scalar.addi v509 v510
  let c4_i32_254 : BitVec 32 := 4#32
  let c0_i32_255 : BitVec 32 := 0#32
  let v498 : BitVec 1 := Scalar.cmpi .eq c4_i32_254 c0_i32_255
  let c1_i32_256 : BitVec 32 := 1#32
  let v499 : BitVec 32 := Scalar.select v498 c1_i32_256 c4_i32_254
  let v500 : BitVec 32 := Scalar.remsi v453 v499
  let c0_i32_258 : BitVec 32 := 0#32
  let v502 : BitVec 1 := Scalar.cmpi .slt v500 c0_i32_258
  let c0_i32_259 : BitVec 32 := 0#32
  let v503 : BitVec 1 := Scalar.cmpi .slt v499 c0_i32_259
  let v504 : BitVec 1 := Scalar.xori v502 v503
  let c0_i32_257 : BitVec 32 := 0#32
  let v501 : BitVec 1 := Scalar.cmpi .ne v500 c0_i32_257
  let v505 : BitVec 1 := Scalar.andi v504 v501
  let v506 : BitVec 32 := Scalar.addi v500 v499
  let v507 : BitVec 32 := Scalar.select v505 v506 v500
  let c1_i32_264 : BitVec 32 := 1#32
  let v512 : BitVec 32 := Scalar.muli v507 c1_i32_264
  let v513 : BitVec 32 := Scalar.addi v511 v512
  v513.toNat
def k0_dev8 (d0 : Dev nD) : Nat :=
  let c0_i32_300 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c8_i32_265 : BitVec 32 := 8#32
  let v514 : BitVec 32 := Scalar.addi v15 c8_i32_265
  let c16_i32_266 : BitVec 32 := 16#32
  let c0_i32_267 : BitVec 32 := 0#32
  let v515 : BitVec 1 := Scalar.cmpi .eq c16_i32_266 c0_i32_267
  let c1_i32_268 : BitVec 32 := 1#32
  let v516 : BitVec 32 := Scalar.select v515 c1_i32_268 c16_i32_266
  let v517 : BitVec 32 := Scalar.remsi v514 v516
  let c0_i32_270 : BitVec 32 := 0#32
  let v519 : BitVec 1 := Scalar.cmpi .slt v517 c0_i32_270
  let c0_i32_271 : BitVec 32 := 0#32
  let v520 : BitVec 1 := Scalar.cmpi .slt v516 c0_i32_271
  let v521 : BitVec 1 := Scalar.xori v519 v520
  let c0_i32_269 : BitVec 32 := 0#32
  let v518 : BitVec 1 := Scalar.cmpi .ne v517 c0_i32_269
  let v522 : BitVec 1 := Scalar.andi v521 v518
  let v523 : BitVec 32 := Scalar.addi v517 v516
  let v524 : BitVec 32 := Scalar.select v522 v523 v517
  let c0_i32_273 : BitVec 32 := 0#32
  let v526 : BitVec 1 := Scalar.cmpi .sgt v524 c0_i32_273
  let v527 : BitVec 32 := Scalar.extui v526
  let c0_i32_274 : BitVec 32 := 0#32
  let v528 : BitVec 1 := Scalar.cmpi .slt v524 c0_i32_274
  let v529 : BitVec 32 := Scalar.extui v528
  let v530 : BitVec 32 := Scalar.subi v527 v529
  let c8_i32_272 : BitVec 32 := 8#32
  let c0_i32_275 : BitVec 32 := 0#32
  let v531 : BitVec 1 := Scalar.cmpi .sgt c8_i32_272 c0_i32_275
  let v532 : BitVec 32 := Scalar.extui v531
  let c0_i32_276 : BitVec 32 := 0#32
  let v533 : BitVec 1 := Scalar.cmpi .slt c8_i32_272 c0_i32_276
  let v534 : BitVec 32 := Scalar.extui v533
  let v535 : BitVec 32 := Scalar.subi v532 v534
  let v536 : BitVec 1 := Scalar.cmpi .ne v530 v535
  let v537 : BitVec 32 := Scalar.remsi v524 c8_i32_272
  let c0_i32_277 : BitVec 32 := 0#32
  let v538 : BitVec 1 := Scalar.cmpi .ne v537 c0_i32_277
  let v539 : BitVec 1 := Scalar.andi v536 v538
  let v525 : BitVec 32 := Scalar.divsi v524 c8_i32_272
  let c1_i32_278 : BitVec 32 := 1#32
  let v540 : BitVec 32 := Scalar.subi v525 c1_i32_278
  let v541 : BitVec 32 := Scalar.select v539 v540 v525
  let c8_i32_299 : BitVec 32 := 8#32
  let v579 : BitVec 32 := Scalar.muli v541 c8_i32_299
  let v580 : BitVec 32 := Scalar.addi c0_i32_300 v579
  let c0_i32_280 : BitVec 32 := 0#32
  let v543 : BitVec 1 := Scalar.cmpi .sgt v524 c0_i32_280
  let v544 : BitVec 32 := Scalar.extui v543
  let c0_i32_281 : BitVec 32 := 0#32
  let v545 : BitVec 1 := Scalar.cmpi .slt v524 c0_i32_281
  let v546 : BitVec 32 := Scalar.extui v545
  let v547 : BitVec 32 := Scalar.subi v544 v546
  let c4_i32_279 : BitVec 32 := 4#32
  let c0_i32_282 : BitVec 32 := 0#32
  let v548 : BitVec 1 := Scalar.cmpi .sgt c4_i32_279 c0_i32_282
  let v549 : BitVec 32 := Scalar.extui v548
  let c0_i32_283 : BitVec 32 := 0#32
  let v550 : BitVec 1 := Scalar.cmpi .slt c4_i32_279 c0_i32_283
  let v551 : BitVec 32 := Scalar.extui v550
  let v552 : BitVec 32 := Scalar.subi v549 v551
  let v553 : BitVec 1 := Scalar.cmpi .ne v547 v552
  let v554 : BitVec 32 := Scalar.remsi v524 c4_i32_279
  let c0_i32_284 : BitVec 32 := 0#32
  let v555 : BitVec 1 := Scalar.cmpi .ne v554 c0_i32_284
  let v556 : BitVec 1 := Scalar.andi v553 v555
  let v542 : BitVec 32 := Scalar.divsi v524 c4_i32_279
  let c1_i32_285 : BitVec 32 := 1#32
  let v557 : BitVec 32 := Scalar.subi v542 c1_i32_285
  let v558 : BitVec 32 := Scalar.select v556 v557 v542
  let c2_i32_286 : BitVec 32 := 2#32
  let c0_i32_287 : BitVec 32 := 0#32
  let v559 : BitVec 1 := Scalar.cmpi .eq c2_i32_286 c0_i32_287
  let c1_i32_288 : BitVec 32 := 1#32
  let v560 : BitVec 32 := Scalar.select v559 c1_i32_288 c2_i32_286
  let v561 : BitVec 32 := Scalar.remsi v558 v560
  let c0_i32_290 : BitVec 32 := 0#32
  let v563 : BitVec 1 := Scalar.cmpi .slt v561 c0_i32_290
  let c0_i32_291 : BitVec 32 := 0#32
  let v564 : BitVec 1 := Scalar.cmpi .slt v560 c0_i32_291
  let v565 : BitVec 1 := Scalar.xori v563 v564
  let c0_i32_289 : BitVec 32 := 0#32
  let v562 : BitVec 1 := Scalar.cmpi .ne v561 c0_i32_289
  let v566 : BitVec 1 := Scalar.andi v565 v562
  let v567 : BitVec 32 := Scalar.addi v561 v560
  let v568 : BitVec 32 := Scalar.select v566 v567 v561
  let c4_i32_301 : BitVec 32 := 4#32
  let v581 : BitVec 32 := Scalar.muli v568 c4_i32_301
  let v582 : BitVec 32 := Scalar.addi v580 v581
  let c4_i32_292 : BitVec 32 := 4#32
  let c0_i32_293 : BitVec 32 := 0#32
  let v569 : BitVec 1 := Scalar.cmpi .eq c4_i32_292 c0_i32_293
  let c1_i32_294 : BitVec 32 := 1#32
  let v570 : BitVec 32 := Scalar.select v569 c1_i32_294 c4_i32_292
  let v571 : BitVec 32 := Scalar.remsi v524 v570
  let c0_i32_296 : BitVec 32 := 0#32
  let v573 : BitVec 1 := Scalar.cmpi .slt v571 c0_i32_296
  let c0_i32_297 : BitVec 32 := 0#32
  let v574 : BitVec 1 := Scalar.cmpi .slt v570 c0_i32_297
  let v575 : BitVec 1 := Scalar.xori v573 v574
  let c0_i32_295 : BitVec 32 := 0#32
  let v572 : BitVec 1 := Scalar.cmpi .ne v571 c0_i32_295
  let v576 : BitVec 1 := Scalar.andi v575 v572
  let v577 : BitVec 32 := Scalar.addi v571 v570
  let v578 : BitVec 32 := Scalar.select v576 v577 v571
  let c1_i32_302 : BitVec 32 := 1#32
  let v583 : BitVec 32 := Scalar.muli v578 c1_i32_302
  let v584 : BitVec 32 := Scalar.addi v582 v583
  v584.toNat
def k0_dev9 (d0 : Dev nD) : Nat :=
  let c0_i32_337 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c9_i32 : BitVec 32 := 9#32
  let v585 : BitVec 32 := Scalar.addi v15 c9_i32
  let c16_i32_303 : BitVec 32 := 16#32
  let c0_i32_304 : BitVec 32 := 0#32
  let v586 : BitVec 1 := Scalar.cmpi .eq c16_i32_303 c0_i32_304
  let c1_i32_305 : BitVec 32 := 1#32
  let v587 : BitVec 32 := Scalar.select v586 c1_i32_305 c16_i32_303
  let v588 : BitVec 32 := Scalar.remsi v585 v587
  let c0_i32_307 : BitVec 32 := 0#32
  let v590 : BitVec 1 := Scalar.cmpi .slt v588 c0_i32_307
  let c0_i32_308 : BitVec 32 := 0#32
  let v591 : BitVec 1 := Scalar.cmpi .slt v587 c0_i32_308
  let v592 : BitVec 1 := Scalar.xori v590 v591
  let c0_i32_306 : BitVec 32 := 0#32
  let v589 : BitVec 1 := Scalar.cmpi .ne v588 c0_i32_306
  let v593 : BitVec 1 := Scalar.andi v592 v589
  let v594 : BitVec 32 := Scalar.addi v588 v587
  let v595 : BitVec 32 := Scalar.select v593 v594 v588
  let c0_i32_310 : BitVec 32 := 0#32
  let v597 : BitVec 1 := Scalar.cmpi .sgt v595 c0_i32_310
  let v598 : BitVec 32 := Scalar.extui v597
  let c0_i32_311 : BitVec 32 := 0#32
  let v599 : BitVec 1 := Scalar.cmpi .slt v595 c0_i32_311
  let v600 : BitVec 32 := Scalar.extui v599
  let v601 : BitVec 32 := Scalar.subi v598 v600
  let c8_i32_309 : BitVec 32 := 8#32
  let c0_i32_312 : BitVec 32 := 0#32
  let v602 : BitVec 1 := Scalar.cmpi .sgt c8_i32_309 c0_i32_312
  let v603 : BitVec 32 := Scalar.extui v602
  let c0_i32_313 : BitVec 32 := 0#32
  let v604 : BitVec 1 := Scalar.cmpi .slt c8_i32_309 c0_i32_313
  let v605 : BitVec 32 := Scalar.extui v604
  let v606 : BitVec 32 := Scalar.subi v603 v605
  let v607 : BitVec 1 := Scalar.cmpi .ne v601 v606
  let v608 : BitVec 32 := Scalar.remsi v595 c8_i32_309
  let c0_i32_314 : BitVec 32 := 0#32
  let v609 : BitVec 1 := Scalar.cmpi .ne v608 c0_i32_314
  let v610 : BitVec 1 := Scalar.andi v607 v609
  let v596 : BitVec 32 := Scalar.divsi v595 c8_i32_309
  let c1_i32_315 : BitVec 32 := 1#32
  let v611 : BitVec 32 := Scalar.subi v596 c1_i32_315
  let v612 : BitVec 32 := Scalar.select v610 v611 v596
  let c8_i32_336 : BitVec 32 := 8#32
  let v650 : BitVec 32 := Scalar.muli v612 c8_i32_336
  let v651 : BitVec 32 := Scalar.addi c0_i32_337 v650
  let c0_i32_317 : BitVec 32 := 0#32
  let v614 : BitVec 1 := Scalar.cmpi .sgt v595 c0_i32_317
  let v615 : BitVec 32 := Scalar.extui v614
  let c0_i32_318 : BitVec 32 := 0#32
  let v616 : BitVec 1 := Scalar.cmpi .slt v595 c0_i32_318
  let v617 : BitVec 32 := Scalar.extui v616
  let v618 : BitVec 32 := Scalar.subi v615 v617
  let c4_i32_316 : BitVec 32 := 4#32
  let c0_i32_319 : BitVec 32 := 0#32
  let v619 : BitVec 1 := Scalar.cmpi .sgt c4_i32_316 c0_i32_319
  let v620 : BitVec 32 := Scalar.extui v619
  let c0_i32_320 : BitVec 32 := 0#32
  let v621 : BitVec 1 := Scalar.cmpi .slt c4_i32_316 c0_i32_320
  let v622 : BitVec 32 := Scalar.extui v621
  let v623 : BitVec 32 := Scalar.subi v620 v622
  let v624 : BitVec 1 := Scalar.cmpi .ne v618 v623
  let v625 : BitVec 32 := Scalar.remsi v595 c4_i32_316
  let c0_i32_321 : BitVec 32 := 0#32
  let v626 : BitVec 1 := Scalar.cmpi .ne v625 c0_i32_321
  let v627 : BitVec 1 := Scalar.andi v624 v626
  let v613 : BitVec 32 := Scalar.divsi v595 c4_i32_316
  let c1_i32_322 : BitVec 32 := 1#32
  let v628 : BitVec 32 := Scalar.subi v613 c1_i32_322
  let v629 : BitVec 32 := Scalar.select v627 v628 v613
  let c2_i32_323 : BitVec 32 := 2#32
  let c0_i32_324 : BitVec 32 := 0#32
  let v630 : BitVec 1 := Scalar.cmpi .eq c2_i32_323 c0_i32_324
  let c1_i32_325 : BitVec 32 := 1#32
  let v631 : BitVec 32 := Scalar.select v630 c1_i32_325 c2_i32_323
  let v632 : BitVec 32 := Scalar.remsi v629 v631
  let c0_i32_327 : BitVec 32 := 0#32
  let v634 : BitVec 1 := Scalar.cmpi .slt v632 c0_i32_327
  let c0_i32_328 : BitVec 32 := 0#32
  let v635 : BitVec 1 := Scalar.cmpi .slt v631 c0_i32_328
  let v636 : BitVec 1 := Scalar.xori v634 v635
  let c0_i32_326 : BitVec 32 := 0#32
  let v633 : BitVec 1 := Scalar.cmpi .ne v632 c0_i32_326
  let v637 : BitVec 1 := Scalar.andi v636 v633
  let v638 : BitVec 32 := Scalar.addi v632 v631
  let v639 : BitVec 32 := Scalar.select v637 v638 v632
  let c4_i32_338 : BitVec 32 := 4#32
  let v652 : BitVec 32 := Scalar.muli v639 c4_i32_338
  let v653 : BitVec 32 := Scalar.addi v651 v652
  let c4_i32_329 : BitVec 32 := 4#32
  let c0_i32_330 : BitVec 32 := 0#32
  let v640 : BitVec 1 := Scalar.cmpi .eq c4_i32_329 c0_i32_330
  let c1_i32_331 : BitVec 32 := 1#32
  let v641 : BitVec 32 := Scalar.select v640 c1_i32_331 c4_i32_329
  let v642 : BitVec 32 := Scalar.remsi v595 v641
  let c0_i32_333 : BitVec 32 := 0#32
  let v644 : BitVec 1 := Scalar.cmpi .slt v642 c0_i32_333
  let c0_i32_334 : BitVec 32 := 0#32
  let v645 : BitVec 1 := Scalar.cmpi .slt v641 c0_i32_334
  let v646 : BitVec 1 := Scalar.xori v644 v645
  let c0_i32_332 : BitVec 32 := 0#32
  let v643 : BitVec 1 := Scalar.cmpi .ne v642 c0_i32_332
  let v647 : BitVec 1 := Scalar.andi v646 v643
  let v648 : BitVec 32 := Scalar.addi v642 v641
  let v649 : BitVec 32 := Scalar.select v647 v648 v642
  let c1_i32_339 : BitVec 32 := 1#32
  let v654 : BitVec 32 := Scalar.muli v649 c1_i32_339
  let v655 : BitVec 32 := Scalar.addi v653 v654
  v655.toNat
def k0_dev10 (d0 : Dev nD) : Nat :=
  let c0_i32_374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c10_i32 : BitVec 32 := 10#32
  let v656 : BitVec 32 := Scalar.addi v15 c10_i32
  let c16_i32_340 : BitVec 32 := 16#32
  let c0_i32_341 : BitVec 32 := 0#32
  let v657 : BitVec 1 := Scalar.cmpi .eq c16_i32_340 c0_i32_341
  let c1_i32_342 : BitVec 32 := 1#32
  let v658 : BitVec 32 := Scalar.select v657 c1_i32_342 c16_i32_340
  let v659 : BitVec 32 := Scalar.remsi v656 v658
  let c0_i32_344 : BitVec 32 := 0#32
  let v661 : BitVec 1 := Scalar.cmpi .slt v659 c0_i32_344
  let c0_i32_345 : BitVec 32 := 0#32
  let v662 : BitVec 1 := Scalar.cmpi .slt v658 c0_i32_345
  let v663 : BitVec 1 := Scalar.xori v661 v662
  let c0_i32_343 : BitVec 32 := 0#32
  let v660 : BitVec 1 := Scalar.cmpi .ne v659 c0_i32_343
  let v664 : BitVec 1 := Scalar.andi v663 v660
  let v665 : BitVec 32 := Scalar.addi v659 v658
  let v666 : BitVec 32 := Scalar.select v664 v665 v659
  let c0_i32_347 : BitVec 32 := 0#32
  let v668 : BitVec 1 := Scalar.cmpi .sgt v666 c0_i32_347
  let v669 : BitVec 32 := Scalar.extui v668
  let c0_i32_348 : BitVec 32 := 0#32
  let v670 : BitVec 1 := Scalar.cmpi .slt v666 c0_i32_348
  let v671 : BitVec 32 := Scalar.extui v670
  let v672 : BitVec 32 := Scalar.subi v669 v671
  let c8_i32_346 : BitVec 32 := 8#32
  let c0_i32_349 : BitVec 32 := 0#32
  let v673 : BitVec 1 := Scalar.cmpi .sgt c8_i32_346 c0_i32_349
  let v674 : BitVec 32 := Scalar.extui v673
  let c0_i32_350 : BitVec 32 := 0#32
  let v675 : BitVec 1 := Scalar.cmpi .slt c8_i32_346 c0_i32_350
  let v676 : BitVec 32 := Scalar.extui v675
  let v677 : BitVec 32 := Scalar.subi v674 v676
  let v678 : BitVec 1 := Scalar.cmpi .ne v672 v677
  let v679 : BitVec 32 := Scalar.remsi v666 c8_i32_346
  let c0_i32_351 : BitVec 32 := 0#32
  let v680 : BitVec 1 := Scalar.cmpi .ne v679 c0_i32_351
  let v681 : BitVec 1 := Scalar.andi v678 v680
  let v667 : BitVec 32 := Scalar.divsi v666 c8_i32_346
  let c1_i32_352 : BitVec 32 := 1#32
  let v682 : BitVec 32 := Scalar.subi v667 c1_i32_352
  let v683 : BitVec 32 := Scalar.select v681 v682 v667
  let c8_i32_373 : BitVec 32 := 8#32
  let v721 : BitVec 32 := Scalar.muli v683 c8_i32_373
  let v722 : BitVec 32 := Scalar.addi c0_i32_374 v721
  let c0_i32_354 : BitVec 32 := 0#32
  let v685 : BitVec 1 := Scalar.cmpi .sgt v666 c0_i32_354
  let v686 : BitVec 32 := Scalar.extui v685
  let c0_i32_355 : BitVec 32 := 0#32
  let v687 : BitVec 1 := Scalar.cmpi .slt v666 c0_i32_355
  let v688 : BitVec 32 := Scalar.extui v687
  let v689 : BitVec 32 := Scalar.subi v686 v688
  let c4_i32_353 : BitVec 32 := 4#32
  let c0_i32_356 : BitVec 32 := 0#32
  let v690 : BitVec 1 := Scalar.cmpi .sgt c4_i32_353 c0_i32_356
  let v691 : BitVec 32 := Scalar.extui v690
  let c0_i32_357 : BitVec 32 := 0#32
  let v692 : BitVec 1 := Scalar.cmpi .slt c4_i32_353 c0_i32_357
  let v693 : BitVec 32 := Scalar.extui v692
  let v694 : BitVec 32 := Scalar.subi v691 v693
  let v695 : BitVec 1 := Scalar.cmpi .ne v689 v694
  let v696 : BitVec 32 := Scalar.remsi v666 c4_i32_353
  let c0_i32_358 : BitVec 32 := 0#32
  let v697 : BitVec 1 := Scalar.cmpi .ne v696 c0_i32_358
  let v698 : BitVec 1 := Scalar.andi v695 v697
  let v684 : BitVec 32 := Scalar.divsi v666 c4_i32_353
  let c1_i32_359 : BitVec 32 := 1#32
  let v699 : BitVec 32 := Scalar.subi v684 c1_i32_359
  let v700 : BitVec 32 := Scalar.select v698 v699 v684
  let c2_i32_360 : BitVec 32 := 2#32
  let c0_i32_361 : BitVec 32 := 0#32
  let v701 : BitVec 1 := Scalar.cmpi .eq c2_i32_360 c0_i32_361
  let c1_i32_362 : BitVec 32 := 1#32
  let v702 : BitVec 32 := Scalar.select v701 c1_i32_362 c2_i32_360
  let v703 : BitVec 32 := Scalar.remsi v700 v702
  let c0_i32_364 : BitVec 32 := 0#32
  let v705 : BitVec 1 := Scalar.cmpi .slt v703 c0_i32_364
  let c0_i32_365 : BitVec 32 := 0#32
  let v706 : BitVec 1 := Scalar.cmpi .slt v702 c0_i32_365
  let v707 : BitVec 1 := Scalar.xori v705 v706
  let c0_i32_363 : BitVec 32 := 0#32
  let v704 : BitVec 1 := Scalar.cmpi .ne v703 c0_i32_363
  let v708 : BitVec 1 := Scalar.andi v707 v704
  let v709 : BitVec 32 := Scalar.addi v703 v702
  let v710 : BitVec 32 := Scalar.select v708 v709 v703
  let c4_i32_375 : BitVec 32 := 4#32
  let v723 : BitVec 32 := Scalar.muli v710 c4_i32_375
  let v724 : BitVec 32 := Scalar.addi v722 v723
  let c4_i32_366 : BitVec 32 := 4#32
  let c0_i32_367 : BitVec 32 := 0#32
  let v711 : BitVec 1 := Scalar.cmpi .eq c4_i32_366 c0_i32_367
  let c1_i32_368 : BitVec 32 := 1#32
  let v712 : BitVec 32 := Scalar.select v711 c1_i32_368 c4_i32_366
  let v713 : BitVec 32 := Scalar.remsi v666 v712
  let c0_i32_370 : BitVec 32 := 0#32
  let v715 : BitVec 1 := Scalar.cmpi .slt v713 c0_i32_370
  let c0_i32_371 : BitVec 32 := 0#32
  let v716 : BitVec 1 := Scalar.cmpi .slt v712 c0_i32_371
  let v717 : BitVec 1 := Scalar.xori v715 v716
  let c0_i32_369 : BitVec 32 := 0#32
  let v714 : BitVec 1 := Scalar.cmpi .ne v713 c0_i32_369
  let v718 : BitVec 1 := Scalar.andi v717 v714
  let v719 : BitVec 32 := Scalar.addi v713 v712
  let v720 : BitVec 32 := Scalar.select v718 v719 v713
  let c1_i32_376 : BitVec 32 := 1#32
  let v725 : BitVec 32 := Scalar.muli v720 c1_i32_376
  let v726 : BitVec 32 := Scalar.addi v724 v725
  v726.toNat
def k0_dev11 (d0 : Dev nD) : Nat :=
  let c0_i32_411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c11_i32 : BitVec 32 := 11#32
  let v727 : BitVec 32 := Scalar.addi v15 c11_i32
  let c16_i32_377 : BitVec 32 := 16#32
  let c0_i32_378 : BitVec 32 := 0#32
  let v728 : BitVec 1 := Scalar.cmpi .eq c16_i32_377 c0_i32_378
  let c1_i32_379 : BitVec 32 := 1#32
  let v729 : BitVec 32 := Scalar.select v728 c1_i32_379 c16_i32_377
  let v730 : BitVec 32 := Scalar.remsi v727 v729
  let c0_i32_381 : BitVec 32 := 0#32
  let v732 : BitVec 1 := Scalar.cmpi .slt v730 c0_i32_381
  let c0_i32_382 : BitVec 32 := 0#32
  let v733 : BitVec 1 := Scalar.cmpi .slt v729 c0_i32_382
  let v734 : BitVec 1 := Scalar.xori v732 v733
  let c0_i32_380 : BitVec 32 := 0#32
  let v731 : BitVec 1 := Scalar.cmpi .ne v730 c0_i32_380
  let v735 : BitVec 1 := Scalar.andi v734 v731
  let v736 : BitVec 32 := Scalar.addi v730 v729
  let v737 : BitVec 32 := Scalar.select v735 v736 v730
  let c0_i32_384 : BitVec 32 := 0#32
  let v739 : BitVec 1 := Scalar.cmpi .sgt v737 c0_i32_384
  let v740 : BitVec 32 := Scalar.extui v739
  let c0_i32_385 : BitVec 32 := 0#32
  let v741 : BitVec 1 := Scalar.cmpi .slt v737 c0_i32_385
  let v742 : BitVec 32 := Scalar.extui v741
  let v743 : BitVec 32 := Scalar.subi v740 v742
  let c8_i32_383 : BitVec 32 := 8#32
  let c0_i32_386 : BitVec 32 := 0#32
  let v744 : BitVec 1 := Scalar.cmpi .sgt c8_i32_383 c0_i32_386
  let v745 : BitVec 32 := Scalar.extui v744
  let c0_i32_387 : BitVec 32 := 0#32
  let v746 : BitVec 1 := Scalar.cmpi .slt c8_i32_383 c0_i32_387
  let v747 : BitVec 32 := Scalar.extui v746
  let v748 : BitVec 32 := Scalar.subi v745 v747
  let v749 : BitVec 1 := Scalar.cmpi .ne v743 v748
  let v750 : BitVec 32 := Scalar.remsi v737 c8_i32_383
  let c0_i32_388 : BitVec 32 := 0#32
  let v751 : BitVec 1 := Scalar.cmpi .ne v750 c0_i32_388
  let v752 : BitVec 1 := Scalar.andi v749 v751
  let v738 : BitVec 32 := Scalar.divsi v737 c8_i32_383
  let c1_i32_389 : BitVec 32 := 1#32
  let v753 : BitVec 32 := Scalar.subi v738 c1_i32_389
  let v754 : BitVec 32 := Scalar.select v752 v753 v738
  let c8_i32_410 : BitVec 32 := 8#32
  let v792 : BitVec 32 := Scalar.muli v754 c8_i32_410
  let v793 : BitVec 32 := Scalar.addi c0_i32_411 v792
  let c0_i32_391 : BitVec 32 := 0#32
  let v756 : BitVec 1 := Scalar.cmpi .sgt v737 c0_i32_391
  let v757 : BitVec 32 := Scalar.extui v756
  let c0_i32_392 : BitVec 32 := 0#32
  let v758 : BitVec 1 := Scalar.cmpi .slt v737 c0_i32_392
  let v759 : BitVec 32 := Scalar.extui v758
  let v760 : BitVec 32 := Scalar.subi v757 v759
  let c4_i32_390 : BitVec 32 := 4#32
  let c0_i32_393 : BitVec 32 := 0#32
  let v761 : BitVec 1 := Scalar.cmpi .sgt c4_i32_390 c0_i32_393
  let v762 : BitVec 32 := Scalar.extui v761
  let c0_i32_394 : BitVec 32 := 0#32
  let v763 : BitVec 1 := Scalar.cmpi .slt c4_i32_390 c0_i32_394
  let v764 : BitVec 32 := Scalar.extui v763
  let v765 : BitVec 32 := Scalar.subi v762 v764
  let v766 : BitVec 1 := Scalar.cmpi .ne v760 v765
  let v767 : BitVec 32 := Scalar.remsi v737 c4_i32_390
  let c0_i32_395 : BitVec 32 := 0#32
  let v768 : BitVec 1 := Scalar.cmpi .ne v767 c0_i32_395
  let v769 : BitVec 1 := Scalar.andi v766 v768
  let v755 : BitVec 32 := Scalar.divsi v737 c4_i32_390
  let c1_i32_396 : BitVec 32 := 1#32
  let v770 : BitVec 32 := Scalar.subi v755 c1_i32_396
  let v771 : BitVec 32 := Scalar.select v769 v770 v755
  let c2_i32_397 : BitVec 32 := 2#32
  let c0_i32_398 : BitVec 32 := 0#32
  let v772 : BitVec 1 := Scalar.cmpi .eq c2_i32_397 c0_i32_398
  let c1_i32_399 : BitVec 32 := 1#32
  let v773 : BitVec 32 := Scalar.select v772 c1_i32_399 c2_i32_397
  let v774 : BitVec 32 := Scalar.remsi v771 v773
  let c0_i32_401 : BitVec 32 := 0#32
  let v776 : BitVec 1 := Scalar.cmpi .slt v774 c0_i32_401
  let c0_i32_402 : BitVec 32 := 0#32
  let v777 : BitVec 1 := Scalar.cmpi .slt v773 c0_i32_402
  let v778 : BitVec 1 := Scalar.xori v776 v777
  let c0_i32_400 : BitVec 32 := 0#32
  let v775 : BitVec 1 := Scalar.cmpi .ne v774 c0_i32_400
  let v779 : BitVec 1 := Scalar.andi v778 v775
  let v780 : BitVec 32 := Scalar.addi v774 v773
  let v781 : BitVec 32 := Scalar.select v779 v780 v774
  let c4_i32_412 : BitVec 32 := 4#32
  let v794 : BitVec 32 := Scalar.muli v781 c4_i32_412
  let v795 : BitVec 32 := Scalar.addi v793 v794
  let c4_i32_403 : BitVec 32 := 4#32
  let c0_i32_404 : BitVec 32 := 0#32
  let v782 : BitVec 1 := Scalar.cmpi .eq c4_i32_403 c0_i32_404
  let c1_i32_405 : BitVec 32 := 1#32
  let v783 : BitVec 32 := Scalar.select v782 c1_i32_405 c4_i32_403
  let v784 : BitVec 32 := Scalar.remsi v737 v783
  let c0_i32_407 : BitVec 32 := 0#32
  let v786 : BitVec 1 := Scalar.cmpi .slt v784 c0_i32_407
  let c0_i32_408 : BitVec 32 := 0#32
  let v787 : BitVec 1 := Scalar.cmpi .slt v783 c0_i32_408
  let v788 : BitVec 1 := Scalar.xori v786 v787
  let c0_i32_406 : BitVec 32 := 0#32
  let v785 : BitVec 1 := Scalar.cmpi .ne v784 c0_i32_406
  let v789 : BitVec 1 := Scalar.andi v788 v785
  let v790 : BitVec 32 := Scalar.addi v784 v783
  let v791 : BitVec 32 := Scalar.select v789 v790 v784
  let c1_i32_413 : BitVec 32 := 1#32
  let v796 : BitVec 32 := Scalar.muli v791 c1_i32_413
  let v797 : BitVec 32 := Scalar.addi v795 v796
  v797.toNat
def k0_dev12 (d0 : Dev nD) : Nat :=
  let c0_i32_448 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c12_i32 : BitVec 32 := 12#32
  let v798 : BitVec 32 := Scalar.addi v15 c12_i32
  let c16_i32_414 : BitVec 32 := 16#32
  let c0_i32_415 : BitVec 32 := 0#32
  let v799 : BitVec 1 := Scalar.cmpi .eq c16_i32_414 c0_i32_415
  let c1_i32_416 : BitVec 32 := 1#32
  let v800 : BitVec 32 := Scalar.select v799 c1_i32_416 c16_i32_414
  let v801 : BitVec 32 := Scalar.remsi v798 v800
  let c0_i32_418 : BitVec 32 := 0#32
  let v803 : BitVec 1 := Scalar.cmpi .slt v801 c0_i32_418
  let c0_i32_419 : BitVec 32 := 0#32
  let v804 : BitVec 1 := Scalar.cmpi .slt v800 c0_i32_419
  let v805 : BitVec 1 := Scalar.xori v803 v804
  let c0_i32_417 : BitVec 32 := 0#32
  let v802 : BitVec 1 := Scalar.cmpi .ne v801 c0_i32_417
  let v806 : BitVec 1 := Scalar.andi v805 v802
  let v807 : BitVec 32 := Scalar.addi v801 v800
  let v808 : BitVec 32 := Scalar.select v806 v807 v801
  let c0_i32_421 : BitVec 32 := 0#32
  let v810 : BitVec 1 := Scalar.cmpi .sgt v808 c0_i32_421
  let v811 : BitVec 32 := Scalar.extui v810
  let c0_i32_422 : BitVec 32 := 0#32
  let v812 : BitVec 1 := Scalar.cmpi .slt v808 c0_i32_422
  let v813 : BitVec 32 := Scalar.extui v812
  let v814 : BitVec 32 := Scalar.subi v811 v813
  let c8_i32_420 : BitVec 32 := 8#32
  let c0_i32_423 : BitVec 32 := 0#32
  let v815 : BitVec 1 := Scalar.cmpi .sgt c8_i32_420 c0_i32_423
  let v816 : BitVec 32 := Scalar.extui v815
  let c0_i32_424 : BitVec 32 := 0#32
  let v817 : BitVec 1 := Scalar.cmpi .slt c8_i32_420 c0_i32_424
  let v818 : BitVec 32 := Scalar.extui v817
  let v819 : BitVec 32 := Scalar.subi v816 v818
  let v820 : BitVec 1 := Scalar.cmpi .ne v814 v819
  let v821 : BitVec 32 := Scalar.remsi v808 c8_i32_420
  let c0_i32_425 : BitVec 32 := 0#32
  let v822 : BitVec 1 := Scalar.cmpi .ne v821 c0_i32_425
  let v823 : BitVec 1 := Scalar.andi v820 v822
  let v809 : BitVec 32 := Scalar.divsi v808 c8_i32_420
  let c1_i32_426 : BitVec 32 := 1#32
  let v824 : BitVec 32 := Scalar.subi v809 c1_i32_426
  let v825 : BitVec 32 := Scalar.select v823 v824 v809
  let c8_i32_447 : BitVec 32 := 8#32
  let v863 : BitVec 32 := Scalar.muli v825 c8_i32_447
  let v864 : BitVec 32 := Scalar.addi c0_i32_448 v863
  let c0_i32_428 : BitVec 32 := 0#32
  let v827 : BitVec 1 := Scalar.cmpi .sgt v808 c0_i32_428
  let v828 : BitVec 32 := Scalar.extui v827
  let c0_i32_429 : BitVec 32 := 0#32
  let v829 : BitVec 1 := Scalar.cmpi .slt v808 c0_i32_429
  let v830 : BitVec 32 := Scalar.extui v829
  let v831 : BitVec 32 := Scalar.subi v828 v830
  let c4_i32_427 : BitVec 32 := 4#32
  let c0_i32_430 : BitVec 32 := 0#32
  let v832 : BitVec 1 := Scalar.cmpi .sgt c4_i32_427 c0_i32_430
  let v833 : BitVec 32 := Scalar.extui v832
  let c0_i32_431 : BitVec 32 := 0#32
  let v834 : BitVec 1 := Scalar.cmpi .slt c4_i32_427 c0_i32_431
  let v835 : BitVec 32 := Scalar.extui v834
  let v836 : BitVec 32 := Scalar.subi v833 v835
  let v837 : BitVec 1 := Scalar.cmpi .ne v831 v836
  let v838 : BitVec 32 := Scalar.remsi v808 c4_i32_427
  let c0_i32_432 : BitVec 32 := 0#32
  let v839 : BitVec 1 := Scalar.cmpi .ne v838 c0_i32_432
  let v840 : BitVec 1 := Scalar.andi v837 v839
  let v826 : BitVec 32 := Scalar.divsi v808 c4_i32_427
  let c1_i32_433 : BitVec 32 := 1#32
  let v841 : BitVec 32 := Scalar.subi v826 c1_i32_433
  let v842 : BitVec 32 := Scalar.select v840 v841 v826
  let c2_i32_434 : BitVec 32 := 2#32
  let c0_i32_435 : BitVec 32 := 0#32
  let v843 : BitVec 1 := Scalar.cmpi .eq c2_i32_434 c0_i32_435
  let c1_i32_436 : BitVec 32 := 1#32
  let v844 : BitVec 32 := Scalar.select v843 c1_i32_436 c2_i32_434
  let v845 : BitVec 32 := Scalar.remsi v842 v844
  let c0_i32_438 : BitVec 32 := 0#32
  let v847 : BitVec 1 := Scalar.cmpi .slt v845 c0_i32_438
  let c0_i32_439 : BitVec 32 := 0#32
  let v848 : BitVec 1 := Scalar.cmpi .slt v844 c0_i32_439
  let v849 : BitVec 1 := Scalar.xori v847 v848
  let c0_i32_437 : BitVec 32 := 0#32
  let v846 : BitVec 1 := Scalar.cmpi .ne v845 c0_i32_437
  let v850 : BitVec 1 := Scalar.andi v849 v846
  let v851 : BitVec 32 := Scalar.addi v845 v844
  let v852 : BitVec 32 := Scalar.select v850 v851 v845
  let c4_i32_449 : BitVec 32 := 4#32
  let v865 : BitVec 32 := Scalar.muli v852 c4_i32_449
  let v866 : BitVec 32 := Scalar.addi v864 v865
  let c4_i32_440 : BitVec 32 := 4#32
  let c0_i32_441 : BitVec 32 := 0#32
  let v853 : BitVec 1 := Scalar.cmpi .eq c4_i32_440 c0_i32_441
  let c1_i32_442 : BitVec 32 := 1#32
  let v854 : BitVec 32 := Scalar.select v853 c1_i32_442 c4_i32_440
  let v855 : BitVec 32 := Scalar.remsi v808 v854
  let c0_i32_444 : BitVec 32 := 0#32
  let v857 : BitVec 1 := Scalar.cmpi .slt v855 c0_i32_444
  let c0_i32_445 : BitVec 32 := 0#32
  let v858 : BitVec 1 := Scalar.cmpi .slt v854 c0_i32_445
  let v859 : BitVec 1 := Scalar.xori v857 v858
  let c0_i32_443 : BitVec 32 := 0#32
  let v856 : BitVec 1 := Scalar.cmpi .ne v855 c0_i32_443
  let v860 : BitVec 1 := Scalar.andi v859 v856
  let v861 : BitVec 32 := Scalar.addi v855 v854
  let v862 : BitVec 32 := Scalar.select v860 v861 v855
  let c1_i32_450 : BitVec 32 := 1#32
  let v867 : BitVec 32 := Scalar.muli v862 c1_i32_450
  let v868 : BitVec 32 := Scalar.addi v866 v867
  v868.toNat
def k0_dev13 (d0 : Dev nD) : Nat :=
  let c0_i32_485 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c13_i32 : BitVec 32 := 13#32
  let v869 : BitVec 32 := Scalar.addi v15 c13_i32
  let c16_i32_451 : BitVec 32 := 16#32
  let c0_i32_452 : BitVec 32 := 0#32
  let v870 : BitVec 1 := Scalar.cmpi .eq c16_i32_451 c0_i32_452
  let c1_i32_453 : BitVec 32 := 1#32
  let v871 : BitVec 32 := Scalar.select v870 c1_i32_453 c16_i32_451
  let v872 : BitVec 32 := Scalar.remsi v869 v871
  let c0_i32_455 : BitVec 32 := 0#32
  let v874 : BitVec 1 := Scalar.cmpi .slt v872 c0_i32_455
  let c0_i32_456 : BitVec 32 := 0#32
  let v875 : BitVec 1 := Scalar.cmpi .slt v871 c0_i32_456
  let v876 : BitVec 1 := Scalar.xori v874 v875
  let c0_i32_454 : BitVec 32 := 0#32
  let v873 : BitVec 1 := Scalar.cmpi .ne v872 c0_i32_454
  let v877 : BitVec 1 := Scalar.andi v876 v873
  let v878 : BitVec 32 := Scalar.addi v872 v871
  let v879 : BitVec 32 := Scalar.select v877 v878 v872
  let c0_i32_458 : BitVec 32 := 0#32
  let v881 : BitVec 1 := Scalar.cmpi .sgt v879 c0_i32_458
  let v882 : BitVec 32 := Scalar.extui v881
  let c0_i32_459 : BitVec 32 := 0#32
  let v883 : BitVec 1 := Scalar.cmpi .slt v879 c0_i32_459
  let v884 : BitVec 32 := Scalar.extui v883
  let v885 : BitVec 32 := Scalar.subi v882 v884
  let c8_i32_457 : BitVec 32 := 8#32
  let c0_i32_460 : BitVec 32 := 0#32
  let v886 : BitVec 1 := Scalar.cmpi .sgt c8_i32_457 c0_i32_460
  let v887 : BitVec 32 := Scalar.extui v886
  let c0_i32_461 : BitVec 32 := 0#32
  let v888 : BitVec 1 := Scalar.cmpi .slt c8_i32_457 c0_i32_461
  let v889 : BitVec 32 := Scalar.extui v888
  let v890 : BitVec 32 := Scalar.subi v887 v889
  let v891 : BitVec 1 := Scalar.cmpi .ne v885 v890
  let v892 : BitVec 32 := Scalar.remsi v879 c8_i32_457
  let c0_i32_462 : BitVec 32 := 0#32
  let v893 : BitVec 1 := Scalar.cmpi .ne v892 c0_i32_462
  let v894 : BitVec 1 := Scalar.andi v891 v893
  let v880 : BitVec 32 := Scalar.divsi v879 c8_i32_457
  let c1_i32_463 : BitVec 32 := 1#32
  let v895 : BitVec 32 := Scalar.subi v880 c1_i32_463
  let v896 : BitVec 32 := Scalar.select v894 v895 v880
  let c8_i32_484 : BitVec 32 := 8#32
  let v934 : BitVec 32 := Scalar.muli v896 c8_i32_484
  let v935 : BitVec 32 := Scalar.addi c0_i32_485 v934
  let c0_i32_465 : BitVec 32 := 0#32
  let v898 : BitVec 1 := Scalar.cmpi .sgt v879 c0_i32_465
  let v899 : BitVec 32 := Scalar.extui v898
  let c0_i32_466 : BitVec 32 := 0#32
  let v900 : BitVec 1 := Scalar.cmpi .slt v879 c0_i32_466
  let v901 : BitVec 32 := Scalar.extui v900
  let v902 : BitVec 32 := Scalar.subi v899 v901
  let c4_i32_464 : BitVec 32 := 4#32
  let c0_i32_467 : BitVec 32 := 0#32
  let v903 : BitVec 1 := Scalar.cmpi .sgt c4_i32_464 c0_i32_467
  let v904 : BitVec 32 := Scalar.extui v903
  let c0_i32_468 : BitVec 32 := 0#32
  let v905 : BitVec 1 := Scalar.cmpi .slt c4_i32_464 c0_i32_468
  let v906 : BitVec 32 := Scalar.extui v905
  let v907 : BitVec 32 := Scalar.subi v904 v906
  let v908 : BitVec 1 := Scalar.cmpi .ne v902 v907
  let v909 : BitVec 32 := Scalar.remsi v879 c4_i32_464
  let c0_i32_469 : BitVec 32 := 0#32
  let v910 : BitVec 1 := Scalar.cmpi .ne v909 c0_i32_469
  let v911 : BitVec 1 := Scalar.andi v908 v910
  let v897 : BitVec 32 := Scalar.divsi v879 c4_i32_464
  let c1_i32_470 : BitVec 32 := 1#32
  let v912 : BitVec 32 := Scalar.subi v897 c1_i32_470
  let v913 : BitVec 32 := Scalar.select v911 v912 v897
  let c2_i32_471 : BitVec 32 := 2#32
  let c0_i32_472 : BitVec 32 := 0#32
  let v914 : BitVec 1 := Scalar.cmpi .eq c2_i32_471 c0_i32_472
  let c1_i32_473 : BitVec 32 := 1#32
  let v915 : BitVec 32 := Scalar.select v914 c1_i32_473 c2_i32_471
  let v916 : BitVec 32 := Scalar.remsi v913 v915
  let c0_i32_475 : BitVec 32 := 0#32
  let v918 : BitVec 1 := Scalar.cmpi .slt v916 c0_i32_475
  let c0_i32_476 : BitVec 32 := 0#32
  let v919 : BitVec 1 := Scalar.cmpi .slt v915 c0_i32_476
  let v920 : BitVec 1 := Scalar.xori v918 v919
  let c0_i32_474 : BitVec 32 := 0#32
  let v917 : BitVec 1 := Scalar.cmpi .ne v916 c0_i32_474
  let v921 : BitVec 1 := Scalar.andi v920 v917
  let v922 : BitVec 32 := Scalar.addi v916 v915
  let v923 : BitVec 32 := Scalar.select v921 v922 v916
  let c4_i32_486 : BitVec 32 := 4#32
  let v936 : BitVec 32 := Scalar.muli v923 c4_i32_486
  let v937 : BitVec 32 := Scalar.addi v935 v936
  let c4_i32_477 : BitVec 32 := 4#32
  let c0_i32_478 : BitVec 32 := 0#32
  let v924 : BitVec 1 := Scalar.cmpi .eq c4_i32_477 c0_i32_478
  let c1_i32_479 : BitVec 32 := 1#32
  let v925 : BitVec 32 := Scalar.select v924 c1_i32_479 c4_i32_477
  let v926 : BitVec 32 := Scalar.remsi v879 v925
  let c0_i32_481 : BitVec 32 := 0#32
  let v928 : BitVec 1 := Scalar.cmpi .slt v926 c0_i32_481
  let c0_i32_482 : BitVec 32 := 0#32
  let v929 : BitVec 1 := Scalar.cmpi .slt v925 c0_i32_482
  let v930 : BitVec 1 := Scalar.xori v928 v929
  let c0_i32_480 : BitVec 32 := 0#32
  let v927 : BitVec 1 := Scalar.cmpi .ne v926 c0_i32_480
  let v931 : BitVec 1 := Scalar.andi v930 v927
  let v932 : BitVec 32 := Scalar.addi v926 v925
  let v933 : BitVec 32 := Scalar.select v931 v932 v926
  let c1_i32_487 : BitVec 32 := 1#32
  let v938 : BitVec 32 := Scalar.muli v933 c1_i32_487
  let v939 : BitVec 32 := Scalar.addi v937 v938
  v939.toNat
def k0_dev14 (d0 : Dev nD) : Nat :=
  let c0_i32_522 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c14_i32 : BitVec 32 := 14#32
  let v940 : BitVec 32 := Scalar.addi v15 c14_i32
  let c16_i32_488 : BitVec 32 := 16#32
  let c0_i32_489 : BitVec 32 := 0#32
  let v941 : BitVec 1 := Scalar.cmpi .eq c16_i32_488 c0_i32_489
  let c1_i32_490 : BitVec 32 := 1#32
  let v942 : BitVec 32 := Scalar.select v941 c1_i32_490 c16_i32_488
  let v943 : BitVec 32 := Scalar.remsi v940 v942
  let c0_i32_492 : BitVec 32 := 0#32
  let v945 : BitVec 1 := Scalar.cmpi .slt v943 c0_i32_492
  let c0_i32_493 : BitVec 32 := 0#32
  let v946 : BitVec 1 := Scalar.cmpi .slt v942 c0_i32_493
  let v947 : BitVec 1 := Scalar.xori v945 v946
  let c0_i32_491 : BitVec 32 := 0#32
  let v944 : BitVec 1 := Scalar.cmpi .ne v943 c0_i32_491
  let v948 : BitVec 1 := Scalar.andi v947 v944
  let v949 : BitVec 32 := Scalar.addi v943 v942
  let v950 : BitVec 32 := Scalar.select v948 v949 v943
  let c0_i32_495 : BitVec 32 := 0#32
  let v952 : BitVec 1 := Scalar.cmpi .sgt v950 c0_i32_495
  let v953 : BitVec 32 := Scalar.extui v952
  let c0_i32_496 : BitVec 32 := 0#32
  let v954 : BitVec 1 := Scalar.cmpi .slt v950 c0_i32_496
  let v955 : BitVec 32 := Scalar.extui v954
  let v956 : BitVec 32 := Scalar.subi v953 v955
  let c8_i32_494 : BitVec 32 := 8#32
  let c0_i32_497 : BitVec 32 := 0#32
  let v957 : BitVec 1 := Scalar.cmpi .sgt c8_i32_494 c0_i32_497
  let v958 : BitVec 32 := Scalar.extui v957
  let c0_i32_498 : BitVec 32 := 0#32
  let v959 : BitVec 1 := Scalar.cmpi .slt c8_i32_494 c0_i32_498
  let v960 : BitVec 32 := Scalar.extui v959
  let v961 : BitVec 32 := Scalar.subi v958 v960
  let v962 : BitVec 1 := Scalar.cmpi .ne v956 v961
  let v963 : BitVec 32 := Scalar.remsi v950 c8_i32_494
  let c0_i32_499 : BitVec 32 := 0#32
  let v964 : BitVec 1 := Scalar.cmpi .ne v963 c0_i32_499
  let v965 : BitVec 1 := Scalar.andi v962 v964
  let v951 : BitVec 32 := Scalar.divsi v950 c8_i32_494
  let c1_i32_500 : BitVec 32 := 1#32
  let v966 : BitVec 32 := Scalar.subi v951 c1_i32_500
  let v967 : BitVec 32 := Scalar.select v965 v966 v951
  let c8_i32_521 : BitVec 32 := 8#32
  let v1005 : BitVec 32 := Scalar.muli v967 c8_i32_521
  let v1006 : BitVec 32 := Scalar.addi c0_i32_522 v1005
  let c0_i32_502 : BitVec 32 := 0#32
  let v969 : BitVec 1 := Scalar.cmpi .sgt v950 c0_i32_502
  let v970 : BitVec 32 := Scalar.extui v969
  let c0_i32_503 : BitVec 32 := 0#32
  let v971 : BitVec 1 := Scalar.cmpi .slt v950 c0_i32_503
  let v972 : BitVec 32 := Scalar.extui v971
  let v973 : BitVec 32 := Scalar.subi v970 v972
  let c4_i32_501 : BitVec 32 := 4#32
  let c0_i32_504 : BitVec 32 := 0#32
  let v974 : BitVec 1 := Scalar.cmpi .sgt c4_i32_501 c0_i32_504
  let v975 : BitVec 32 := Scalar.extui v974
  let c0_i32_505 : BitVec 32 := 0#32
  let v976 : BitVec 1 := Scalar.cmpi .slt c4_i32_501 c0_i32_505
  let v977 : BitVec 32 := Scalar.extui v976
  let v978 : BitVec 32 := Scalar.subi v975 v977
  let v979 : BitVec 1 := Scalar.cmpi .ne v973 v978
  let v980 : BitVec 32 := Scalar.remsi v950 c4_i32_501
  let c0_i32_506 : BitVec 32 := 0#32
  let v981 : BitVec 1 := Scalar.cmpi .ne v980 c0_i32_506
  let v982 : BitVec 1 := Scalar.andi v979 v981
  let v968 : BitVec 32 := Scalar.divsi v950 c4_i32_501
  let c1_i32_507 : BitVec 32 := 1#32
  let v983 : BitVec 32 := Scalar.subi v968 c1_i32_507
  let v984 : BitVec 32 := Scalar.select v982 v983 v968
  let c2_i32_508 : BitVec 32 := 2#32
  let c0_i32_509 : BitVec 32 := 0#32
  let v985 : BitVec 1 := Scalar.cmpi .eq c2_i32_508 c0_i32_509
  let c1_i32_510 : BitVec 32 := 1#32
  let v986 : BitVec 32 := Scalar.select v985 c1_i32_510 c2_i32_508
  let v987 : BitVec 32 := Scalar.remsi v984 v986
  let c0_i32_512 : BitVec 32 := 0#32
  let v989 : BitVec 1 := Scalar.cmpi .slt v987 c0_i32_512
  let c0_i32_513 : BitVec 32 := 0#32
  let v990 : BitVec 1 := Scalar.cmpi .slt v986 c0_i32_513
  let v991 : BitVec 1 := Scalar.xori v989 v990
  let c0_i32_511 : BitVec 32 := 0#32
  let v988 : BitVec 1 := Scalar.cmpi .ne v987 c0_i32_511
  let v992 : BitVec 1 := Scalar.andi v991 v988
  let v993 : BitVec 32 := Scalar.addi v987 v986
  let v994 : BitVec 32 := Scalar.select v992 v993 v987
  let c4_i32_523 : BitVec 32 := 4#32
  let v1007 : BitVec 32 := Scalar.muli v994 c4_i32_523
  let v1008 : BitVec 32 := Scalar.addi v1006 v1007
  let c4_i32_514 : BitVec 32 := 4#32
  let c0_i32_515 : BitVec 32 := 0#32
  let v995 : BitVec 1 := Scalar.cmpi .eq c4_i32_514 c0_i32_515
  let c1_i32_516 : BitVec 32 := 1#32
  let v996 : BitVec 32 := Scalar.select v995 c1_i32_516 c4_i32_514
  let v997 : BitVec 32 := Scalar.remsi v950 v996
  let c0_i32_518 : BitVec 32 := 0#32
  let v999 : BitVec 1 := Scalar.cmpi .slt v997 c0_i32_518
  let c0_i32_519 : BitVec 32 := 0#32
  let v1000 : BitVec 1 := Scalar.cmpi .slt v996 c0_i32_519
  let v1001 : BitVec 1 := Scalar.xori v999 v1000
  let c0_i32_517 : BitVec 32 := 0#32
  let v998 : BitVec 1 := Scalar.cmpi .ne v997 c0_i32_517
  let v1002 : BitVec 1 := Scalar.andi v1001 v998
  let v1003 : BitVec 32 := Scalar.addi v997 v996
  let v1004 : BitVec 32 := Scalar.select v1002 v1003 v997
  let c1_i32_524 : BitVec 32 := 1#32
  let v1009 : BitVec 32 := Scalar.muli v1004 c1_i32_524
  let v1010 : BitVec 32 := Scalar.addi v1008 v1009
  v1010.toNat
def k0_dev15 (d0 : Dev nD) : Nat :=
  let c0_i32_559 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c15_i32 : BitVec 32 := 15#32
  let v1011 : BitVec 32 := Scalar.addi v15 c15_i32
  let c16_i32_525 : BitVec 32 := 16#32
  let c0_i32_526 : BitVec 32 := 0#32
  let v1012 : BitVec 1 := Scalar.cmpi .eq c16_i32_525 c0_i32_526
  let c1_i32_527 : BitVec 32 := 1#32
  let v1013 : BitVec 32 := Scalar.select v1012 c1_i32_527 c16_i32_525
  let v1014 : BitVec 32 := Scalar.remsi v1011 v1013
  let c0_i32_529 : BitVec 32 := 0#32
  let v1016 : BitVec 1 := Scalar.cmpi .slt v1014 c0_i32_529
  let c0_i32_530 : BitVec 32 := 0#32
  let v1017 : BitVec 1 := Scalar.cmpi .slt v1013 c0_i32_530
  let v1018 : BitVec 1 := Scalar.xori v1016 v1017
  let c0_i32_528 : BitVec 32 := 0#32
  let v1015 : BitVec 1 := Scalar.cmpi .ne v1014 c0_i32_528
  let v1019 : BitVec 1 := Scalar.andi v1018 v1015
  let v1020 : BitVec 32 := Scalar.addi v1014 v1013
  let v1021 : BitVec 32 := Scalar.select v1019 v1020 v1014
  let c0_i32_532 : BitVec 32 := 0#32
  let v1023 : BitVec 1 := Scalar.cmpi .sgt v1021 c0_i32_532
  let v1024 : BitVec 32 := Scalar.extui v1023
  let c0_i32_533 : BitVec 32 := 0#32
  let v1025 : BitVec 1 := Scalar.cmpi .slt v1021 c0_i32_533
  let v1026 : BitVec 32 := Scalar.extui v1025
  let v1027 : BitVec 32 := Scalar.subi v1024 v1026
  let c8_i32_531 : BitVec 32 := 8#32
  let c0_i32_534 : BitVec 32 := 0#32
  let v1028 : BitVec 1 := Scalar.cmpi .sgt c8_i32_531 c0_i32_534
  let v1029 : BitVec 32 := Scalar.extui v1028
  let c0_i32_535 : BitVec 32 := 0#32
  let v1030 : BitVec 1 := Scalar.cmpi .slt c8_i32_531 c0_i32_535
  let v1031 : BitVec 32 := Scalar.extui v1030
  let v1032 : BitVec 32 := Scalar.subi v1029 v1031
  let v1033 : BitVec 1 := Scalar.cmpi .ne v1027 v1032
  let v1034 : BitVec 32 := Scalar.remsi v1021 c8_i32_531
  let c0_i32_536 : BitVec 32 := 0#32
  let v1035 : BitVec 1 := Scalar.cmpi .ne v1034 c0_i32_536
  let v1036 : BitVec 1 := Scalar.andi v1033 v1035
  let v1022 : BitVec 32 := Scalar.divsi v1021 c8_i32_531
  let c1_i32_537 : BitVec 32 := 1#32
  let v1037 : BitVec 32 := Scalar.subi v1022 c1_i32_537
  let v1038 : BitVec 32 := Scalar.select v1036 v1037 v1022
  let c8_i32_558 : BitVec 32 := 8#32
  let v1076 : BitVec 32 := Scalar.muli v1038 c8_i32_558
  let v1077 : BitVec 32 := Scalar.addi c0_i32_559 v1076
  let c0_i32_539 : BitVec 32 := 0#32
  let v1040 : BitVec 1 := Scalar.cmpi .sgt v1021 c0_i32_539
  let v1041 : BitVec 32 := Scalar.extui v1040
  let c0_i32_540 : BitVec 32 := 0#32
  let v1042 : BitVec 1 := Scalar.cmpi .slt v1021 c0_i32_540
  let v1043 : BitVec 32 := Scalar.extui v1042
  let v1044 : BitVec 32 := Scalar.subi v1041 v1043
  let c4_i32_538 : BitVec 32 := 4#32
  let c0_i32_541 : BitVec 32 := 0#32
  let v1045 : BitVec 1 := Scalar.cmpi .sgt c4_i32_538 c0_i32_541
  let v1046 : BitVec 32 := Scalar.extui v1045
  let c0_i32_542 : BitVec 32 := 0#32
  let v1047 : BitVec 1 := Scalar.cmpi .slt c4_i32_538 c0_i32_542
  let v1048 : BitVec 32 := Scalar.extui v1047
  let v1049 : BitVec 32 := Scalar.subi v1046 v1048
  let v1050 : BitVec 1 := Scalar.cmpi .ne v1044 v1049
  let v1051 : BitVec 32 := Scalar.remsi v1021 c4_i32_538
  let c0_i32_543 : BitVec 32 := 0#32
  let v1052 : BitVec 1 := Scalar.cmpi .ne v1051 c0_i32_543
  let v1053 : BitVec 1 := Scalar.andi v1050 v1052
  let v1039 : BitVec 32 := Scalar.divsi v1021 c4_i32_538
  let c1_i32_544 : BitVec 32 := 1#32
  let v1054 : BitVec 32 := Scalar.subi v1039 c1_i32_544
  let v1055 : BitVec 32 := Scalar.select v1053 v1054 v1039
  let c2_i32_545 : BitVec 32 := 2#32
  let c0_i32_546 : BitVec 32 := 0#32
  let v1056 : BitVec 1 := Scalar.cmpi .eq c2_i32_545 c0_i32_546
  let c1_i32_547 : BitVec 32 := 1#32
  let v1057 : BitVec 32 := Scalar.select v1056 c1_i32_547 c2_i32_545
  let v1058 : BitVec 32 := Scalar.remsi v1055 v1057
  let c0_i32_549 : BitVec 32 := 0#32
  let v1060 : BitVec 1 := Scalar.cmpi .slt v1058 c0_i32_549
  let c0_i32_550 : BitVec 32 := 0#32
  let v1061 : BitVec 1 := Scalar.cmpi .slt v1057 c0_i32_550
  let v1062 : BitVec 1 := Scalar.xori v1060 v1061
  let c0_i32_548 : BitVec 32 := 0#32
  let v1059 : BitVec 1 := Scalar.cmpi .ne v1058 c0_i32_548
  let v1063 : BitVec 1 := Scalar.andi v1062 v1059
  let v1064 : BitVec 32 := Scalar.addi v1058 v1057
  let v1065 : BitVec 32 := Scalar.select v1063 v1064 v1058
  let c4_i32_560 : BitVec 32 := 4#32
  let v1078 : BitVec 32 := Scalar.muli v1065 c4_i32_560
  let v1079 : BitVec 32 := Scalar.addi v1077 v1078
  let c4_i32_551 : BitVec 32 := 4#32
  let c0_i32_552 : BitVec 32 := 0#32
  let v1066 : BitVec 1 := Scalar.cmpi .eq c4_i32_551 c0_i32_552
  let c1_i32_553 : BitVec 32 := 1#32
  let v1067 : BitVec 32 := Scalar.select v1066 c1_i32_553 c4_i32_551
  let v1068 : BitVec 32 := Scalar.remsi v1021 v1067
  let c0_i32_555 : BitVec 32 := 0#32
  let v1070 : BitVec 1 := Scalar.cmpi .slt v1068 c0_i32_555
  let c0_i32_556 : BitVec 32 := 0#32
  let v1071 : BitVec 1 := Scalar.cmpi .slt v1067 c0_i32_556
  let v1072 : BitVec 1 := Scalar.xori v1070 v1071
  let c0_i32_554 : BitVec 32 := 0#32
  let v1069 : BitVec 1 := Scalar.cmpi .ne v1068 c0_i32_554
  let v1073 : BitVec 1 := Scalar.andi v1072 v1069
  let v1074 : BitVec 32 := Scalar.addi v1068 v1067
  let v1075 : BitVec 32 := Scalar.select v1073 v1074 v1068
  let c1_i32_561 : BitVec 32 := 1#32
  let v1080 : BitVec 32 := Scalar.muli v1075 c1_i32_561
  let v1081 : BitVec 32 := Scalar.addi v1079 v1080
  v1081.toNat
def k0_off1 (d0 : Dev nD) (c0_i32_562 : BitVec 32) : Fin 2 → Nat :=
  let c0_i32_566 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2048_i32 : BitVec 32 := 2048#32
  let v11 : BitVec 32 := Scalar.muli v10 c2048_i32
  let v1082 : BitVec 32 := Scalar.addi v11 c0_i32_562
  ![0, v1082.toNat]
def k0_dev16 (d0 : Dev nD) : Nat :=
  let c0_i32_678 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c1_i32_641 : BitVec 32 := 1#32
  let v1207 : BitVec 32 := Scalar.addi v15 c1_i32_641
  let c16_i32_642 : BitVec 32 := 16#32
  let c0_i32_643 : BitVec 32 := 0#32
  let v1208 : BitVec 1 := Scalar.cmpi .eq c16_i32_642 c0_i32_643
  let c1_i32_644 : BitVec 32 := 1#32
  let v1209 : BitVec 32 := Scalar.select v1208 c1_i32_644 c16_i32_642
  let v1210 : BitVec 32 := Scalar.remsi v1207 v1209
  let c0_i32_646 : BitVec 32 := 0#32
  let v1212 : BitVec 1 := Scalar.cmpi .slt v1210 c0_i32_646
  let c0_i32_647 : BitVec 32 := 0#32
  let v1213 : BitVec 1 := Scalar.cmpi .slt v1209 c0_i32_647
  let v1214 : BitVec 1 := Scalar.xori v1212 v1213
  let c0_i32_645 : BitVec 32 := 0#32
  let v1211 : BitVec 1 := Scalar.cmpi .ne v1210 c0_i32_645
  let v1215 : BitVec 1 := Scalar.andi v1214 v1211
  let v1216 : BitVec 32 := Scalar.addi v1210 v1209
  let v1217 : BitVec 32 := Scalar.select v1215 v1216 v1210
  let c0_i32_649 : BitVec 32 := 0#32
  let v1219 : BitVec 1 := Scalar.cmpi .sgt v1217 c0_i32_649
  let v1220 : BitVec 32 := Scalar.extui v1219
  let c0_i32_650 : BitVec 32 := 0#32
  let v1221 : BitVec 1 := Scalar.cmpi .slt v1217 c0_i32_650
  let v1222 : BitVec 32 := Scalar.extui v1221
  let v1223 : BitVec 32 := Scalar.subi v1220 v1222
  let c8_i32_648 : BitVec 32 := 8#32
  let c0_i32_651 : BitVec 32 := 0#32
  let v1224 : BitVec 1 := Scalar.cmpi .sgt c8_i32_648 c0_i32_651
  let v1225 : BitVec 32 := Scalar.extui v1224
  let c0_i32_652 : BitVec 32 := 0#32
  let v1226 : BitVec 1 := Scalar.cmpi .slt c8_i32_648 c0_i32_652
  let v1227 : BitVec 32 := Scalar.extui v1226
  let v1228 : BitVec 32 := Scalar.subi v1225 v1227
  let v1229 : BitVec 1 := Scalar.cmpi .ne v1223 v1228
  let v1230 : BitVec 32 := Scalar.remsi v1217 c8_i32_648
  let c0_i32_653 : BitVec 32 := 0#32
  let v1231 : BitVec 1 := Scalar.cmpi .ne v1230 c0_i32_653
  let v1232 : BitVec 1 := Scalar.andi v1229 v1231
  let v1218 : BitVec 32 := Scalar.divsi v1217 c8_i32_648
  let c1_i32_654 : BitVec 32 := 1#32
  let v1233 : BitVec 32 := Scalar.subi v1218 c1_i32_654
  let v1234 : BitVec 32 := Scalar.select v1232 v1233 v1218
  let c8_i32_677 : BitVec 32 := 8#32
  let v1272 : BitVec 32 := Scalar.muli v1234 c8_i32_677
  let v1273 : BitVec 32 := Scalar.addi c0_i32_678 v1272
  let c0_i32_656 : BitVec 32 := 0#32
  let v1236 : BitVec 1 := Scalar.cmpi .sgt v1217 c0_i32_656
  let v1237 : BitVec 32 := Scalar.extui v1236
  let c0_i32_657 : BitVec 32 := 0#32
  let v1238 : BitVec 1 := Scalar.cmpi .slt v1217 c0_i32_657
  let v1239 : BitVec 32 := Scalar.extui v1238
  let v1240 : BitVec 32 := Scalar.subi v1237 v1239
  let c4_i32_655 : BitVec 32 := 4#32
  let c0_i32_658 : BitVec 32 := 0#32
  let v1241 : BitVec 1 := Scalar.cmpi .sgt c4_i32_655 c0_i32_658
  let v1242 : BitVec 32 := Scalar.extui v1241
  let c0_i32_659 : BitVec 32 := 0#32
  let v1243 : BitVec 1 := Scalar.cmpi .slt c4_i32_655 c0_i32_659
  let v1244 : BitVec 32 := Scalar.extui v1243
  let v1245 : BitVec 32 := Scalar.subi v1242 v1244
  let v1246 : BitVec 1 := Scalar.cmpi .ne v1240 v1245
  let v1247 : BitVec 32 := Scalar.remsi v1217 c4_i32_655
  let c0_i32_660 : BitVec 32 := 0#32
  let v1248 : BitVec 1 := Scalar.cmpi .ne v1247 c0_i32_660
  let v1249 : BitVec 1 := Scalar.andi v1246 v1248
  let v1235 : BitVec 32 := Scalar.divsi v1217 c4_i32_655
  let c1_i32_661 : BitVec 32 := 1#32
  let v1250 : BitVec 32 := Scalar.subi v1235 c1_i32_661
  let v1251 : BitVec 32 := Scalar.select v1249 v1250 v1235
  let c2_i32_662 : BitVec 32 := 2#32
  let c0_i32_663 : BitVec 32 := 0#32
  let v1252 : BitVec 1 := Scalar.cmpi .eq c2_i32_662 c0_i32_663
  let c1_i32_664 : BitVec 32 := 1#32
  let v1253 : BitVec 32 := Scalar.select v1252 c1_i32_664 c2_i32_662
  let v1254 : BitVec 32 := Scalar.remsi v1251 v1253
  let c0_i32_666 : BitVec 32 := 0#32
  let v1256 : BitVec 1 := Scalar.cmpi .slt v1254 c0_i32_666
  let c0_i32_667 : BitVec 32 := 0#32
  let v1257 : BitVec 1 := Scalar.cmpi .slt v1253 c0_i32_667
  let v1258 : BitVec 1 := Scalar.xori v1256 v1257
  let c0_i32_665 : BitVec 32 := 0#32
  let v1255 : BitVec 1 := Scalar.cmpi .ne v1254 c0_i32_665
  let v1259 : BitVec 1 := Scalar.andi v1258 v1255
  let v1260 : BitVec 32 := Scalar.addi v1254 v1253
  let v1261 : BitVec 32 := Scalar.select v1259 v1260 v1254
  let c4_i32_679 : BitVec 32 := 4#32
  let v1274 : BitVec 32 := Scalar.muli v1261 c4_i32_679
  let v1275 : BitVec 32 := Scalar.addi v1273 v1274
  let c4_i32_668 : BitVec 32 := 4#32
  let c0_i32_669 : BitVec 32 := 0#32
  let v1262 : BitVec 1 := Scalar.cmpi .eq c4_i32_668 c0_i32_669
  let c1_i32_670 : BitVec 32 := 1#32
  let v1263 : BitVec 32 := Scalar.select v1262 c1_i32_670 c4_i32_668
  let v1264 : BitVec 32 := Scalar.remsi v1217 v1263
  let c0_i32_672 : BitVec 32 := 0#32
  let v1266 : BitVec 1 := Scalar.cmpi .slt v1264 c0_i32_672
  let c0_i32_673 : BitVec 32 := 0#32
  let v1267 : BitVec 1 := Scalar.cmpi .slt v1263 c0_i32_673
  let v1268 : BitVec 1 := Scalar.xori v1266 v1267
  let c0_i32_671 : BitVec 32 := 0#32
  let v1265 : BitVec 1 := Scalar.cmpi .ne v1264 c0_i32_671
  let v1269 : BitVec 1 := Scalar.andi v1268 v1265
  let v1270 : BitVec 32 := Scalar.addi v1264 v1263
  let v1271 : BitVec 32 := Scalar.select v1269 v1270 v1264
  let c1_i32_680 : BitVec 32 := 1#32
  let v1276 : BitVec 32 := Scalar.muli v1271 c1_i32_680
  let v1277 : BitVec 32 := Scalar.addi v1275 v1276
  v1277.toNat
def k0_dev17 (d0 : Dev nD) : Nat :=
  let c0_i32_720 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c2_i32_683 : BitVec 32 := 2#32
  let v1284 : BitVec 32 := Scalar.addi v15 c2_i32_683
  let c16_i32_684 : BitVec 32 := 16#32
  let c0_i32_685 : BitVec 32 := 0#32
  let v1285 : BitVec 1 := Scalar.cmpi .eq c16_i32_684 c0_i32_685
  let c1_i32_686 : BitVec 32 := 1#32
  let v1286 : BitVec 32 := Scalar.select v1285 c1_i32_686 c16_i32_684
  let v1287 : BitVec 32 := Scalar.remsi v1284 v1286
  let c0_i32_688 : BitVec 32 := 0#32
  let v1289 : BitVec 1 := Scalar.cmpi .slt v1287 c0_i32_688
  let c0_i32_689 : BitVec 32 := 0#32
  let v1290 : BitVec 1 := Scalar.cmpi .slt v1286 c0_i32_689
  let v1291 : BitVec 1 := Scalar.xori v1289 v1290
  let c0_i32_687 : BitVec 32 := 0#32
  let v1288 : BitVec 1 := Scalar.cmpi .ne v1287 c0_i32_687
  let v1292 : BitVec 1 := Scalar.andi v1291 v1288
  let v1293 : BitVec 32 := Scalar.addi v1287 v1286
  let v1294 : BitVec 32 := Scalar.select v1292 v1293 v1287
  let c0_i32_691 : BitVec 32 := 0#32
  let v1296 : BitVec 1 := Scalar.cmpi .sgt v1294 c0_i32_691
  let v1297 : BitVec 32 := Scalar.extui v1296
  let c0_i32_692 : BitVec 32 := 0#32
  let v1298 : BitVec 1 := Scalar.cmpi .slt v1294 c0_i32_692
  let v1299 : BitVec 32 := Scalar.extui v1298
  let v1300 : BitVec 32 := Scalar.subi v1297 v1299
  let c8_i32_690 : BitVec 32 := 8#32
  let c0_i32_693 : BitVec 32 := 0#32
  let v1301 : BitVec 1 := Scalar.cmpi .sgt c8_i32_690 c0_i32_693
  let v1302 : BitVec 32 := Scalar.extui v1301
  let c0_i32_694 : BitVec 32 := 0#32
  let v1303 : BitVec 1 := Scalar.cmpi .slt c8_i32_690 c0_i32_694
  let v1304 : BitVec 32 := Scalar.extui v1303
  let v1305 : BitVec 32 := Scalar.subi v1302 v1304
  let v1306 : BitVec 1 := Scalar.cmpi .ne v1300 v1305
  let v1307 : BitVec 32 := Scalar.remsi v1294 c8_i32_690
  let c0_i32_695 : BitVec 32 := 0#32
  let v1308 : BitVec 1 := Scalar.cmpi .ne v1307 c0_i32_695
  let v1309 : BitVec 1 := Scalar.andi v1306 v1308
  let v1295 : BitVec 32 := Scalar.divsi v1294 c8_i32_690
  let c1_i32_696 : BitVec 32 := 1#32
  let v1310 : BitVec 32 := Scalar.subi v1295 c1_i32_696
  let v1311 : BitVec 32 := Scalar.select v1309 v1310 v1295
  let c8_i32_719 : BitVec 32 := 8#32
  let v1349 : BitVec 32 := Scalar.muli v1311 c8_i32_719
  let v1350 : BitVec 32 := Scalar.addi c0_i32_720 v1349
  let c0_i32_698 : BitVec 32 := 0#32
  let v1313 : BitVec 1 := Scalar.cmpi .sgt v1294 c0_i32_698
  let v1314 : BitVec 32 := Scalar.extui v1313
  let c0_i32_699 : BitVec 32 := 0#32
  let v1315 : BitVec 1 := Scalar.cmpi .slt v1294 c0_i32_699
  let v1316 : BitVec 32 := Scalar.extui v1315
  let v1317 : BitVec 32 := Scalar.subi v1314 v1316
  let c4_i32_697 : BitVec 32 := 4#32
  let c0_i32_700 : BitVec 32 := 0#32
  let v1318 : BitVec 1 := Scalar.cmpi .sgt c4_i32_697 c0_i32_700
  let v1319 : BitVec 32 := Scalar.extui v1318
  let c0_i32_701 : BitVec 32 := 0#32
  let v1320 : BitVec 1 := Scalar.cmpi .slt c4_i32_697 c0_i32_701
  let v1321 : BitVec 32 := Scalar.extui v1320
  let v1322 : BitVec 32 := Scalar.subi v1319 v1321
  let v1323 : BitVec 1 := Scalar.cmpi .ne v1317 v1322
  let v1324 : BitVec 32 := Scalar.remsi v1294 c4_i32_697
  let c0_i32_702 : BitVec 32 := 0#32
  let v1325 : BitVec 1 := Scalar.cmpi .ne v1324 c0_i32_702
  let v1326 : BitVec 1 := Scalar.andi v1323 v1325
  let v1312 : BitVec 32 := Scalar.divsi v1294 c4_i32_697
  let c1_i32_703 : BitVec 32 := 1#32
  let v1327 : BitVec 32 := Scalar.subi v1312 c1_i32_703
  let v1328 : BitVec 32 := Scalar.select v1326 v1327 v1312
  let c2_i32_704 : BitVec 32 := 2#32
  let c0_i32_705 : BitVec 32 := 0#32
  let v1329 : BitVec 1 := Scalar.cmpi .eq c2_i32_704 c0_i32_705
  let c1_i32_706 : BitVec 32 := 1#32
  let v1330 : BitVec 32 := Scalar.select v1329 c1_i32_706 c2_i32_704
  let v1331 : BitVec 32 := Scalar.remsi v1328 v1330
  let c0_i32_708 : BitVec 32 := 0#32
  let v1333 : BitVec 1 := Scalar.cmpi .slt v1331 c0_i32_708
  let c0_i32_709 : BitVec 32 := 0#32
  let v1334 : BitVec 1 := Scalar.cmpi .slt v1330 c0_i32_709
  let v1335 : BitVec 1 := Scalar.xori v1333 v1334
  let c0_i32_707 : BitVec 32 := 0#32
  let v1332 : BitVec 1 := Scalar.cmpi .ne v1331 c0_i32_707
  let v1336 : BitVec 1 := Scalar.andi v1335 v1332
  let v1337 : BitVec 32 := Scalar.addi v1331 v1330
  let v1338 : BitVec 32 := Scalar.select v1336 v1337 v1331
  let c4_i32_721 : BitVec 32 := 4#32
  let v1351 : BitVec 32 := Scalar.muli v1338 c4_i32_721
  let v1352 : BitVec 32 := Scalar.addi v1350 v1351
  let c4_i32_710 : BitVec 32 := 4#32
  let c0_i32_711 : BitVec 32 := 0#32
  let v1339 : BitVec 1 := Scalar.cmpi .eq c4_i32_710 c0_i32_711
  let c1_i32_712 : BitVec 32 := 1#32
  let v1340 : BitVec 32 := Scalar.select v1339 c1_i32_712 c4_i32_710
  let v1341 : BitVec 32 := Scalar.remsi v1294 v1340
  let c0_i32_714 : BitVec 32 := 0#32
  let v1343 : BitVec 1 := Scalar.cmpi .slt v1341 c0_i32_714
  let c0_i32_715 : BitVec 32 := 0#32
  let v1344 : BitVec 1 := Scalar.cmpi .slt v1340 c0_i32_715
  let v1345 : BitVec 1 := Scalar.xori v1343 v1344
  let c0_i32_713 : BitVec 32 := 0#32
  let v1342 : BitVec 1 := Scalar.cmpi .ne v1341 c0_i32_713
  let v1346 : BitVec 1 := Scalar.andi v1345 v1342
  let v1347 : BitVec 32 := Scalar.addi v1341 v1340
  let v1348 : BitVec 32 := Scalar.select v1346 v1347 v1341
  let c1_i32_722 : BitVec 32 := 1#32
  let v1353 : BitVec 32 := Scalar.muli v1348 c1_i32_722
  let v1354 : BitVec 32 := Scalar.addi v1352 v1353
  v1354.toNat
def k0_dev18 (d0 : Dev nD) : Nat :=
  let c0_i32_762 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c3_i32_725 : BitVec 32 := 3#32
  let v1361 : BitVec 32 := Scalar.addi v15 c3_i32_725
  let c16_i32_726 : BitVec 32 := 16#32
  let c0_i32_727 : BitVec 32 := 0#32
  let v1362 : BitVec 1 := Scalar.cmpi .eq c16_i32_726 c0_i32_727
  let c1_i32_728 : BitVec 32 := 1#32
  let v1363 : BitVec 32 := Scalar.select v1362 c1_i32_728 c16_i32_726
  let v1364 : BitVec 32 := Scalar.remsi v1361 v1363
  let c0_i32_730 : BitVec 32 := 0#32
  let v1366 : BitVec 1 := Scalar.cmpi .slt v1364 c0_i32_730
  let c0_i32_731 : BitVec 32 := 0#32
  let v1367 : BitVec 1 := Scalar.cmpi .slt v1363 c0_i32_731
  let v1368 : BitVec 1 := Scalar.xori v1366 v1367
  let c0_i32_729 : BitVec 32 := 0#32
  let v1365 : BitVec 1 := Scalar.cmpi .ne v1364 c0_i32_729
  let v1369 : BitVec 1 := Scalar.andi v1368 v1365
  let v1370 : BitVec 32 := Scalar.addi v1364 v1363
  let v1371 : BitVec 32 := Scalar.select v1369 v1370 v1364
  let c0_i32_733 : BitVec 32 := 0#32
  let v1373 : BitVec 1 := Scalar.cmpi .sgt v1371 c0_i32_733
  let v1374 : BitVec 32 := Scalar.extui v1373
  let c0_i32_734 : BitVec 32 := 0#32
  let v1375 : BitVec 1 := Scalar.cmpi .slt v1371 c0_i32_734
  let v1376 : BitVec 32 := Scalar.extui v1375
  let v1377 : BitVec 32 := Scalar.subi v1374 v1376
  let c8_i32_732 : BitVec 32 := 8#32
  let c0_i32_735 : BitVec 32 := 0#32
  let v1378 : BitVec 1 := Scalar.cmpi .sgt c8_i32_732 c0_i32_735
  let v1379 : BitVec 32 := Scalar.extui v1378
  let c0_i32_736 : BitVec 32 := 0#32
  let v1380 : BitVec 1 := Scalar.cmpi .slt c8_i32_732 c0_i32_736
  let v1381 : BitVec 32 := Scalar.extui v1380
  let v1382 : BitVec 32 := Scalar.subi v1379 v1381
  let v1383 : BitVec 1 := Scalar.cmpi .ne v1377 v1382
  let v1384 : BitVec 32 := Scalar.remsi v1371 c8_i32_732
  let c0_i32_737 : BitVec 32 := 0#32
  let v1385 : BitVec 1 := Scalar.cmpi .ne v1384 c0_i32_737
  let v1386 : BitVec 1 := Scalar.andi v1383 v1385
  let v1372 : BitVec 32 := Scalar.divsi v1371 c8_i32_732
  let c1_i32_738 : BitVec 32 := 1#32
  let v1387 : BitVec 32 := Scalar.subi v1372 c1_i32_738
  let v1388 : BitVec 32 := Scalar.select v1386 v1387 v1372
  let c8_i32_761 : BitVec 32 := 8#32
  let v1426 : BitVec 32 := Scalar.muli v1388 c8_i32_761
  let v1427 : BitVec 32 := Scalar.addi c0_i32_762 v1426
  let c0_i32_740 : BitVec 32 := 0#32
  let v1390 : BitVec 1 := Scalar.cmpi .sgt v1371 c0_i32_740
  let v1391 : BitVec 32 := Scalar.extui v1390
  let c0_i32_741 : BitVec 32 := 0#32
  let v1392 : BitVec 1 := Scalar.cmpi .slt v1371 c0_i32_741
  let v1393 : BitVec 32 := Scalar.extui v1392
  let v1394 : BitVec 32 := Scalar.subi v1391 v1393
  let c4_i32_739 : BitVec 32 := 4#32
  let c0_i32_742 : BitVec 32 := 0#32
  let v1395 : BitVec 1 := Scalar.cmpi .sgt c4_i32_739 c0_i32_742
  let v1396 : BitVec 32 := Scalar.extui v1395
  let c0_i32_743 : BitVec 32 := 0#32
  let v1397 : BitVec 1 := Scalar.cmpi .slt c4_i32_739 c0_i32_743
  let v1398 : BitVec 32 := Scalar.extui v1397
  let v1399 : BitVec 32 := Scalar.subi v1396 v1398
  let v1400 : BitVec 1 := Scalar.cmpi .ne v1394 v1399
  let v1401 : BitVec 32 := Scalar.remsi v1371 c4_i32_739
  let c0_i32_744 : BitVec 32 := 0#32
  let v1402 : BitVec 1 := Scalar.cmpi .ne v1401 c0_i32_744
  let v1403 : BitVec 1 := Scalar.andi v1400 v1402
  let v1389 : BitVec 32 := Scalar.divsi v1371 c4_i32_739
  let c1_i32_745 : BitVec 32 := 1#32
  let v1404 : BitVec 32 := Scalar.subi v1389 c1_i32_745
  let v1405 : BitVec 32 := Scalar.select v1403 v1404 v1389
  let c2_i32_746 : BitVec 32 := 2#32
  let c0_i32_747 : BitVec 32 := 0#32
  let v1406 : BitVec 1 := Scalar.cmpi .eq c2_i32_746 c0_i32_747
  let c1_i32_748 : BitVec 32 := 1#32
  let v1407 : BitVec 32 := Scalar.select v1406 c1_i32_748 c2_i32_746
  let v1408 : BitVec 32 := Scalar.remsi v1405 v1407
  let c0_i32_750 : BitVec 32 := 0#32
  let v1410 : BitVec 1 := Scalar.cmpi .slt v1408 c0_i32_750
  let c0_i32_751 : BitVec 32 := 0#32
  let v1411 : BitVec 1 := Scalar.cmpi .slt v1407 c0_i32_751
  let v1412 : BitVec 1 := Scalar.xori v1410 v1411
  let c0_i32_749 : BitVec 32 := 0#32
  let v1409 : BitVec 1 := Scalar.cmpi .ne v1408 c0_i32_749
  let v1413 : BitVec 1 := Scalar.andi v1412 v1409
  let v1414 : BitVec 32 := Scalar.addi v1408 v1407
  let v1415 : BitVec 32 := Scalar.select v1413 v1414 v1408
  let c4_i32_763 : BitVec 32 := 4#32
  let v1428 : BitVec 32 := Scalar.muli v1415 c4_i32_763
  let v1429 : BitVec 32 := Scalar.addi v1427 v1428
  let c4_i32_752 : BitVec 32 := 4#32
  let c0_i32_753 : BitVec 32 := 0#32
  let v1416 : BitVec 1 := Scalar.cmpi .eq c4_i32_752 c0_i32_753
  let c1_i32_754 : BitVec 32 := 1#32
  let v1417 : BitVec 32 := Scalar.select v1416 c1_i32_754 c4_i32_752
  let v1418 : BitVec 32 := Scalar.remsi v1371 v1417
  let c0_i32_756 : BitVec 32 := 0#32
  let v1420 : BitVec 1 := Scalar.cmpi .slt v1418 c0_i32_756
  let c0_i32_757 : BitVec 32 := 0#32
  let v1421 : BitVec 1 := Scalar.cmpi .slt v1417 c0_i32_757
  let v1422 : BitVec 1 := Scalar.xori v1420 v1421
  let c0_i32_755 : BitVec 32 := 0#32
  let v1419 : BitVec 1 := Scalar.cmpi .ne v1418 c0_i32_755
  let v1423 : BitVec 1 := Scalar.andi v1422 v1419
  let v1424 : BitVec 32 := Scalar.addi v1418 v1417
  let v1425 : BitVec 32 := Scalar.select v1423 v1424 v1418
  let c1_i32_764 : BitVec 32 := 1#32
  let v1430 : BitVec 32 := Scalar.muli v1425 c1_i32_764
  let v1431 : BitVec 32 := Scalar.addi v1429 v1430
  v1431.toNat
def k0_dev19 (d0 : Dev nD) : Nat :=
  let c0_i32_804 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c4_i32_767 : BitVec 32 := 4#32
  let v1438 : BitVec 32 := Scalar.addi v15 c4_i32_767
  let c16_i32_768 : BitVec 32 := 16#32
  let c0_i32_769 : BitVec 32 := 0#32
  let v1439 : BitVec 1 := Scalar.cmpi .eq c16_i32_768 c0_i32_769
  let c1_i32_770 : BitVec 32 := 1#32
  let v1440 : BitVec 32 := Scalar.select v1439 c1_i32_770 c16_i32_768
  let v1441 : BitVec 32 := Scalar.remsi v1438 v1440
  let c0_i32_772 : BitVec 32 := 0#32
  let v1443 : BitVec 1 := Scalar.cmpi .slt v1441 c0_i32_772
  let c0_i32_773 : BitVec 32 := 0#32
  let v1444 : BitVec 1 := Scalar.cmpi .slt v1440 c0_i32_773
  let v1445 : BitVec 1 := Scalar.xori v1443 v1444
  let c0_i32_771 : BitVec 32 := 0#32
  let v1442 : BitVec 1 := Scalar.cmpi .ne v1441 c0_i32_771
  let v1446 : BitVec 1 := Scalar.andi v1445 v1442
  let v1447 : BitVec 32 := Scalar.addi v1441 v1440
  let v1448 : BitVec 32 := Scalar.select v1446 v1447 v1441
  let c0_i32_775 : BitVec 32 := 0#32
  let v1450 : BitVec 1 := Scalar.cmpi .sgt v1448 c0_i32_775
  let v1451 : BitVec 32 := Scalar.extui v1450
  let c0_i32_776 : BitVec 32 := 0#32
  let v1452 : BitVec 1 := Scalar.cmpi .slt v1448 c0_i32_776
  let v1453 : BitVec 32 := Scalar.extui v1452
  let v1454 : BitVec 32 := Scalar.subi v1451 v1453
  let c8_i32_774 : BitVec 32 := 8#32
  let c0_i32_777 : BitVec 32 := 0#32
  let v1455 : BitVec 1 := Scalar.cmpi .sgt c8_i32_774 c0_i32_777
  let v1456 : BitVec 32 := Scalar.extui v1455
  let c0_i32_778 : BitVec 32 := 0#32
  let v1457 : BitVec 1 := Scalar.cmpi .slt c8_i32_774 c0_i32_778
  let v1458 : BitVec 32 := Scalar.extui v1457
  let v1459 : BitVec 32 := Scalar.subi v1456 v1458
  let v1460 : BitVec 1 := Scalar.cmpi .ne v1454 v1459
  let v1461 : BitVec 32 := Scalar.remsi v1448 c8_i32_774
  let c0_i32_779 : BitVec 32 := 0#32
  let v1462 : BitVec 1 := Scalar.cmpi .ne v1461 c0_i32_779
  let v1463 : BitVec 1 := Scalar.andi v1460 v1462
  let v1449 : BitVec 32 := Scalar.divsi v1448 c8_i32_774
  let c1_i32_780 : BitVec 32 := 1#32
  let v1464 : BitVec 32 := Scalar.subi v1449 c1_i32_780
  let v1465 : BitVec 32 := Scalar.select v1463 v1464 v1449
  let c8_i32_803 : BitVec 32 := 8#32
  let v1503 : BitVec 32 := Scalar.muli v1465 c8_i32_803
  let v1504 : BitVec 32 := Scalar.addi c0_i32_804 v1503
  let c0_i32_782 : BitVec 32 := 0#32
  let v1467 : BitVec 1 := Scalar.cmpi .sgt v1448 c0_i32_782
  let v1468 : BitVec 32 := Scalar.extui v1467
  let c0_i32_783 : BitVec 32 := 0#32
  let v1469 : BitVec 1 := Scalar.cmpi .slt v1448 c0_i32_783
  let v1470 : BitVec 32 := Scalar.extui v1469
  let v1471 : BitVec 32 := Scalar.subi v1468 v1470
  let c4_i32_781 : BitVec 32 := 4#32
  let c0_i32_784 : BitVec 32 := 0#32
  let v1472 : BitVec 1 := Scalar.cmpi .sgt c4_i32_781 c0_i32_784
  let v1473 : BitVec 32 := Scalar.extui v1472
  let c0_i32_785 : BitVec 32 := 0#32
  let v1474 : BitVec 1 := Scalar.cmpi .slt c4_i32_781 c0_i32_785
  let v1475 : BitVec 32 := Scalar.extui v1474
  let v1476 : BitVec 32 := Scalar.subi v1473 v1475
  let v1477 : BitVec 1 := Scalar.cmpi .ne v1471 v1476
  let v1478 : BitVec 32 := Scalar.remsi v1448 c4_i32_781
  let c0_i32_786 : BitVec 32 := 0#32
  let v1479 : BitVec 1 := Scalar.cmpi .ne v1478 c0_i32_786
  let v1480 : BitVec 1 := Scalar.andi v1477 v1479
  let v1466 : BitVec 32 := Scalar.divsi v1448 c4_i32_781
  let c1_i32_787 : BitVec 32 := 1#32
  let v1481 : BitVec 32 := Scalar.subi v1466 c1_i32_787
  let v1482 : BitVec 32 := Scalar.select v1480 v1481 v1466
  let c2_i32_788 : BitVec 32 := 2#32
  let c0_i32_789 : BitVec 32 := 0#32
  let v1483 : BitVec 1 := Scalar.cmpi .eq c2_i32_788 c0_i32_789
  let c1_i32_790 : BitVec 32 := 1#32
  let v1484 : BitVec 32 := Scalar.select v1483 c1_i32_790 c2_i32_788
  let v1485 : BitVec 32 := Scalar.remsi v1482 v1484
  let c0_i32_792 : BitVec 32 := 0#32
  let v1487 : BitVec 1 := Scalar.cmpi .slt v1485 c0_i32_792
  let c0_i32_793 : BitVec 32 := 0#32
  let v1488 : BitVec 1 := Scalar.cmpi .slt v1484 c0_i32_793
  let v1489 : BitVec 1 := Scalar.xori v1487 v1488
  let c0_i32_791 : BitVec 32 := 0#32
  let v1486 : BitVec 1 := Scalar.cmpi .ne v1485 c0_i32_791
  let v1490 : BitVec 1 := Scalar.andi v1489 v1486
  let v1491 : BitVec 32 := Scalar.addi v1485 v1484
  let v1492 : BitVec 32 := Scalar.select v1490 v1491 v1485
  let c4_i32_805 : BitVec 32 := 4#32
  let v1505 : BitVec 32 := Scalar.muli v1492 c4_i32_805
  let v1506 : BitVec 32 := Scalar.addi v1504 v1505
  let c4_i32_794 : BitVec 32 := 4#32
  let c0_i32_795 : BitVec 32 := 0#32
  let v1493 : BitVec 1 := Scalar.cmpi .eq c4_i32_794 c0_i32_795
  let c1_i32_796 : BitVec 32 := 1#32
  let v1494 : BitVec 32 := Scalar.select v1493 c1_i32_796 c4_i32_794
  let v1495 : BitVec 32 := Scalar.remsi v1448 v1494
  let c0_i32_798 : BitVec 32 := 0#32
  let v1497 : BitVec 1 := Scalar.cmpi .slt v1495 c0_i32_798
  let c0_i32_799 : BitVec 32 := 0#32
  let v1498 : BitVec 1 := Scalar.cmpi .slt v1494 c0_i32_799
  let v1499 : BitVec 1 := Scalar.xori v1497 v1498
  let c0_i32_797 : BitVec 32 := 0#32
  let v1496 : BitVec 1 := Scalar.cmpi .ne v1495 c0_i32_797
  let v1500 : BitVec 1 := Scalar.andi v1499 v1496
  let v1501 : BitVec 32 := Scalar.addi v1495 v1494
  let v1502 : BitVec 32 := Scalar.select v1500 v1501 v1495
  let c1_i32_806 : BitVec 32 := 1#32
  let v1507 : BitVec 32 := Scalar.muli v1502 c1_i32_806
  let v1508 : BitVec 32 := Scalar.addi v1506 v1507
  v1508.toNat
def k0_dev20 (d0 : Dev nD) : Nat :=
  let c0_i32_846 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c5_i32_809 : BitVec 32 := 5#32
  let v1515 : BitVec 32 := Scalar.addi v15 c5_i32_809
  let c16_i32_810 : BitVec 32 := 16#32
  let c0_i32_811 : BitVec 32 := 0#32
  let v1516 : BitVec 1 := Scalar.cmpi .eq c16_i32_810 c0_i32_811
  let c1_i32_812 : BitVec 32 := 1#32
  let v1517 : BitVec 32 := Scalar.select v1516 c1_i32_812 c16_i32_810
  let v1518 : BitVec 32 := Scalar.remsi v1515 v1517
  let c0_i32_814 : BitVec 32 := 0#32
  let v1520 : BitVec 1 := Scalar.cmpi .slt v1518 c0_i32_814
  let c0_i32_815 : BitVec 32 := 0#32
  let v1521 : BitVec 1 := Scalar.cmpi .slt v1517 c0_i32_815
  let v1522 : BitVec 1 := Scalar.xori v1520 v1521
  let c0_i32_813 : BitVec 32 := 0#32
  let v1519 : BitVec 1 := Scalar.cmpi .ne v1518 c0_i32_813
  let v1523 : BitVec 1 := Scalar.andi v1522 v1519
  let v1524 : BitVec 32 := Scalar.addi v1518 v1517
  let v1525 : BitVec 32 := Scalar.select v1523 v1524 v1518
  let c0_i32_817 : BitVec 32 := 0#32
  let v1527 : BitVec 1 := Scalar.cmpi .sgt v1525 c0_i32_817
  let v1528 : BitVec 32 := Scalar.extui v1527
  let c0_i32_818 : BitVec 32 := 0#32
  let v1529 : BitVec 1 := Scalar.cmpi .slt v1525 c0_i32_818
  let v1530 : BitVec 32 := Scalar.extui v1529
  let v1531 : BitVec 32 := Scalar.subi v1528 v1530
  let c8_i32_816 : BitVec 32 := 8#32
  let c0_i32_819 : BitVec 32 := 0#32
  let v1532 : BitVec 1 := Scalar.cmpi .sgt c8_i32_816 c0_i32_819
  let v1533 : BitVec 32 := Scalar.extui v1532
  let c0_i32_820 : BitVec 32 := 0#32
  let v1534 : BitVec 1 := Scalar.cmpi .slt c8_i32_816 c0_i32_820
  let v1535 : BitVec 32 := Scalar.extui v1534
  let v1536 : BitVec 32 := Scalar.subi v1533 v1535
  let v1537 : BitVec 1 := Scalar.cmpi .ne v1531 v1536
  let v1538 : BitVec 32 := Scalar.remsi v1525 c8_i32_816
  let c0_i32_821 : BitVec 32 := 0#32
  let v1539 : BitVec 1 := Scalar.cmpi .ne v1538 c0_i32_821
  let v1540 : BitVec 1 := Scalar.andi v1537 v1539
  let v1526 : BitVec 32 := Scalar.divsi v1525 c8_i32_816
  let c1_i32_822 : BitVec 32 := 1#32
  let v1541 : BitVec 32 := Scalar.subi v1526 c1_i32_822
  let v1542 : BitVec 32 := Scalar.select v1540 v1541 v1526
  let c8_i32_845 : BitVec 32 := 8#32
  let v1580 : BitVec 32 := Scalar.muli v1542 c8_i32_845
  let v1581 : BitVec 32 := Scalar.addi c0_i32_846 v1580
  let c0_i32_824 : BitVec 32 := 0#32
  let v1544 : BitVec 1 := Scalar.cmpi .sgt v1525 c0_i32_824
  let v1545 : BitVec 32 := Scalar.extui v1544
  let c0_i32_825 : BitVec 32 := 0#32
  let v1546 : BitVec 1 := Scalar.cmpi .slt v1525 c0_i32_825
  let v1547 : BitVec 32 := Scalar.extui v1546
  let v1548 : BitVec 32 := Scalar.subi v1545 v1547
  let c4_i32_823 : BitVec 32 := 4#32
  let c0_i32_826 : BitVec 32 := 0#32
  let v1549 : BitVec 1 := Scalar.cmpi .sgt c4_i32_823 c0_i32_826
  let v1550 : BitVec 32 := Scalar.extui v1549
  let c0_i32_827 : BitVec 32 := 0#32
  let v1551 : BitVec 1 := Scalar.cmpi .slt c4_i32_823 c0_i32_827
  let v1552 : BitVec 32 := Scalar.extui v1551
  let v1553 : BitVec 32 := Scalar.subi v1550 v1552
  let v1554 : BitVec 1 := Scalar.cmpi .ne v1548 v1553
  let v1555 : BitVec 32 := Scalar.remsi v1525 c4_i32_823
  let c0_i32_828 : BitVec 32 := 0#32
  let v1556 : BitVec 1 := Scalar.cmpi .ne v1555 c0_i32_828
  let v1557 : BitVec 1 := Scalar.andi v1554 v1556
  let v1543 : BitVec 32 := Scalar.divsi v1525 c4_i32_823
  let c1_i32_829 : BitVec 32 := 1#32
  let v1558 : BitVec 32 := Scalar.subi v1543 c1_i32_829
  let v1559 : BitVec 32 := Scalar.select v1557 v1558 v1543
  let c2_i32_830 : BitVec 32 := 2#32
  let c0_i32_831 : BitVec 32 := 0#32
  let v1560 : BitVec 1 := Scalar.cmpi .eq c2_i32_830 c0_i32_831
  let c1_i32_832 : BitVec 32 := 1#32
  let v1561 : BitVec 32 := Scalar.select v1560 c1_i32_832 c2_i32_830
  let v1562 : BitVec 32 := Scalar.remsi v1559 v1561
  let c0_i32_834 : BitVec 32 := 0#32
  let v1564 : BitVec 1 := Scalar.cmpi .slt v1562 c0_i32_834
  let c0_i32_835 : BitVec 32 := 0#32
  let v1565 : BitVec 1 := Scalar.cmpi .slt v1561 c0_i32_835
  let v1566 : BitVec 1 := Scalar.xori v1564 v1565
  let c0_i32_833 : BitVec 32 := 0#32
  let v1563 : BitVec 1 := Scalar.cmpi .ne v1562 c0_i32_833
  let v1567 : BitVec 1 := Scalar.andi v1566 v1563
  let v1568 : BitVec 32 := Scalar.addi v1562 v1561
  let v1569 : BitVec 32 := Scalar.select v1567 v1568 v1562
  let c4_i32_847 : BitVec 32 := 4#32
  let v1582 : BitVec 32 := Scalar.muli v1569 c4_i32_847
  let v1583 : BitVec 32 := Scalar.addi v1581 v1582
  let c4_i32_836 : BitVec 32 := 4#32
  let c0_i32_837 : BitVec 32 := 0#32
  let v1570 : BitVec 1 := Scalar.cmpi .eq c4_i32_836 c0_i32_837
  let c1_i32_838 : BitVec 32 := 1#32
  let v1571 : BitVec 32 := Scalar.select v1570 c1_i32_838 c4_i32_836
  let v1572 : BitVec 32 := Scalar.remsi v1525 v1571
  let c0_i32_840 : BitVec 32 := 0#32
  let v1574 : BitVec 1 := Scalar.cmpi .slt v1572 c0_i32_840
  let c0_i32_841 : BitVec 32 := 0#32
  let v1575 : BitVec 1 := Scalar.cmpi .slt v1571 c0_i32_841
  let v1576 : BitVec 1 := Scalar.xori v1574 v1575
  let c0_i32_839 : BitVec 32 := 0#32
  let v1573 : BitVec 1 := Scalar.cmpi .ne v1572 c0_i32_839
  let v1577 : BitVec 1 := Scalar.andi v1576 v1573
  let v1578 : BitVec 32 := Scalar.addi v1572 v1571
  let v1579 : BitVec 32 := Scalar.select v1577 v1578 v1572
  let c1_i32_848 : BitVec 32 := 1#32
  let v1584 : BitVec 32 := Scalar.muli v1579 c1_i32_848
  let v1585 : BitVec 32 := Scalar.addi v1583 v1584
  v1585.toNat
def k0_dev21 (d0 : Dev nD) : Nat :=
  let c0_i32_888 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c6_i32_851 : BitVec 32 := 6#32
  let v1592 : BitVec 32 := Scalar.addi v15 c6_i32_851
  let c16_i32_852 : BitVec 32 := 16#32
  let c0_i32_853 : BitVec 32 := 0#32
  let v1593 : BitVec 1 := Scalar.cmpi .eq c16_i32_852 c0_i32_853
  let c1_i32_854 : BitVec 32 := 1#32
  let v1594 : BitVec 32 := Scalar.select v1593 c1_i32_854 c16_i32_852
  let v1595 : BitVec 32 := Scalar.remsi v1592 v1594
  let c0_i32_856 : BitVec 32 := 0#32
  let v1597 : BitVec 1 := Scalar.cmpi .slt v1595 c0_i32_856
  let c0_i32_857 : BitVec 32 := 0#32
  let v1598 : BitVec 1 := Scalar.cmpi .slt v1594 c0_i32_857
  let v1599 : BitVec 1 := Scalar.xori v1597 v1598
  let c0_i32_855 : BitVec 32 := 0#32
  let v1596 : BitVec 1 := Scalar.cmpi .ne v1595 c0_i32_855
  let v1600 : BitVec 1 := Scalar.andi v1599 v1596
  let v1601 : BitVec 32 := Scalar.addi v1595 v1594
  let v1602 : BitVec 32 := Scalar.select v1600 v1601 v1595
  let c0_i32_859 : BitVec 32 := 0#32
  let v1604 : BitVec 1 := Scalar.cmpi .sgt v1602 c0_i32_859
  let v1605 : BitVec 32 := Scalar.extui v1604
  let c0_i32_860 : BitVec 32 := 0#32
  let v1606 : BitVec 1 := Scalar.cmpi .slt v1602 c0_i32_860
  let v1607 : BitVec 32 := Scalar.extui v1606
  let v1608 : BitVec 32 := Scalar.subi v1605 v1607
  let c8_i32_858 : BitVec 32 := 8#32
  let c0_i32_861 : BitVec 32 := 0#32
  let v1609 : BitVec 1 := Scalar.cmpi .sgt c8_i32_858 c0_i32_861
  let v1610 : BitVec 32 := Scalar.extui v1609
  let c0_i32_862 : BitVec 32 := 0#32
  let v1611 : BitVec 1 := Scalar.cmpi .slt c8_i32_858 c0_i32_862
  let v1612 : BitVec 32 := Scalar.extui v1611
  let v1613 : BitVec 32 := Scalar.subi v1610 v1612
  let v1614 : BitVec 1 := Scalar.cmpi .ne v1608 v1613
  let v1615 : BitVec 32 := Scalar.remsi v1602 c8_i32_858
  let c0_i32_863 : BitVec 32 := 0#32
  let v1616 : BitVec 1 := Scalar.cmpi .ne v1615 c0_i32_863
  let v1617 : BitVec 1 := Scalar.andi v1614 v1616
  let v1603 : BitVec 32 := Scalar.divsi v1602 c8_i32_858
  let c1_i32_864 : BitVec 32 := 1#32
  let v1618 : BitVec 32 := Scalar.subi v1603 c1_i32_864
  let v1619 : BitVec 32 := Scalar.select v1617 v1618 v1603
  let c8_i32_887 : BitVec 32 := 8#32
  let v1657 : BitVec 32 := Scalar.muli v1619 c8_i32_887
  let v1658 : BitVec 32 := Scalar.addi c0_i32_888 v1657
  let c0_i32_866 : BitVec 32 := 0#32
  let v1621 : BitVec 1 := Scalar.cmpi .sgt v1602 c0_i32_866
  let v1622 : BitVec 32 := Scalar.extui v1621
  let c0_i32_867 : BitVec 32 := 0#32
  let v1623 : BitVec 1 := Scalar.cmpi .slt v1602 c0_i32_867
  let v1624 : BitVec 32 := Scalar.extui v1623
  let v1625 : BitVec 32 := Scalar.subi v1622 v1624
  let c4_i32_865 : BitVec 32 := 4#32
  let c0_i32_868 : BitVec 32 := 0#32
  let v1626 : BitVec 1 := Scalar.cmpi .sgt c4_i32_865 c0_i32_868
  let v1627 : BitVec 32 := Scalar.extui v1626
  let c0_i32_869 : BitVec 32 := 0#32
  let v1628 : BitVec 1 := Scalar.cmpi .slt c4_i32_865 c0_i32_869
  let v1629 : BitVec 32 := Scalar.extui v1628
  let v1630 : BitVec 32 := Scalar.subi v1627 v1629
  let v1631 : BitVec 1 := Scalar.cmpi .ne v1625 v1630
  let v1632 : BitVec 32 := Scalar.remsi v1602 c4_i32_865
  let c0_i32_870 : BitVec 32 := 0#32
  let v1633 : BitVec 1 := Scalar.cmpi .ne v1632 c0_i32_870
  let v1634 : BitVec 1 := Scalar.andi v1631 v1633
  let v1620 : BitVec 32 := Scalar.divsi v1602 c4_i32_865
  let c1_i32_871 : BitVec 32 := 1#32
  let v1635 : BitVec 32 := Scalar.subi v1620 c1_i32_871
  let v1636 : BitVec 32 := Scalar.select v1634 v1635 v1620
  let c2_i32_872 : BitVec 32 := 2#32
  let c0_i32_873 : BitVec 32 := 0#32
  let v1637 : BitVec 1 := Scalar.cmpi .eq c2_i32_872 c0_i32_873
  let c1_i32_874 : BitVec 32 := 1#32
  let v1638 : BitVec 32 := Scalar.select v1637 c1_i32_874 c2_i32_872
  let v1639 : BitVec 32 := Scalar.remsi v1636 v1638
  let c0_i32_876 : BitVec 32 := 0#32
  let v1641 : BitVec 1 := Scalar.cmpi .slt v1639 c0_i32_876
  let c0_i32_877 : BitVec 32 := 0#32
  let v1642 : BitVec 1 := Scalar.cmpi .slt v1638 c0_i32_877
  let v1643 : BitVec 1 := Scalar.xori v1641 v1642
  let c0_i32_875 : BitVec 32 := 0#32
  let v1640 : BitVec 1 := Scalar.cmpi .ne v1639 c0_i32_875
  let v1644 : BitVec 1 := Scalar.andi v1643 v1640
  let v1645 : BitVec 32 := Scalar.addi v1639 v1638
  let v1646 : BitVec 32 := Scalar.select v1644 v1645 v1639
  let c4_i32_889 : BitVec 32 := 4#32
  let v1659 : BitVec 32 := Scalar.muli v1646 c4_i32_889
  let v1660 : BitVec 32 := Scalar.addi v1658 v1659
  let c4_i32_878 : BitVec 32 := 4#32
  let c0_i32_879 : BitVec 32 := 0#32
  let v1647 : BitVec 1 := Scalar.cmpi .eq c4_i32_878 c0_i32_879
  let c1_i32_880 : BitVec 32 := 1#32
  let v1648 : BitVec 32 := Scalar.select v1647 c1_i32_880 c4_i32_878
  let v1649 : BitVec 32 := Scalar.remsi v1602 v1648
  let c0_i32_882 : BitVec 32 := 0#32
  let v1651 : BitVec 1 := Scalar.cmpi .slt v1649 c0_i32_882
  let c0_i32_883 : BitVec 32 := 0#32
  let v1652 : BitVec 1 := Scalar.cmpi .slt v1648 c0_i32_883
  let v1653 : BitVec 1 := Scalar.xori v1651 v1652
  let c0_i32_881 : BitVec 32 := 0#32
  let v1650 : BitVec 1 := Scalar.cmpi .ne v1649 c0_i32_881
  let v1654 : BitVec 1 := Scalar.andi v1653 v1650
  let v1655 : BitVec 32 := Scalar.addi v1649 v1648
  let v1656 : BitVec 32 := Scalar.select v1654 v1655 v1649
  let c1_i32_890 : BitVec 32 := 1#32
  let v1661 : BitVec 32 := Scalar.muli v1656 c1_i32_890
  let v1662 : BitVec 32 := Scalar.addi v1660 v1661
  v1662.toNat
def k0_dev22 (d0 : Dev nD) : Nat :=
  let c0_i32_930 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c7_i32_893 : BitVec 32 := 7#32
  let v1669 : BitVec 32 := Scalar.addi v15 c7_i32_893
  let c16_i32_894 : BitVec 32 := 16#32
  let c0_i32_895 : BitVec 32 := 0#32
  let v1670 : BitVec 1 := Scalar.cmpi .eq c16_i32_894 c0_i32_895
  let c1_i32_896 : BitVec 32 := 1#32
  let v1671 : BitVec 32 := Scalar.select v1670 c1_i32_896 c16_i32_894
  let v1672 : BitVec 32 := Scalar.remsi v1669 v1671
  let c0_i32_898 : BitVec 32 := 0#32
  let v1674 : BitVec 1 := Scalar.cmpi .slt v1672 c0_i32_898
  let c0_i32_899 : BitVec 32 := 0#32
  let v1675 : BitVec 1 := Scalar.cmpi .slt v1671 c0_i32_899
  let v1676 : BitVec 1 := Scalar.xori v1674 v1675
  let c0_i32_897 : BitVec 32 := 0#32
  let v1673 : BitVec 1 := Scalar.cmpi .ne v1672 c0_i32_897
  let v1677 : BitVec 1 := Scalar.andi v1676 v1673
  let v1678 : BitVec 32 := Scalar.addi v1672 v1671
  let v1679 : BitVec 32 := Scalar.select v1677 v1678 v1672
  let c0_i32_901 : BitVec 32 := 0#32
  let v1681 : BitVec 1 := Scalar.cmpi .sgt v1679 c0_i32_901
  let v1682 : BitVec 32 := Scalar.extui v1681
  let c0_i32_902 : BitVec 32 := 0#32
  let v1683 : BitVec 1 := Scalar.cmpi .slt v1679 c0_i32_902
  let v1684 : BitVec 32 := Scalar.extui v1683
  let v1685 : BitVec 32 := Scalar.subi v1682 v1684
  let c8_i32_900 : BitVec 32 := 8#32
  let c0_i32_903 : BitVec 32 := 0#32
  let v1686 : BitVec 1 := Scalar.cmpi .sgt c8_i32_900 c0_i32_903
  let v1687 : BitVec 32 := Scalar.extui v1686
  let c0_i32_904 : BitVec 32 := 0#32
  let v1688 : BitVec 1 := Scalar.cmpi .slt c8_i32_900 c0_i32_904
  let v1689 : BitVec 32 := Scalar.extui v1688
  let v1690 : BitVec 32 := Scalar.subi v1687 v1689
  let v1691 : BitVec 1 := Scalar.cmpi .ne v1685 v1690
  let v1692 : BitVec 32 := Scalar.remsi v1679 c8_i32_900
  let c0_i32_905 : BitVec 32 := 0#32
  let v1693 : BitVec 1 := Scalar.cmpi .ne v1692 c0_i32_905
  let v1694 : BitVec 1 := Scalar.andi v1691 v1693
  let v1680 : BitVec 32 := Scalar.divsi v1679 c8_i32_900
  let c1_i32_906 : BitVec 32 := 1#32
  let v1695 : BitVec 32 := Scalar.subi v1680 c1_i32_906
  let v1696 : BitVec 32 := Scalar.select v1694 v1695 v1680
  let c8_i32_929 : BitVec 32 := 8#32
  let v1734 : BitVec 32 := Scalar.muli v1696 c8_i32_929
  let v1735 : BitVec 32 := Scalar.addi c0_i32_930 v1734
  let c0_i32_908 : BitVec 32 := 0#32
  let v1698 : BitVec 1 := Scalar.cmpi .sgt v1679 c0_i32_908
  let v1699 : BitVec 32 := Scalar.extui v1698
  let c0_i32_909 : BitVec 32 := 0#32
  let v1700 : BitVec 1 := Scalar.cmpi .slt v1679 c0_i32_909
  let v1701 : BitVec 32 := Scalar.extui v1700
  let v1702 : BitVec 32 := Scalar.subi v1699 v1701
  let c4_i32_907 : BitVec 32 := 4#32
  let c0_i32_910 : BitVec 32 := 0#32
  let v1703 : BitVec 1 := Scalar.cmpi .sgt c4_i32_907 c0_i32_910
  let v1704 : BitVec 32 := Scalar.extui v1703
  let c0_i32_911 : BitVec 32 := 0#32
  let v1705 : BitVec 1 := Scalar.cmpi .slt c4_i32_907 c0_i32_911
  let v1706 : BitVec 32 := Scalar.extui v1705
  let v1707 : BitVec 32 := Scalar.subi v1704 v1706
  let v1708 : BitVec 1 := Scalar.cmpi .ne v1702 v1707
  let v1709 : BitVec 32 := Scalar.remsi v1679 c4_i32_907
  let c0_i32_912 : BitVec 32 := 0#32
  let v1710 : BitVec 1 := Scalar.cmpi .ne v1709 c0_i32_912
  let v1711 : BitVec 1 := Scalar.andi v1708 v1710
  let v1697 : BitVec 32 := Scalar.divsi v1679 c4_i32_907
  let c1_i32_913 : BitVec 32 := 1#32
  let v1712 : BitVec 32 := Scalar.subi v1697 c1_i32_913
  let v1713 : BitVec 32 := Scalar.select v1711 v1712 v1697
  let c2_i32_914 : BitVec 32 := 2#32
  let c0_i32_915 : BitVec 32 := 0#32
  let v1714 : BitVec 1 := Scalar.cmpi .eq c2_i32_914 c0_i32_915
  let c1_i32_916 : BitVec 32 := 1#32
  let v1715 : BitVec 32 := Scalar.select v1714 c1_i32_916 c2_i32_914
  let v1716 : BitVec 32 := Scalar.remsi v1713 v1715
  let c0_i32_918 : BitVec 32 := 0#32
  let v1718 : BitVec 1 := Scalar.cmpi .slt v1716 c0_i32_918
  let c0_i32_919 : BitVec 32 := 0#32
  let v1719 : BitVec 1 := Scalar.cmpi .slt v1715 c0_i32_919
  let v1720 : BitVec 1 := Scalar.xori v1718 v1719
  let c0_i32_917 : BitVec 32 := 0#32
  let v1717 : BitVec 1 := Scalar.cmpi .ne v1716 c0_i32_917
  let v1721 : BitVec 1 := Scalar.andi v1720 v1717
  let v1722 : BitVec 32 := Scalar.addi v1716 v1715
  let v1723 : BitVec 32 := Scalar.select v1721 v1722 v1716
  let c4_i32_931 : BitVec 32 := 4#32
  let v1736 : BitVec 32 := Scalar.muli v1723 c4_i32_931
  let v1737 : BitVec 32 := Scalar.addi v1735 v1736
  let c4_i32_920 : BitVec 32 := 4#32
  let c0_i32_921 : BitVec 32 := 0#32
  let v1724 : BitVec 1 := Scalar.cmpi .eq c4_i32_920 c0_i32_921
  let c1_i32_922 : BitVec 32 := 1#32
  let v1725 : BitVec 32 := Scalar.select v1724 c1_i32_922 c4_i32_920
  let v1726 : BitVec 32 := Scalar.remsi v1679 v1725
  let c0_i32_924 : BitVec 32 := 0#32
  let v1728 : BitVec 1 := Scalar.cmpi .slt v1726 c0_i32_924
  let c0_i32_925 : BitVec 32 := 0#32
  let v1729 : BitVec 1 := Scalar.cmpi .slt v1725 c0_i32_925
  let v1730 : BitVec 1 := Scalar.xori v1728 v1729
  let c0_i32_923 : BitVec 32 := 0#32
  let v1727 : BitVec 1 := Scalar.cmpi .ne v1726 c0_i32_923
  let v1731 : BitVec 1 := Scalar.andi v1730 v1727
  let v1732 : BitVec 32 := Scalar.addi v1726 v1725
  let v1733 : BitVec 32 := Scalar.select v1731 v1732 v1726
  let c1_i32_932 : BitVec 32 := 1#32
  let v1738 : BitVec 32 := Scalar.muli v1733 c1_i32_932
  let v1739 : BitVec 32 := Scalar.addi v1737 v1738
  v1739.toNat
def k0_dev23 (d0 : Dev nD) : Nat :=
  let c0_i32_972 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c8_i32_935 : BitVec 32 := 8#32
  let v1746 : BitVec 32 := Scalar.addi v15 c8_i32_935
  let c16_i32_936 : BitVec 32 := 16#32
  let c0_i32_937 : BitVec 32 := 0#32
  let v1747 : BitVec 1 := Scalar.cmpi .eq c16_i32_936 c0_i32_937
  let c1_i32_938 : BitVec 32 := 1#32
  let v1748 : BitVec 32 := Scalar.select v1747 c1_i32_938 c16_i32_936
  let v1749 : BitVec 32 := Scalar.remsi v1746 v1748
  let c0_i32_940 : BitVec 32 := 0#32
  let v1751 : BitVec 1 := Scalar.cmpi .slt v1749 c0_i32_940
  let c0_i32_941 : BitVec 32 := 0#32
  let v1752 : BitVec 1 := Scalar.cmpi .slt v1748 c0_i32_941
  let v1753 : BitVec 1 := Scalar.xori v1751 v1752
  let c0_i32_939 : BitVec 32 := 0#32
  let v1750 : BitVec 1 := Scalar.cmpi .ne v1749 c0_i32_939
  let v1754 : BitVec 1 := Scalar.andi v1753 v1750
  let v1755 : BitVec 32 := Scalar.addi v1749 v1748
  let v1756 : BitVec 32 := Scalar.select v1754 v1755 v1749
  let c0_i32_943 : BitVec 32 := 0#32
  let v1758 : BitVec 1 := Scalar.cmpi .sgt v1756 c0_i32_943
  let v1759 : BitVec 32 := Scalar.extui v1758
  let c0_i32_944 : BitVec 32 := 0#32
  let v1760 : BitVec 1 := Scalar.cmpi .slt v1756 c0_i32_944
  let v1761 : BitVec 32 := Scalar.extui v1760
  let v1762 : BitVec 32 := Scalar.subi v1759 v1761
  let c8_i32_942 : BitVec 32 := 8#32
  let c0_i32_945 : BitVec 32 := 0#32
  let v1763 : BitVec 1 := Scalar.cmpi .sgt c8_i32_942 c0_i32_945
  let v1764 : BitVec 32 := Scalar.extui v1763
  let c0_i32_946 : BitVec 32 := 0#32
  let v1765 : BitVec 1 := Scalar.cmpi .slt c8_i32_942 c0_i32_946
  let v1766 : BitVec 32 := Scalar.extui v1765
  let v1767 : BitVec 32 := Scalar.subi v1764 v1766
  let v1768 : BitVec 1 := Scalar.cmpi .ne v1762 v1767
  let v1769 : BitVec 32 := Scalar.remsi v1756 c8_i32_942
  let c0_i32_947 : BitVec 32 := 0#32
  let v1770 : BitVec 1 := Scalar.cmpi .ne v1769 c0_i32_947
  let v1771 : BitVec 1 := Scalar.andi v1768 v1770
  let v1757 : BitVec 32 := Scalar.divsi v1756 c8_i32_942
  let c1_i32_948 : BitVec 32 := 1#32
  let v1772 : BitVec 32 := Scalar.subi v1757 c1_i32_948
  let v1773 : BitVec 32 := Scalar.select v1771 v1772 v1757
  let c8_i32_971 : BitVec 32 := 8#32
  let v1811 : BitVec 32 := Scalar.muli v1773 c8_i32_971
  let v1812 : BitVec 32 := Scalar.addi c0_i32_972 v1811
  let c0_i32_950 : BitVec 32 := 0#32
  let v1775 : BitVec 1 := Scalar.cmpi .sgt v1756 c0_i32_950
  let v1776 : BitVec 32 := Scalar.extui v1775
  let c0_i32_951 : BitVec 32 := 0#32
  let v1777 : BitVec 1 := Scalar.cmpi .slt v1756 c0_i32_951
  let v1778 : BitVec 32 := Scalar.extui v1777
  let v1779 : BitVec 32 := Scalar.subi v1776 v1778
  let c4_i32_949 : BitVec 32 := 4#32
  let c0_i32_952 : BitVec 32 := 0#32
  let v1780 : BitVec 1 := Scalar.cmpi .sgt c4_i32_949 c0_i32_952
  let v1781 : BitVec 32 := Scalar.extui v1780
  let c0_i32_953 : BitVec 32 := 0#32
  let v1782 : BitVec 1 := Scalar.cmpi .slt c4_i32_949 c0_i32_953
  let v1783 : BitVec 32 := Scalar.extui v1782
  let v1784 : BitVec 32 := Scalar.subi v1781 v1783
  let v1785 : BitVec 1 := Scalar.cmpi .ne v1779 v1784
  let v1786 : BitVec 32 := Scalar.remsi v1756 c4_i32_949
  let c0_i32_954 : BitVec 32 := 0#32
  let v1787 : BitVec 1 := Scalar.cmpi .ne v1786 c0_i32_954
  let v1788 : BitVec 1 := Scalar.andi v1785 v1787
  let v1774 : BitVec 32 := Scalar.divsi v1756 c4_i32_949
  let c1_i32_955 : BitVec 32 := 1#32
  let v1789 : BitVec 32 := Scalar.subi v1774 c1_i32_955
  let v1790 : BitVec 32 := Scalar.select v1788 v1789 v1774
  let c2_i32_956 : BitVec 32 := 2#32
  let c0_i32_957 : BitVec 32 := 0#32
  let v1791 : BitVec 1 := Scalar.cmpi .eq c2_i32_956 c0_i32_957
  let c1_i32_958 : BitVec 32 := 1#32
  let v1792 : BitVec 32 := Scalar.select v1791 c1_i32_958 c2_i32_956
  let v1793 : BitVec 32 := Scalar.remsi v1790 v1792
  let c0_i32_960 : BitVec 32 := 0#32
  let v1795 : BitVec 1 := Scalar.cmpi .slt v1793 c0_i32_960
  let c0_i32_961 : BitVec 32 := 0#32
  let v1796 : BitVec 1 := Scalar.cmpi .slt v1792 c0_i32_961
  let v1797 : BitVec 1 := Scalar.xori v1795 v1796
  let c0_i32_959 : BitVec 32 := 0#32
  let v1794 : BitVec 1 := Scalar.cmpi .ne v1793 c0_i32_959
  let v1798 : BitVec 1 := Scalar.andi v1797 v1794
  let v1799 : BitVec 32 := Scalar.addi v1793 v1792
  let v1800 : BitVec 32 := Scalar.select v1798 v1799 v1793
  let c4_i32_973 : BitVec 32 := 4#32
  let v1813 : BitVec 32 := Scalar.muli v1800 c4_i32_973
  let v1814 : BitVec 32 := Scalar.addi v1812 v1813
  let c4_i32_962 : BitVec 32 := 4#32
  let c0_i32_963 : BitVec 32 := 0#32
  let v1801 : BitVec 1 := Scalar.cmpi .eq c4_i32_962 c0_i32_963
  let c1_i32_964 : BitVec 32 := 1#32
  let v1802 : BitVec 32 := Scalar.select v1801 c1_i32_964 c4_i32_962
  let v1803 : BitVec 32 := Scalar.remsi v1756 v1802
  let c0_i32_966 : BitVec 32 := 0#32
  let v1805 : BitVec 1 := Scalar.cmpi .slt v1803 c0_i32_966
  let c0_i32_967 : BitVec 32 := 0#32
  let v1806 : BitVec 1 := Scalar.cmpi .slt v1802 c0_i32_967
  let v1807 : BitVec 1 := Scalar.xori v1805 v1806
  let c0_i32_965 : BitVec 32 := 0#32
  let v1804 : BitVec 1 := Scalar.cmpi .ne v1803 c0_i32_965
  let v1808 : BitVec 1 := Scalar.andi v1807 v1804
  let v1809 : BitVec 32 := Scalar.addi v1803 v1802
  let v1810 : BitVec 32 := Scalar.select v1808 v1809 v1803
  let c1_i32_974 : BitVec 32 := 1#32
  let v1815 : BitVec 32 := Scalar.muli v1810 c1_i32_974
  let v1816 : BitVec 32 := Scalar.addi v1814 v1815
  v1816.toNat
def k0_dev24 (d0 : Dev nD) : Nat :=
  let c0_i32_1014 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c9_i32_977 : BitVec 32 := 9#32
  let v1823 : BitVec 32 := Scalar.addi v15 c9_i32_977
  let c16_i32_978 : BitVec 32 := 16#32
  let c0_i32_979 : BitVec 32 := 0#32
  let v1824 : BitVec 1 := Scalar.cmpi .eq c16_i32_978 c0_i32_979
  let c1_i32_980 : BitVec 32 := 1#32
  let v1825 : BitVec 32 := Scalar.select v1824 c1_i32_980 c16_i32_978
  let v1826 : BitVec 32 := Scalar.remsi v1823 v1825
  let c0_i32_982 : BitVec 32 := 0#32
  let v1828 : BitVec 1 := Scalar.cmpi .slt v1826 c0_i32_982
  let c0_i32_983 : BitVec 32 := 0#32
  let v1829 : BitVec 1 := Scalar.cmpi .slt v1825 c0_i32_983
  let v1830 : BitVec 1 := Scalar.xori v1828 v1829
  let c0_i32_981 : BitVec 32 := 0#32
  let v1827 : BitVec 1 := Scalar.cmpi .ne v1826 c0_i32_981
  let v1831 : BitVec 1 := Scalar.andi v1830 v1827
  let v1832 : BitVec 32 := Scalar.addi v1826 v1825
  let v1833 : BitVec 32 := Scalar.select v1831 v1832 v1826
  let c0_i32_985 : BitVec 32 := 0#32
  let v1835 : BitVec 1 := Scalar.cmpi .sgt v1833 c0_i32_985
  let v1836 : BitVec 32 := Scalar.extui v1835
  let c0_i32_986 : BitVec 32 := 0#32
  let v1837 : BitVec 1 := Scalar.cmpi .slt v1833 c0_i32_986
  let v1838 : BitVec 32 := Scalar.extui v1837
  let v1839 : BitVec 32 := Scalar.subi v1836 v1838
  let c8_i32_984 : BitVec 32 := 8#32
  let c0_i32_987 : BitVec 32 := 0#32
  let v1840 : BitVec 1 := Scalar.cmpi .sgt c8_i32_984 c0_i32_987
  let v1841 : BitVec 32 := Scalar.extui v1840
  let c0_i32_988 : BitVec 32 := 0#32
  let v1842 : BitVec 1 := Scalar.cmpi .slt c8_i32_984 c0_i32_988
  let v1843 : BitVec 32 := Scalar.extui v1842
  let v1844 : BitVec 32 := Scalar.subi v1841 v1843
  let v1845 : BitVec 1 := Scalar.cmpi .ne v1839 v1844
  let v1846 : BitVec 32 := Scalar.remsi v1833 c8_i32_984
  let c0_i32_989 : BitVec 32 := 0#32
  let v1847 : BitVec 1 := Scalar.cmpi .ne v1846 c0_i32_989
  let v1848 : BitVec 1 := Scalar.andi v1845 v1847
  let v1834 : BitVec 32 := Scalar.divsi v1833 c8_i32_984
  let c1_i32_990 : BitVec 32 := 1#32
  let v1849 : BitVec 32 := Scalar.subi v1834 c1_i32_990
  let v1850 : BitVec 32 := Scalar.select v1848 v1849 v1834
  let c8_i32_1013 : BitVec 32 := 8#32
  let v1888 : BitVec 32 := Scalar.muli v1850 c8_i32_1013
  let v1889 : BitVec 32 := Scalar.addi c0_i32_1014 v1888
  let c0_i32_992 : BitVec 32 := 0#32
  let v1852 : BitVec 1 := Scalar.cmpi .sgt v1833 c0_i32_992
  let v1853 : BitVec 32 := Scalar.extui v1852
  let c0_i32_993 : BitVec 32 := 0#32
  let v1854 : BitVec 1 := Scalar.cmpi .slt v1833 c0_i32_993
  let v1855 : BitVec 32 := Scalar.extui v1854
  let v1856 : BitVec 32 := Scalar.subi v1853 v1855
  let c4_i32_991 : BitVec 32 := 4#32
  let c0_i32_994 : BitVec 32 := 0#32
  let v1857 : BitVec 1 := Scalar.cmpi .sgt c4_i32_991 c0_i32_994
  let v1858 : BitVec 32 := Scalar.extui v1857
  let c0_i32_995 : BitVec 32 := 0#32
  let v1859 : BitVec 1 := Scalar.cmpi .slt c4_i32_991 c0_i32_995
  let v1860 : BitVec 32 := Scalar.extui v1859
  let v1861 : BitVec 32 := Scalar.subi v1858 v1860
  let v1862 : BitVec 1 := Scalar.cmpi .ne v1856 v1861
  let v1863 : BitVec 32 := Scalar.remsi v1833 c4_i32_991
  let c0_i32_996 : BitVec 32 := 0#32
  let v1864 : BitVec 1 := Scalar.cmpi .ne v1863 c0_i32_996
  let v1865 : BitVec 1 := Scalar.andi v1862 v1864
  let v1851 : BitVec 32 := Scalar.divsi v1833 c4_i32_991
  let c1_i32_997 : BitVec 32 := 1#32
  let v1866 : BitVec 32 := Scalar.subi v1851 c1_i32_997
  let v1867 : BitVec 32 := Scalar.select v1865 v1866 v1851
  let c2_i32_998 : BitVec 32 := 2#32
  let c0_i32_999 : BitVec 32 := 0#32
  let v1868 : BitVec 1 := Scalar.cmpi .eq c2_i32_998 c0_i32_999
  let c1_i32_1000 : BitVec 32 := 1#32
  let v1869 : BitVec 32 := Scalar.select v1868 c1_i32_1000 c2_i32_998
  let v1870 : BitVec 32 := Scalar.remsi v1867 v1869
  let c0_i32_1002 : BitVec 32 := 0#32
  let v1872 : BitVec 1 := Scalar.cmpi .slt v1870 c0_i32_1002
  let c0_i32_1003 : BitVec 32 := 0#32
  let v1873 : BitVec 1 := Scalar.cmpi .slt v1869 c0_i32_1003
  let v1874 : BitVec 1 := Scalar.xori v1872 v1873
  let c0_i32_1001 : BitVec 32 := 0#32
  let v1871 : BitVec 1 := Scalar.cmpi .ne v1870 c0_i32_1001
  let v1875 : BitVec 1 := Scalar.andi v1874 v1871
  let v1876 : BitVec 32 := Scalar.addi v1870 v1869
  let v1877 : BitVec 32 := Scalar.select v1875 v1876 v1870
  let c4_i32_1015 : BitVec 32 := 4#32
  let v1890 : BitVec 32 := Scalar.muli v1877 c4_i32_1015
  let v1891 : BitVec 32 := Scalar.addi v1889 v1890
  let c4_i32_1004 : BitVec 32 := 4#32
  let c0_i32_1005 : BitVec 32 := 0#32
  let v1878 : BitVec 1 := Scalar.cmpi .eq c4_i32_1004 c0_i32_1005
  let c1_i32_1006 : BitVec 32 := 1#32
  let v1879 : BitVec 32 := Scalar.select v1878 c1_i32_1006 c4_i32_1004
  let v1880 : BitVec 32 := Scalar.remsi v1833 v1879
  let c0_i32_1008 : BitVec 32 := 0#32
  let v1882 : BitVec 1 := Scalar.cmpi .slt v1880 c0_i32_1008
  let c0_i32_1009 : BitVec 32 := 0#32
  let v1883 : BitVec 1 := Scalar.cmpi .slt v1879 c0_i32_1009
  let v1884 : BitVec 1 := Scalar.xori v1882 v1883
  let c0_i32_1007 : BitVec 32 := 0#32
  let v1881 : BitVec 1 := Scalar.cmpi .ne v1880 c0_i32_1007
  let v1885 : BitVec 1 := Scalar.andi v1884 v1881
  let v1886 : BitVec 32 := Scalar.addi v1880 v1879
  let v1887 : BitVec 32 := Scalar.select v1885 v1886 v1880
  let c1_i32_1016 : BitVec 32 := 1#32
  let v1892 : BitVec 32 := Scalar.muli v1887 c1_i32_1016
  let v1893 : BitVec 32 := Scalar.addi v1891 v1892
  v1893.toNat
def k0_dev25 (d0 : Dev nD) : Nat :=
  let c0_i32_1056 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c10_i32_1019 : BitVec 32 := 10#32
  let v1900 : BitVec 32 := Scalar.addi v15 c10_i32_1019
  let c16_i32_1020 : BitVec 32 := 16#32
  let c0_i32_1021 : BitVec 32 := 0#32
  let v1901 : BitVec 1 := Scalar.cmpi .eq c16_i32_1020 c0_i32_1021
  let c1_i32_1022 : BitVec 32 := 1#32
  let v1902 : BitVec 32 := Scalar.select v1901 c1_i32_1022 c16_i32_1020
  let v1903 : BitVec 32 := Scalar.remsi v1900 v1902
  let c0_i32_1024 : BitVec 32 := 0#32
  let v1905 : BitVec 1 := Scalar.cmpi .slt v1903 c0_i32_1024
  let c0_i32_1025 : BitVec 32 := 0#32
  let v1906 : BitVec 1 := Scalar.cmpi .slt v1902 c0_i32_1025
  let v1907 : BitVec 1 := Scalar.xori v1905 v1906
  let c0_i32_1023 : BitVec 32 := 0#32
  let v1904 : BitVec 1 := Scalar.cmpi .ne v1903 c0_i32_1023
  let v1908 : BitVec 1 := Scalar.andi v1907 v1904
  let v1909 : BitVec 32 := Scalar.addi v1903 v1902
  let v1910 : BitVec 32 := Scalar.select v1908 v1909 v1903
  let c0_i32_1027 : BitVec 32 := 0#32
  let v1912 : BitVec 1 := Scalar.cmpi .sgt v1910 c0_i32_1027
  let v1913 : BitVec 32 := Scalar.extui v1912
  let c0_i32_1028 : BitVec 32 := 0#32
  let v1914 : BitVec 1 := Scalar.cmpi .slt v1910 c0_i32_1028
  let v1915 : BitVec 32 := Scalar.extui v1914
  let v1916 : BitVec 32 := Scalar.subi v1913 v1915
  let c8_i32_1026 : BitVec 32 := 8#32
  let c0_i32_1029 : BitVec 32 := 0#32
  let v1917 : BitVec 1 := Scalar.cmpi .sgt c8_i32_1026 c0_i32_1029
  let v1918 : BitVec 32 := Scalar.extui v1917
  let c0_i32_1030 : BitVec 32 := 0#32
  let v1919 : BitVec 1 := Scalar.cmpi .slt c8_i32_1026 c0_i32_1030
  let v1920 : BitVec 32 := Scalar.extui v1919
  let v1921 : BitVec 32 := Scalar.subi v1918 v1920
  let v1922 : BitVec 1 := Scalar.cmpi .ne v1916 v1921
  let v1923 : BitVec 32 := Scalar.remsi v1910 c8_i32_1026
  let c0_i32_1031 : BitVec 32 := 0#32
  let v1924 : BitVec 1 := Scalar.cmpi .ne v1923 c0_i32_1031
  let v1925 : BitVec 1 := Scalar.andi v1922 v1924
  let v1911 : BitVec 32 := Scalar.divsi v1910 c8_i32_1026
  let c1_i32_1032 : BitVec 32 := 1#32
  let v1926 : BitVec 32 := Scalar.subi v1911 c1_i32_1032
  let v1927 : BitVec 32 := Scalar.select v1925 v1926 v1911
  let c8_i32_1055 : BitVec 32 := 8#32
  let v1965 : BitVec 32 := Scalar.muli v1927 c8_i32_1055
  let v1966 : BitVec 32 := Scalar.addi c0_i32_1056 v1965
  let c0_i32_1034 : BitVec 32 := 0#32
  let v1929 : BitVec 1 := Scalar.cmpi .sgt v1910 c0_i32_1034
  let v1930 : BitVec 32 := Scalar.extui v1929
  let c0_i32_1035 : BitVec 32 := 0#32
  let v1931 : BitVec 1 := Scalar.cmpi .slt v1910 c0_i32_1035
  let v1932 : BitVec 32 := Scalar.extui v1931
  let v1933 : BitVec 32 := Scalar.subi v1930 v1932
  let c4_i32_1033 : BitVec 32 := 4#32
  let c0_i32_1036 : BitVec 32 := 0#32
  let v1934 : BitVec 1 := Scalar.cmpi .sgt c4_i32_1033 c0_i32_1036
  let v1935 : BitVec 32 := Scalar.extui v1934
  let c0_i32_1037 : BitVec 32 := 0#32
  let v1936 : BitVec 1 := Scalar.cmpi .slt c4_i32_1033 c0_i32_1037
  let v1937 : BitVec 32 := Scalar.extui v1936
  let v1938 : BitVec 32 := Scalar.subi v1935 v1937
  let v1939 : BitVec 1 := Scalar.cmpi .ne v1933 v1938
  let v1940 : BitVec 32 := Scalar.remsi v1910 c4_i32_1033
  let c0_i32_1038 : BitVec 32 := 0#32
  let v1941 : BitVec 1 := Scalar.cmpi .ne v1940 c0_i32_1038
  let v1942 : BitVec 1 := Scalar.andi v1939 v1941
  let v1928 : BitVec 32 := Scalar.divsi v1910 c4_i32_1033
  let c1_i32_1039 : BitVec 32 := 1#32
  let v1943 : BitVec 32 := Scalar.subi v1928 c1_i32_1039
  let v1944 : BitVec 32 := Scalar.select v1942 v1943 v1928
  let c2_i32_1040 : BitVec 32 := 2#32
  let c0_i32_1041 : BitVec 32 := 0#32
  let v1945 : BitVec 1 := Scalar.cmpi .eq c2_i32_1040 c0_i32_1041
  let c1_i32_1042 : BitVec 32 := 1#32
  let v1946 : BitVec 32 := Scalar.select v1945 c1_i32_1042 c2_i32_1040
  let v1947 : BitVec 32 := Scalar.remsi v1944 v1946
  let c0_i32_1044 : BitVec 32 := 0#32
  let v1949 : BitVec 1 := Scalar.cmpi .slt v1947 c0_i32_1044
  let c0_i32_1045 : BitVec 32 := 0#32
  let v1950 : BitVec 1 := Scalar.cmpi .slt v1946 c0_i32_1045
  let v1951 : BitVec 1 := Scalar.xori v1949 v1950
  let c0_i32_1043 : BitVec 32 := 0#32
  let v1948 : BitVec 1 := Scalar.cmpi .ne v1947 c0_i32_1043
  let v1952 : BitVec 1 := Scalar.andi v1951 v1948
  let v1953 : BitVec 32 := Scalar.addi v1947 v1946
  let v1954 : BitVec 32 := Scalar.select v1952 v1953 v1947
  let c4_i32_1057 : BitVec 32 := 4#32
  let v1967 : BitVec 32 := Scalar.muli v1954 c4_i32_1057
  let v1968 : BitVec 32 := Scalar.addi v1966 v1967
  let c4_i32_1046 : BitVec 32 := 4#32
  let c0_i32_1047 : BitVec 32 := 0#32
  let v1955 : BitVec 1 := Scalar.cmpi .eq c4_i32_1046 c0_i32_1047
  let c1_i32_1048 : BitVec 32 := 1#32
  let v1956 : BitVec 32 := Scalar.select v1955 c1_i32_1048 c4_i32_1046
  let v1957 : BitVec 32 := Scalar.remsi v1910 v1956
  let c0_i32_1050 : BitVec 32 := 0#32
  let v1959 : BitVec 1 := Scalar.cmpi .slt v1957 c0_i32_1050
  let c0_i32_1051 : BitVec 32 := 0#32
  let v1960 : BitVec 1 := Scalar.cmpi .slt v1956 c0_i32_1051
  let v1961 : BitVec 1 := Scalar.xori v1959 v1960
  let c0_i32_1049 : BitVec 32 := 0#32
  let v1958 : BitVec 1 := Scalar.cmpi .ne v1957 c0_i32_1049
  let v1962 : BitVec 1 := Scalar.andi v1961 v1958
  let v1963 : BitVec 32 := Scalar.addi v1957 v1956
  let v1964 : BitVec 32 := Scalar.select v1962 v1963 v1957
  let c1_i32_1058 : BitVec 32 := 1#32
  let v1969 : BitVec 32 := Scalar.muli v1964 c1_i32_1058
  let v1970 : BitVec 32 := Scalar.addi v1968 v1969
  v1970.toNat
def k0_dev26 (d0 : Dev nD) : Nat :=
  let c0_i32_1098 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c11_i32_1061 : BitVec 32 := 11#32
  let v1977 : BitVec 32 := Scalar.addi v15 c11_i32_1061
  let c16_i32_1062 : BitVec 32 := 16#32
  let c0_i32_1063 : BitVec 32 := 0#32
  let v1978 : BitVec 1 := Scalar.cmpi .eq c16_i32_1062 c0_i32_1063
  let c1_i32_1064 : BitVec 32 := 1#32
  let v1979 : BitVec 32 := Scalar.select v1978 c1_i32_1064 c16_i32_1062
  let v1980 : BitVec 32 := Scalar.remsi v1977 v1979
  let c0_i32_1066 : BitVec 32 := 0#32
  let v1982 : BitVec 1 := Scalar.cmpi .slt v1980 c0_i32_1066
  let c0_i32_1067 : BitVec 32 := 0#32
  let v1983 : BitVec 1 := Scalar.cmpi .slt v1979 c0_i32_1067
  let v1984 : BitVec 1 := Scalar.xori v1982 v1983
  let c0_i32_1065 : BitVec 32 := 0#32
  let v1981 : BitVec 1 := Scalar.cmpi .ne v1980 c0_i32_1065
  let v1985 : BitVec 1 := Scalar.andi v1984 v1981
  let v1986 : BitVec 32 := Scalar.addi v1980 v1979
  let v1987 : BitVec 32 := Scalar.select v1985 v1986 v1980
  let c0_i32_1069 : BitVec 32 := 0#32
  let v1989 : BitVec 1 := Scalar.cmpi .sgt v1987 c0_i32_1069
  let v1990 : BitVec 32 := Scalar.extui v1989
  let c0_i32_1070 : BitVec 32 := 0#32
  let v1991 : BitVec 1 := Scalar.cmpi .slt v1987 c0_i32_1070
  let v1992 : BitVec 32 := Scalar.extui v1991
  let v1993 : BitVec 32 := Scalar.subi v1990 v1992
  let c8_i32_1068 : BitVec 32 := 8#32
  let c0_i32_1071 : BitVec 32 := 0#32
  let v1994 : BitVec 1 := Scalar.cmpi .sgt c8_i32_1068 c0_i32_1071
  let v1995 : BitVec 32 := Scalar.extui v1994
  let c0_i32_1072 : BitVec 32 := 0#32
  let v1996 : BitVec 1 := Scalar.cmpi .slt c8_i32_1068 c0_i32_1072
  let v1997 : BitVec 32 := Scalar.extui v1996
  let v1998 : BitVec 32 := Scalar.subi v1995 v1997
  let v1999 : BitVec 1 := Scalar.cmpi .ne v1993 v1998
  let v2000 : BitVec 32 := Scalar.remsi v1987 c8_i32_1068
  let c0_i32_1073 : BitVec 32 := 0#32
  let v2001 : BitVec 1 := Scalar.cmpi .ne v2000 c0_i32_1073
  let v2002 : BitVec 1 := Scalar.andi v1999 v2001
  let v1988 : BitVec 32 := Scalar.divsi v1987 c8_i32_1068
  let c1_i32_1074 : BitVec 32 := 1#32
  let v2003 : BitVec 32 := Scalar.subi v1988 c1_i32_1074
  let v2004 : BitVec 32 := Scalar.select v2002 v2003 v1988
  let c8_i32_1097 : BitVec 32 := 8#32
  let v2042 : BitVec 32 := Scalar.muli v2004 c8_i32_1097
  let v2043 : BitVec 32 := Scalar.addi c0_i32_1098 v2042
  let c0_i32_1076 : BitVec 32 := 0#32
  let v2006 : BitVec 1 := Scalar.cmpi .sgt v1987 c0_i32_1076
  let v2007 : BitVec 32 := Scalar.extui v2006
  let c0_i32_1077 : BitVec 32 := 0#32
  let v2008 : BitVec 1 := Scalar.cmpi .slt v1987 c0_i32_1077
  let v2009 : BitVec 32 := Scalar.extui v2008
  let v2010 : BitVec 32 := Scalar.subi v2007 v2009
  let c4_i32_1075 : BitVec 32 := 4#32
  let c0_i32_1078 : BitVec 32 := 0#32
  let v2011 : BitVec 1 := Scalar.cmpi .sgt c4_i32_1075 c0_i32_1078
  let v2012 : BitVec 32 := Scalar.extui v2011
  let c0_i32_1079 : BitVec 32 := 0#32
  let v2013 : BitVec 1 := Scalar.cmpi .slt c4_i32_1075 c0_i32_1079
  let v2014 : BitVec 32 := Scalar.extui v2013
  let v2015 : BitVec 32 := Scalar.subi v2012 v2014
  let v2016 : BitVec 1 := Scalar.cmpi .ne v2010 v2015
  let v2017 : BitVec 32 := Scalar.remsi v1987 c4_i32_1075
  let c0_i32_1080 : BitVec 32 := 0#32
  let v2018 : BitVec 1 := Scalar.cmpi .ne v2017 c0_i32_1080
  let v2019 : BitVec 1 := Scalar.andi v2016 v2018
  let v2005 : BitVec 32 := Scalar.divsi v1987 c4_i32_1075
  let c1_i32_1081 : BitVec 32 := 1#32
  let v2020 : BitVec 32 := Scalar.subi v2005 c1_i32_1081
  let v2021 : BitVec 32 := Scalar.select v2019 v2020 v2005
  let c2_i32_1082 : BitVec 32 := 2#32
  let c0_i32_1083 : BitVec 32 := 0#32
  let v2022 : BitVec 1 := Scalar.cmpi .eq c2_i32_1082 c0_i32_1083
  let c1_i32_1084 : BitVec 32 := 1#32
  let v2023 : BitVec 32 := Scalar.select v2022 c1_i32_1084 c2_i32_1082
  let v2024 : BitVec 32 := Scalar.remsi v2021 v2023
  let c0_i32_1086 : BitVec 32 := 0#32
  let v2026 : BitVec 1 := Scalar.cmpi .slt v2024 c0_i32_1086
  let c0_i32_1087 : BitVec 32 := 0#32
  let v2027 : BitVec 1 := Scalar.cmpi .slt v2023 c0_i32_1087
  let v2028 : BitVec 1 := Scalar.xori v2026 v2027
  let c0_i32_1085 : BitVec 32 := 0#32
  let v2025 : BitVec 1 := Scalar.cmpi .ne v2024 c0_i32_1085
  let v2029 : BitVec 1 := Scalar.andi v2028 v2025
  let v2030 : BitVec 32 := Scalar.addi v2024 v2023
  let v2031 : BitVec 32 := Scalar.select v2029 v2030 v2024
  let c4_i32_1099 : BitVec 32 := 4#32
  let v2044 : BitVec 32 := Scalar.muli v2031 c4_i32_1099
  let v2045 : BitVec 32 := Scalar.addi v2043 v2044
  let c4_i32_1088 : BitVec 32 := 4#32
  let c0_i32_1089 : BitVec 32 := 0#32
  let v2032 : BitVec 1 := Scalar.cmpi .eq c4_i32_1088 c0_i32_1089
  let c1_i32_1090 : BitVec 32 := 1#32
  let v2033 : BitVec 32 := Scalar.select v2032 c1_i32_1090 c4_i32_1088
  let v2034 : BitVec 32 := Scalar.remsi v1987 v2033
  let c0_i32_1092 : BitVec 32 := 0#32
  let v2036 : BitVec 1 := Scalar.cmpi .slt v2034 c0_i32_1092
  let c0_i32_1093 : BitVec 32 := 0#32
  let v2037 : BitVec 1 := Scalar.cmpi .slt v2033 c0_i32_1093
  let v2038 : BitVec 1 := Scalar.xori v2036 v2037
  let c0_i32_1091 : BitVec 32 := 0#32
  let v2035 : BitVec 1 := Scalar.cmpi .ne v2034 c0_i32_1091
  let v2039 : BitVec 1 := Scalar.andi v2038 v2035
  let v2040 : BitVec 32 := Scalar.addi v2034 v2033
  let v2041 : BitVec 32 := Scalar.select v2039 v2040 v2034
  let c1_i32_1100 : BitVec 32 := 1#32
  let v2046 : BitVec 32 := Scalar.muli v2041 c1_i32_1100
  let v2047 : BitVec 32 := Scalar.addi v2045 v2046
  v2047.toNat
def k0_dev27 (d0 : Dev nD) : Nat :=
  let c0_i32_1140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c12_i32_1103 : BitVec 32 := 12#32
  let v2054 : BitVec 32 := Scalar.addi v15 c12_i32_1103
  let c16_i32_1104 : BitVec 32 := 16#32
  let c0_i32_1105 : BitVec 32 := 0#32
  let v2055 : BitVec 1 := Scalar.cmpi .eq c16_i32_1104 c0_i32_1105
  let c1_i32_1106 : BitVec 32 := 1#32
  let v2056 : BitVec 32 := Scalar.select v2055 c1_i32_1106 c16_i32_1104
  let v2057 : BitVec 32 := Scalar.remsi v2054 v2056
  let c0_i32_1108 : BitVec 32 := 0#32
  let v2059 : BitVec 1 := Scalar.cmpi .slt v2057 c0_i32_1108
  let c0_i32_1109 : BitVec 32 := 0#32
  let v2060 : BitVec 1 := Scalar.cmpi .slt v2056 c0_i32_1109
  let v2061 : BitVec 1 := Scalar.xori v2059 v2060
  let c0_i32_1107 : BitVec 32 := 0#32
  let v2058 : BitVec 1 := Scalar.cmpi .ne v2057 c0_i32_1107
  let v2062 : BitVec 1 := Scalar.andi v2061 v2058
  let v2063 : BitVec 32 := Scalar.addi v2057 v2056
  let v2064 : BitVec 32 := Scalar.select v2062 v2063 v2057
  let c0_i32_1111 : BitVec 32 := 0#32
  let v2066 : BitVec 1 := Scalar.cmpi .sgt v2064 c0_i32_1111
  let v2067 : BitVec 32 := Scalar.extui v2066
  let c0_i32_1112 : BitVec 32 := 0#32
  let v2068 : BitVec 1 := Scalar.cmpi .slt v2064 c0_i32_1112
  let v2069 : BitVec 32 := Scalar.extui v2068
  let v2070 : BitVec 32 := Scalar.subi v2067 v2069
  let c8_i32_1110 : BitVec 32 := 8#32
  let c0_i32_1113 : BitVec 32 := 0#32
  let v2071 : BitVec 1 := Scalar.cmpi .sgt c8_i32_1110 c0_i32_1113
  let v2072 : BitVec 32 := Scalar.extui v2071
  let c0_i32_1114 : BitVec 32 := 0#32
  let v2073 : BitVec 1 := Scalar.cmpi .slt c8_i32_1110 c0_i32_1114
  let v2074 : BitVec 32 := Scalar.extui v2073
  let v2075 : BitVec 32 := Scalar.subi v2072 v2074
  let v2076 : BitVec 1 := Scalar.cmpi .ne v2070 v2075
  let v2077 : BitVec 32 := Scalar.remsi v2064 c8_i32_1110
  let c0_i32_1115 : BitVec 32 := 0#32
  let v2078 : BitVec 1 := Scalar.cmpi .ne v2077 c0_i32_1115
  let v2079 : BitVec 1 := Scalar.andi v2076 v2078
  let v2065 : BitVec 32 := Scalar.divsi v2064 c8_i32_1110
  let c1_i32_1116 : BitVec 32 := 1#32
  let v2080 : BitVec 32 := Scalar.subi v2065 c1_i32_1116
  let v2081 : BitVec 32 := Scalar.select v2079 v2080 v2065
  let c8_i32_1139 : BitVec 32 := 8#32
  let v2119 : BitVec 32 := Scalar.muli v2081 c8_i32_1139
  let v2120 : BitVec 32 := Scalar.addi c0_i32_1140 v2119
  let c0_i32_1118 : BitVec 32 := 0#32
  let v2083 : BitVec 1 := Scalar.cmpi .sgt v2064 c0_i32_1118
  let v2084 : BitVec 32 := Scalar.extui v2083
  let c0_i32_1119 : BitVec 32 := 0#32
  let v2085 : BitVec 1 := Scalar.cmpi .slt v2064 c0_i32_1119
  let v2086 : BitVec 32 := Scalar.extui v2085
  let v2087 : BitVec 32 := Scalar.subi v2084 v2086
  let c4_i32_1117 : BitVec 32 := 4#32
  let c0_i32_1120 : BitVec 32 := 0#32
  let v2088 : BitVec 1 := Scalar.cmpi .sgt c4_i32_1117 c0_i32_1120
  let v2089 : BitVec 32 := Scalar.extui v2088
  let c0_i32_1121 : BitVec 32 := 0#32
  let v2090 : BitVec 1 := Scalar.cmpi .slt c4_i32_1117 c0_i32_1121
  let v2091 : BitVec 32 := Scalar.extui v2090
  let v2092 : BitVec 32 := Scalar.subi v2089 v2091
  let v2093 : BitVec 1 := Scalar.cmpi .ne v2087 v2092
  let v2094 : BitVec 32 := Scalar.remsi v2064 c4_i32_1117
  let c0_i32_1122 : BitVec 32 := 0#32
  let v2095 : BitVec 1 := Scalar.cmpi .ne v2094 c0_i32_1122
  let v2096 : BitVec 1 := Scalar.andi v2093 v2095
  let v2082 : BitVec 32 := Scalar.divsi v2064 c4_i32_1117
  let c1_i32_1123 : BitVec 32 := 1#32
  let v2097 : BitVec 32 := Scalar.subi v2082 c1_i32_1123
  let v2098 : BitVec 32 := Scalar.select v2096 v2097 v2082
  let c2_i32_1124 : BitVec 32 := 2#32
  let c0_i32_1125 : BitVec 32 := 0#32
  let v2099 : BitVec 1 := Scalar.cmpi .eq c2_i32_1124 c0_i32_1125
  let c1_i32_1126 : BitVec 32 := 1#32
  let v2100 : BitVec 32 := Scalar.select v2099 c1_i32_1126 c2_i32_1124
  let v2101 : BitVec 32 := Scalar.remsi v2098 v2100
  let c0_i32_1128 : BitVec 32 := 0#32
  let v2103 : BitVec 1 := Scalar.cmpi .slt v2101 c0_i32_1128
  let c0_i32_1129 : BitVec 32 := 0#32
  let v2104 : BitVec 1 := Scalar.cmpi .slt v2100 c0_i32_1129
  let v2105 : BitVec 1 := Scalar.xori v2103 v2104
  let c0_i32_1127 : BitVec 32 := 0#32
  let v2102 : BitVec 1 := Scalar.cmpi .ne v2101 c0_i32_1127
  let v2106 : BitVec 1 := Scalar.andi v2105 v2102
  let v2107 : BitVec 32 := Scalar.addi v2101 v2100
  let v2108 : BitVec 32 := Scalar.select v2106 v2107 v2101
  let c4_i32_1141 : BitVec 32 := 4#32
  let v2121 : BitVec 32 := Scalar.muli v2108 c4_i32_1141
  let v2122 : BitVec 32 := Scalar.addi v2120 v2121
  let c4_i32_1130 : BitVec 32 := 4#32
  let c0_i32_1131 : BitVec 32 := 0#32
  let v2109 : BitVec 1 := Scalar.cmpi .eq c4_i32_1130 c0_i32_1131
  let c1_i32_1132 : BitVec 32 := 1#32
  let v2110 : BitVec 32 := Scalar.select v2109 c1_i32_1132 c4_i32_1130
  let v2111 : BitVec 32 := Scalar.remsi v2064 v2110
  let c0_i32_1134 : BitVec 32 := 0#32
  let v2113 : BitVec 1 := Scalar.cmpi .slt v2111 c0_i32_1134
  let c0_i32_1135 : BitVec 32 := 0#32
  let v2114 : BitVec 1 := Scalar.cmpi .slt v2110 c0_i32_1135
  let v2115 : BitVec 1 := Scalar.xori v2113 v2114
  let c0_i32_1133 : BitVec 32 := 0#32
  let v2112 : BitVec 1 := Scalar.cmpi .ne v2111 c0_i32_1133
  let v2116 : BitVec 1 := Scalar.andi v2115 v2112
  let v2117 : BitVec 32 := Scalar.addi v2111 v2110
  let v2118 : BitVec 32 := Scalar.select v2116 v2117 v2111
  let c1_i32_1142 : BitVec 32 := 1#32
  let v2123 : BitVec 32 := Scalar.muli v2118 c1_i32_1142
  let v2124 : BitVec 32 := Scalar.addi v2122 v2123
  v2124.toNat
def k0_dev28 (d0 : Dev nD) : Nat :=
  let c0_i32_1182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c13_i32_1145 : BitVec 32 := 13#32
  let v2131 : BitVec 32 := Scalar.addi v15 c13_i32_1145
  let c16_i32_1146 : BitVec 32 := 16#32
  let c0_i32_1147 : BitVec 32 := 0#32
  let v2132 : BitVec 1 := Scalar.cmpi .eq c16_i32_1146 c0_i32_1147
  let c1_i32_1148 : BitVec 32 := 1#32
  let v2133 : BitVec 32 := Scalar.select v2132 c1_i32_1148 c16_i32_1146
  let v2134 : BitVec 32 := Scalar.remsi v2131 v2133
  let c0_i32_1150 : BitVec 32 := 0#32
  let v2136 : BitVec 1 := Scalar.cmpi .slt v2134 c0_i32_1150
  let c0_i32_1151 : BitVec 32 := 0#32
  let v2137 : BitVec 1 := Scalar.cmpi .slt v2133 c0_i32_1151
  let v2138 : BitVec 1 := Scalar.xori v2136 v2137
  let c0_i32_1149 : BitVec 32 := 0#32
  let v2135 : BitVec 1 := Scalar.cmpi .ne v2134 c0_i32_1149
  let v2139 : BitVec 1 := Scalar.andi v2138 v2135
  let v2140 : BitVec 32 := Scalar.addi v2134 v2133
  let v2141 : BitVec 32 := Scalar.select v2139 v2140 v2134
  let c0_i32_1153 : BitVec 32 := 0#32
  let v2143 : BitVec 1 := Scalar.cmpi .sgt v2141 c0_i32_1153
  let v2144 : BitVec 32 := Scalar.extui v2143
  let c0_i32_1154 : BitVec 32 := 0#32
  let v2145 : BitVec 1 := Scalar.cmpi .slt v2141 c0_i32_1154
  let v2146 : BitVec 32 := Scalar.extui v2145
  let v2147 : BitVec 32 := Scalar.subi v2144 v2146
  let c8_i32_1152 : BitVec 32 := 8#32
  let c0_i32_1155 : BitVec 32 := 0#32
  let v2148 : BitVec 1 := Scalar.cmpi .sgt c8_i32_1152 c0_i32_1155
  let v2149 : BitVec 32 := Scalar.extui v2148
  let c0_i32_1156 : BitVec 32 := 0#32
  let v2150 : BitVec 1 := Scalar.cmpi .slt c8_i32_1152 c0_i32_1156
  let v2151 : BitVec 32 := Scalar.extui v2150
  let v2152 : BitVec 32 := Scalar.subi v2149 v2151
  let v2153 : BitVec 1 := Scalar.cmpi .ne v2147 v2152
  let v2154 : BitVec 32 := Scalar.remsi v2141 c8_i32_1152
  let c0_i32_1157 : BitVec 32 := 0#32
  let v2155 : BitVec 1 := Scalar.cmpi .ne v2154 c0_i32_1157
  let v2156 : BitVec 1 := Scalar.andi v2153 v2155
  let v2142 : BitVec 32 := Scalar.divsi v2141 c8_i32_1152
  let c1_i32_1158 : BitVec 32 := 1#32
  let v2157 : BitVec 32 := Scalar.subi v2142 c1_i32_1158
  let v2158 : BitVec 32 := Scalar.select v2156 v2157 v2142
  let c8_i32_1181 : BitVec 32 := 8#32
  let v2196 : BitVec 32 := Scalar.muli v2158 c8_i32_1181
  let v2197 : BitVec 32 := Scalar.addi c0_i32_1182 v2196
  let c0_i32_1160 : BitVec 32 := 0#32
  let v2160 : BitVec 1 := Scalar.cmpi .sgt v2141 c0_i32_1160
  let v2161 : BitVec 32 := Scalar.extui v2160
  let c0_i32_1161 : BitVec 32 := 0#32
  let v2162 : BitVec 1 := Scalar.cmpi .slt v2141 c0_i32_1161
  let v2163 : BitVec 32 := Scalar.extui v2162
  let v2164 : BitVec 32 := Scalar.subi v2161 v2163
  let c4_i32_1159 : BitVec 32 := 4#32
  let c0_i32_1162 : BitVec 32 := 0#32
  let v2165 : BitVec 1 := Scalar.cmpi .sgt c4_i32_1159 c0_i32_1162
  let v2166 : BitVec 32 := Scalar.extui v2165
  let c0_i32_1163 : BitVec 32 := 0#32
  let v2167 : BitVec 1 := Scalar.cmpi .slt c4_i32_1159 c0_i32_1163
  let v2168 : BitVec 32 := Scalar.extui v2167
  let v2169 : BitVec 32 := Scalar.subi v2166 v2168
  let v2170 : BitVec 1 := Scalar.cmpi .ne v2164 v2169
  let v2171 : BitVec 32 := Scalar.remsi v2141 c4_i32_1159
  let c0_i32_1164 : BitVec 32 := 0#32
  let v2172 : BitVec 1 := Scalar.cmpi .ne v2171 c0_i32_1164
  let v2173 : BitVec 1 := Scalar.andi v2170 v2172
  let v2159 : BitVec 32 := Scalar.divsi v2141 c4_i32_1159
  let c1_i32_1165 : BitVec 32 := 1#32
  let v2174 : BitVec 32 := Scalar.subi v2159 c1_i32_1165
  let v2175 : BitVec 32 := Scalar.select v2173 v2174 v2159
  let c2_i32_1166 : BitVec 32 := 2#32
  let c0_i32_1167 : BitVec 32 := 0#32
  let v2176 : BitVec 1 := Scalar.cmpi .eq c2_i32_1166 c0_i32_1167
  let c1_i32_1168 : BitVec 32 := 1#32
  let v2177 : BitVec 32 := Scalar.select v2176 c1_i32_1168 c2_i32_1166
  let v2178 : BitVec 32 := Scalar.remsi v2175 v2177
  let c0_i32_1170 : BitVec 32 := 0#32
  let v2180 : BitVec 1 := Scalar.cmpi .slt v2178 c0_i32_1170
  let c0_i32_1171 : BitVec 32 := 0#32
  let v2181 : BitVec 1 := Scalar.cmpi .slt v2177 c0_i32_1171
  let v2182 : BitVec 1 := Scalar.xori v2180 v2181
  let c0_i32_1169 : BitVec 32 := 0#32
  let v2179 : BitVec 1 := Scalar.cmpi .ne v2178 c0_i32_1169
  let v2183 : BitVec 1 := Scalar.andi v2182 v2179
  let v2184 : BitVec 32 := Scalar.addi v2178 v2177
  let v2185 : BitVec 32 := Scalar.select v2183 v2184 v2178
  let c4_i32_1183 : BitVec 32 := 4#32
  let v2198 : BitVec 32 := Scalar.muli v2185 c4_i32_1183
  let v2199 : BitVec 32 := Scalar.addi v2197 v2198
  let c4_i32_1172 : BitVec 32 := 4#32
  let c0_i32_1173 : BitVec 32 := 0#32
  let v2186 : BitVec 1 := Scalar.cmpi .eq c4_i32_1172 c0_i32_1173
  let c1_i32_1174 : BitVec 32 := 1#32
  let v2187 : BitVec 32 := Scalar.select v2186 c1_i32_1174 c4_i32_1172
  let v2188 : BitVec 32 := Scalar.remsi v2141 v2187
  let c0_i32_1176 : BitVec 32 := 0#32
  let v2190 : BitVec 1 := Scalar.cmpi .slt v2188 c0_i32_1176
  let c0_i32_1177 : BitVec 32 := 0#32
  let v2191 : BitVec 1 := Scalar.cmpi .slt v2187 c0_i32_1177
  let v2192 : BitVec 1 := Scalar.xori v2190 v2191
  let c0_i32_1175 : BitVec 32 := 0#32
  let v2189 : BitVec 1 := Scalar.cmpi .ne v2188 c0_i32_1175
  let v2193 : BitVec 1 := Scalar.andi v2192 v2189
  let v2194 : BitVec 32 := Scalar.addi v2188 v2187
  let v2195 : BitVec 32 := Scalar.select v2193 v2194 v2188
  let c1_i32_1184 : BitVec 32 := 1#32
  let v2200 : BitVec 32 := Scalar.muli v2195 c1_i32_1184
  let v2201 : BitVec 32 := Scalar.addi v2199 v2200
  v2201.toNat
def k0_dev29 (d0 : Dev nD) : Nat :=
  let c0_i32_1224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c14_i32_1187 : BitVec 32 := 14#32
  let v2208 : BitVec 32 := Scalar.addi v15 c14_i32_1187
  let c16_i32_1188 : BitVec 32 := 16#32
  let c0_i32_1189 : BitVec 32 := 0#32
  let v2209 : BitVec 1 := Scalar.cmpi .eq c16_i32_1188 c0_i32_1189
  let c1_i32_1190 : BitVec 32 := 1#32
  let v2210 : BitVec 32 := Scalar.select v2209 c1_i32_1190 c16_i32_1188
  let v2211 : BitVec 32 := Scalar.remsi v2208 v2210
  let c0_i32_1192 : BitVec 32 := 0#32
  let v2213 : BitVec 1 := Scalar.cmpi .slt v2211 c0_i32_1192
  let c0_i32_1193 : BitVec 32 := 0#32
  let v2214 : BitVec 1 := Scalar.cmpi .slt v2210 c0_i32_1193
  let v2215 : BitVec 1 := Scalar.xori v2213 v2214
  let c0_i32_1191 : BitVec 32 := 0#32
  let v2212 : BitVec 1 := Scalar.cmpi .ne v2211 c0_i32_1191
  let v2216 : BitVec 1 := Scalar.andi v2215 v2212
  let v2217 : BitVec 32 := Scalar.addi v2211 v2210
  let v2218 : BitVec 32 := Scalar.select v2216 v2217 v2211
  let c0_i32_1195 : BitVec 32 := 0#32
  let v2220 : BitVec 1 := Scalar.cmpi .sgt v2218 c0_i32_1195
  let v2221 : BitVec 32 := Scalar.extui v2220
  let c0_i32_1196 : BitVec 32 := 0#32
  let v2222 : BitVec 1 := Scalar.cmpi .slt v2218 c0_i32_1196
  let v2223 : BitVec 32 := Scalar.extui v2222
  let v2224 : BitVec 32 := Scalar.subi v2221 v2223
  let c8_i32_1194 : BitVec 32 := 8#32
  let c0_i32_1197 : BitVec 32 := 0#32
  let v2225 : BitVec 1 := Scalar.cmpi .sgt c8_i32_1194 c0_i32_1197
  let v2226 : BitVec 32 := Scalar.extui v2225
  let c0_i32_1198 : BitVec 32 := 0#32
  let v2227 : BitVec 1 := Scalar.cmpi .slt c8_i32_1194 c0_i32_1198
  let v2228 : BitVec 32 := Scalar.extui v2227
  let v2229 : BitVec 32 := Scalar.subi v2226 v2228
  let v2230 : BitVec 1 := Scalar.cmpi .ne v2224 v2229
  let v2231 : BitVec 32 := Scalar.remsi v2218 c8_i32_1194
  let c0_i32_1199 : BitVec 32 := 0#32
  let v2232 : BitVec 1 := Scalar.cmpi .ne v2231 c0_i32_1199
  let v2233 : BitVec 1 := Scalar.andi v2230 v2232
  let v2219 : BitVec 32 := Scalar.divsi v2218 c8_i32_1194
  let c1_i32_1200 : BitVec 32 := 1#32
  let v2234 : BitVec 32 := Scalar.subi v2219 c1_i32_1200
  let v2235 : BitVec 32 := Scalar.select v2233 v2234 v2219
  let c8_i32_1223 : BitVec 32 := 8#32
  let v2273 : BitVec 32 := Scalar.muli v2235 c8_i32_1223
  let v2274 : BitVec 32 := Scalar.addi c0_i32_1224 v2273
  let c0_i32_1202 : BitVec 32 := 0#32
  let v2237 : BitVec 1 := Scalar.cmpi .sgt v2218 c0_i32_1202
  let v2238 : BitVec 32 := Scalar.extui v2237
  let c0_i32_1203 : BitVec 32 := 0#32
  let v2239 : BitVec 1 := Scalar.cmpi .slt v2218 c0_i32_1203
  let v2240 : BitVec 32 := Scalar.extui v2239
  let v2241 : BitVec 32 := Scalar.subi v2238 v2240
  let c4_i32_1201 : BitVec 32 := 4#32
  let c0_i32_1204 : BitVec 32 := 0#32
  let v2242 : BitVec 1 := Scalar.cmpi .sgt c4_i32_1201 c0_i32_1204
  let v2243 : BitVec 32 := Scalar.extui v2242
  let c0_i32_1205 : BitVec 32 := 0#32
  let v2244 : BitVec 1 := Scalar.cmpi .slt c4_i32_1201 c0_i32_1205
  let v2245 : BitVec 32 := Scalar.extui v2244
  let v2246 : BitVec 32 := Scalar.subi v2243 v2245
  let v2247 : BitVec 1 := Scalar.cmpi .ne v2241 v2246
  let v2248 : BitVec 32 := Scalar.remsi v2218 c4_i32_1201
  let c0_i32_1206 : BitVec 32 := 0#32
  let v2249 : BitVec 1 := Scalar.cmpi .ne v2248 c0_i32_1206
  let v2250 : BitVec 1 := Scalar.andi v2247 v2249
  let v2236 : BitVec 32 := Scalar.divsi v2218 c4_i32_1201
  let c1_i32_1207 : BitVec 32 := 1#32
  let v2251 : BitVec 32 := Scalar.subi v2236 c1_i32_1207
  let v2252 : BitVec 32 := Scalar.select v2250 v2251 v2236
  let c2_i32_1208 : BitVec 32 := 2#32
  let c0_i32_1209 : BitVec 32 := 0#32
  let v2253 : BitVec 1 := Scalar.cmpi .eq c2_i32_1208 c0_i32_1209
  let c1_i32_1210 : BitVec 32 := 1#32
  let v2254 : BitVec 32 := Scalar.select v2253 c1_i32_1210 c2_i32_1208
  let v2255 : BitVec 32 := Scalar.remsi v2252 v2254
  let c0_i32_1212 : BitVec 32 := 0#32
  let v2257 : BitVec 1 := Scalar.cmpi .slt v2255 c0_i32_1212
  let c0_i32_1213 : BitVec 32 := 0#32
  let v2258 : BitVec 1 := Scalar.cmpi .slt v2254 c0_i32_1213
  let v2259 : BitVec 1 := Scalar.xori v2257 v2258
  let c0_i32_1211 : BitVec 32 := 0#32
  let v2256 : BitVec 1 := Scalar.cmpi .ne v2255 c0_i32_1211
  let v2260 : BitVec 1 := Scalar.andi v2259 v2256
  let v2261 : BitVec 32 := Scalar.addi v2255 v2254
  let v2262 : BitVec 32 := Scalar.select v2260 v2261 v2255
  let c4_i32_1225 : BitVec 32 := 4#32
  let v2275 : BitVec 32 := Scalar.muli v2262 c4_i32_1225
  let v2276 : BitVec 32 := Scalar.addi v2274 v2275
  let c4_i32_1214 : BitVec 32 := 4#32
  let c0_i32_1215 : BitVec 32 := 0#32
  let v2263 : BitVec 1 := Scalar.cmpi .eq c4_i32_1214 c0_i32_1215
  let c1_i32_1216 : BitVec 32 := 1#32
  let v2264 : BitVec 32 := Scalar.select v2263 c1_i32_1216 c4_i32_1214
  let v2265 : BitVec 32 := Scalar.remsi v2218 v2264
  let c0_i32_1218 : BitVec 32 := 0#32
  let v2267 : BitVec 1 := Scalar.cmpi .slt v2265 c0_i32_1218
  let c0_i32_1219 : BitVec 32 := 0#32
  let v2268 : BitVec 1 := Scalar.cmpi .slt v2264 c0_i32_1219
  let v2269 : BitVec 1 := Scalar.xori v2267 v2268
  let c0_i32_1217 : BitVec 32 := 0#32
  let v2266 : BitVec 1 := Scalar.cmpi .ne v2265 c0_i32_1217
  let v2270 : BitVec 1 := Scalar.andi v2269 v2266
  let v2271 : BitVec 32 := Scalar.addi v2265 v2264
  let v2272 : BitVec 32 := Scalar.select v2270 v2271 v2265
  let c1_i32_1226 : BitVec 32 := 1#32
  let v2277 : BitVec 32 := Scalar.muli v2272 c1_i32_1226
  let v2278 : BitVec 32 := Scalar.addi v2276 v2277
  v2278.toNat
def k0_dev30 (d0 : Dev nD) : Nat :=
  let c0_i32_1266 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v12 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v15 : BitVec 32 := Scalar.addi v14 v8
  let c15_i32_1229 : BitVec 32 := 15#32
  let v2285 : BitVec 32 := Scalar.addi v15 c15_i32_1229
  let c16_i32_1230 : BitVec 32 := 16#32
  let c0_i32_1231 : BitVec 32 := 0#32
  let v2286 : BitVec 1 := Scalar.cmpi .eq c16_i32_1230 c0_i32_1231
  let c1_i32_1232 : BitVec 32 := 1#32
  let v2287 : BitVec 32 := Scalar.select v2286 c1_i32_1232 c16_i32_1230
  let v2288 : BitVec 32 := Scalar.remsi v2285 v2287
  let c0_i32_1234 : BitVec 32 := 0#32
  let v2290 : BitVec 1 := Scalar.cmpi .slt v2288 c0_i32_1234
  let c0_i32_1235 : BitVec 32 := 0#32
  let v2291 : BitVec 1 := Scalar.cmpi .slt v2287 c0_i32_1235
  let v2292 : BitVec 1 := Scalar.xori v2290 v2291
  let c0_i32_1233 : BitVec 32 := 0#32
  let v2289 : BitVec 1 := Scalar.cmpi .ne v2288 c0_i32_1233
  let v2293 : BitVec 1 := Scalar.andi v2292 v2289
  let v2294 : BitVec 32 := Scalar.addi v2288 v2287
  let v2295 : BitVec 32 := Scalar.select v2293 v2294 v2288
  let c0_i32_1237 : BitVec 32 := 0#32
  let v2297 : BitVec 1 := Scalar.cmpi .sgt v2295 c0_i32_1237
  let v2298 : BitVec 32 := Scalar.extui v2297
  let c0_i32_1238 : BitVec 32 := 0#32
  let v2299 : BitVec 1 := Scalar.cmpi .slt v2295 c0_i32_1238
  let v2300 : BitVec 32 := Scalar.extui v2299
  let v2301 : BitVec 32 := Scalar.subi v2298 v2300
  let c8_i32_1236 : BitVec 32 := 8#32
  let c0_i32_1239 : BitVec 32 := 0#32
  let v2302 : BitVec 1 := Scalar.cmpi .sgt c8_i32_1236 c0_i32_1239
  let v2303 : BitVec 32 := Scalar.extui v2302
  let c0_i32_1240 : BitVec 32 := 0#32
  let v2304 : BitVec 1 := Scalar.cmpi .slt c8_i32_1236 c0_i32_1240
  let v2305 : BitVec 32 := Scalar.extui v2304
  let v2306 : BitVec 32 := Scalar.subi v2303 v2305
  let v2307 : BitVec 1 := Scalar.cmpi .ne v2301 v2306
  let v2308 : BitVec 32 := Scalar.remsi v2295 c8_i32_1236
  let c0_i32_1241 : BitVec 32 := 0#32
  let v2309 : BitVec 1 := Scalar.cmpi .ne v2308 c0_i32_1241
  let v2310 : BitVec 1 := Scalar.andi v2307 v2309
  let v2296 : BitVec 32 := Scalar.divsi v2295 c8_i32_1236
  let c1_i32_1242 : BitVec 32 := 1#32
  let v2311 : BitVec 32 := Scalar.subi v2296 c1_i32_1242
  let v2312 : BitVec 32 := Scalar.select v2310 v2311 v2296
  let c8_i32_1265 : BitVec 32 := 8#32
  let v2350 : BitVec 32 := Scalar.muli v2312 c8_i32_1265
  let v2351 : BitVec 32 := Scalar.addi c0_i32_1266 v2350
  let c0_i32_1244 : BitVec 32 := 0#32
  let v2314 : BitVec 1 := Scalar.cmpi .sgt v2295 c0_i32_1244
  let v2315 : BitVec 32 := Scalar.extui v2314
  let c0_i32_1245 : BitVec 32 := 0#32
  let v2316 : BitVec 1 := Scalar.cmpi .slt v2295 c0_i32_1245
  let v2317 : BitVec 32 := Scalar.extui v2316
  let v2318 : BitVec 32 := Scalar.subi v2315 v2317
  let c4_i32_1243 : BitVec 32 := 4#32
  let c0_i32_1246 : BitVec 32 := 0#32
  let v2319 : BitVec 1 := Scalar.cmpi .sgt c4_i32_1243 c0_i32_1246
  let v2320 : BitVec 32 := Scalar.extui v2319
  let c0_i32_1247 : BitVec 32 := 0#32
  let v2321 : BitVec 1 := Scalar.cmpi .slt c4_i32_1243 c0_i32_1247
  let v2322 : BitVec 32 := Scalar.extui v2321
  let v2323 : BitVec 32 := Scalar.subi v2320 v2322
  let v2324 : BitVec 1 := Scalar.cmpi .ne v2318 v2323
  let v2325 : BitVec 32 := Scalar.remsi v2295 c4_i32_1243
  let c0_i32_1248 : BitVec 32 := 0#32
  let v2326 : BitVec 1 := Scalar.cmpi .ne v2325 c0_i32_1248
  let v2327 : BitVec 1 := Scalar.andi v2324 v2326
  let v2313 : BitVec 32 := Scalar.divsi v2295 c4_i32_1243
  let c1_i32_1249 : BitVec 32 := 1#32
  let v2328 : BitVec 32 := Scalar.subi v2313 c1_i32_1249
  let v2329 : BitVec 32 := Scalar.select v2327 v2328 v2313
  let c2_i32_1250 : BitVec 32 := 2#32
  let c0_i32_1251 : BitVec 32 := 0#32
  let v2330 : BitVec 1 := Scalar.cmpi .eq c2_i32_1250 c0_i32_1251
  let c1_i32_1252 : BitVec 32 := 1#32
  let v2331 : BitVec 32 := Scalar.select v2330 c1_i32_1252 c2_i32_1250
  let v2332 : BitVec 32 := Scalar.remsi v2329 v2331
  let c0_i32_1254 : BitVec 32 := 0#32
  let v2334 : BitVec 1 := Scalar.cmpi .slt v2332 c0_i32_1254
  let c0_i32_1255 : BitVec 32 := 0#32
  let v2335 : BitVec 1 := Scalar.cmpi .slt v2331 c0_i32_1255
  let v2336 : BitVec 1 := Scalar.xori v2334 v2335
  let c0_i32_1253 : BitVec 32 := 0#32
  let v2333 : BitVec 1 := Scalar.cmpi .ne v2332 c0_i32_1253
  let v2337 : BitVec 1 := Scalar.andi v2336 v2333
  let v2338 : BitVec 32 := Scalar.addi v2332 v2331
  let v2339 : BitVec 32 := Scalar.select v2337 v2338 v2332
  let c4_i32_1267 : BitVec 32 := 4#32
  let v2352 : BitVec 32 := Scalar.muli v2339 c4_i32_1267
  let v2353 : BitVec 32 := Scalar.addi v2351 v2352
  let c4_i32_1256 : BitVec 32 := 4#32
  let c0_i32_1257 : BitVec 32 := 0#32
  let v2340 : BitVec 1 := Scalar.cmpi .eq c4_i32_1256 c0_i32_1257
  let c1_i32_1258 : BitVec 32 := 1#32
  let v2341 : BitVec 32 := Scalar.select v2340 c1_i32_1258 c4_i32_1256
  let v2342 : BitVec 32 := Scalar.remsi v2295 v2341
  let c0_i32_1260 : BitVec 32 := 0#32
  let v2344 : BitVec 1 := Scalar.cmpi .slt v2342 c0_i32_1260
  let c0_i32_1261 : BitVec 32 := 0#32
  let v2345 : BitVec 1 := Scalar.cmpi .slt v2341 c0_i32_1261
  let v2346 : BitVec 1 := Scalar.xori v2344 v2345
  let c0_i32_1259 : BitVec 32 := 0#32
  let v2343 : BitVec 1 := Scalar.cmpi .ne v2342 c0_i32_1259
  let v2347 : BitVec 1 := Scalar.andi v2346 v2343
  let v2348 : BitVec 32 := Scalar.addi v2342 v2341
  let v2349 : BitVec 32 := Scalar.select v2347 v2348 v2342
  let c1_i32_1268 : BitVec 32 := 1#32
  let v2354 : BitVec 32 := Scalar.muli v2349 c1_i32_1268
  let v2355 : BitVec 32 := Scalar.addi v2353 v2354
  v2355.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024 : Shape := ⟨1, ![1024]⟩
abbrev S1024x32768 : Shape := ⟨2, ![1024, 32768]⟩
abbrev S_ : Shape := ⟨0, ![]⟩
abbrev S1024x1 : Shape := ⟨2, ![1024, 1]⟩
abbrev S1024x2 : Shape := ⟨2, ![1024, 2]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024, .i32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024, .f32⟩
  | .hbm, ⟨35, _⟩ => ⟨S1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Flat.lean ====
/- The kernel's body as one short sequence of memory operations: the printed body's parts compute device ids, offsets
   and payloads between the operations, and here those stand at the operations that use them. -/
module

public import proofs.«01_k».proof.Proof.Gen.KernelIdeal.Skeleton
public import proofs.«01_k».proof.Proof.Gen.KernelIdeal.Launch

@[expose] public section

noncomputable section

namespace Cert.KernelIdeal.Own

open Idealize.ShloMosaic Idealize.ShloMosaic.TcCoe
open Idealize.SL.Sem
open Cert.KernelIdeal Cert.KernelIdeal.Gen

variable {F : FTy → Type} [FloatOps F]

/-- The index counted from the other end of the fifteen. -/
def rev (i : Fin 15) : Fin 15 := ⟨14 - i.val, by omega⟩

/-- The device the `i`-th barrier signal goes to. -/
def sigDev (d : Dev nD) : Fin 15 → Dev nD := fun
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩ | 7 => ⟨k0_dev8 d, k0_dev8_lt d⟩ | 8 => ⟨k0_dev9 d, k0_dev9_lt d⟩
  | 9 => ⟨k0_dev10 d, k0_dev10_lt d⟩ | 10 => ⟨k0_dev11 d, k0_dev11_lt d⟩ | 11 => ⟨k0_dev12 d, k0_dev12_lt d⟩
  | 12 => ⟨k0_dev13 d, k0_dev13_lt d⟩ | 13 => ⟨k0_dev14 d, k0_dev14_lt d⟩ | 14 => ⟨k0_dev15 d, k0_dev15_lt d⟩

/-- The device the `i`-th send goes to. -/
def sendDev (d : Dev nD) : Fin 15 → Dev nD := fun
  | 0 => ⟨k0_dev16 d, k0_dev16_lt d⟩ | 1 => ⟨k0_dev17 d, k0_dev17_lt d⟩ | 2 => ⟨k0_dev18 d, k0_dev18_lt d⟩
  | 3 => ⟨k0_dev19 d, k0_dev19_lt d⟩ | 4 => ⟨k0_dev20 d, k0_dev20_lt d⟩ | 5 => ⟨k0_dev21 d, k0_dev21_lt d⟩
  | 6 => ⟨k0_dev22 d, k0_dev22_lt d⟩ | 7 => ⟨k0_dev23 d, k0_dev23_lt d⟩ | 8 => ⟨k0_dev24 d, k0_dev24_lt d⟩
  | 9 => ⟨k0_dev25 d, k0_dev25_lt d⟩ | 10 => ⟨k0_dev26 d, k0_dev26_lt d⟩ | 11 => ⟨k0_dev27 d, k0_dev27_lt d⟩
  | 12 => ⟨k0_dev28 d, k0_dev28_lt d⟩ | 13 => ⟨k0_dev29 d, k0_dev29_lt d⟩ | 14 => ⟨k0_dev30 d, k0_dev30_lt d⟩

theorem inb15 (k : Fin 15) : ∀ a, (![k.val] : Fin 1 → Nat) a + S1.size a ≤ S15.size a := by revert k; decide
theorem inb4 (h : Fin 4) : ∀ a, (![h.val] : Fin 1 → Nat) a + S1.size a ≤ S4.size a := by revert h; decide
theorem inbSlot (k : Fin 15) : ∀ a, (![k.val, 0, 0] : Fin 3 → Nat) a + S1x16x128.size a ≤ S15x16x128.size a := by revert k; decide
theorem inbCol (h : Fin 4) : ∀ a, (![0, 512 * h.val] : Fin 2 → Nat) a + S2048x512.size a ≤ S2048x2048.size a := by revert h; decide

/-- Semaphore `k` of a row of fifteen; semaphore `h` of a row of four. -/
abbrev sem15 (a : DmaSems sig S15) (k : Fin 15) : DmaSem sig :=
  ((a.slice (Rect.unit (s := S15) ![k.val] S1.size (inb15 k))).squeeze S_ squeezes_S1_S_).sem
abbrev sem4 (a : DmaSems sig S4) (h : Fin 4) : DmaSem sig :=
  ((a.slice (Rect.unit (s := S4) ![h.val] S1.size (inb4 h))).squeeze S_ squeezes_S1_S_).sem

/-- Slot `k` of the landing buffer. -/
abbrev slotOf (a : Memref sig .tc .vmem S15x16x128 .f32) (k : Fin 15) : Memref sig .tc .vmem S16x128 .f32 :=
  (a.slice (Rect.unit (s := S15x16x128) ![k.val, 0, 0] S1x16x128.size (inbSlot k)) (fun _ => rfl)).squeeze S16x128 squeezes_S1x16x128_S16x128
/-- Columns `512 h … 512 h + 511` of the weights' scratch, and of the device's share of the weights. -/
abbrev colOf (a : Memref sig .tc .vmem S2048x2048 .f32) (h : Fin 4) : Memref sig .tc .vmem S2048x512 .f32 :=
  a.slice (Rect.unit (s := S2048x2048) ![0, 512 * h.val] S2048x512.size (inbCol h)) (fun _ => rfl)
abbrev wcolOf (a : Memref sig .tc .hbm S2048x16384 .f32) (d : Dev nD) (h : Fin 4) : Memref sig .tc .hbm S2048x512 .f32 :=
  a.slice (Rect.unit (s := S2048x16384) (k0_off1 d (BitVec.ofNat 32 (512 * h.val))) S2048x512.size (k0_off1_inb d h)) (fun _ => rfl)

abbrev PR := Prog (TpuEff nD τ sig (Elt F) Λ₀ .tc) PUnit

section Pieces

variable (arg0 : Memref sig .tc .vmem S1024x2048 .f32) (arg1 : Memref sig .tc .hbm S2048x16384 .f32)
  (arg2 : Memref sig .tc .vmem S1024x1 .i32) (arg3 : Memref sig .tc .vmem S8x128 .f32)
  (arg4 : Memref sig .tc .vmem S2048x2048 .f32) (arg5 : Memref sig .tc .vmem S16x128 .f32) (harg5 : arg5.IsWhole)
  (arg6 : Memref sig .tc .vmem S15x16x128 .f32) (arg7 : DmaSems sig S4) (arg8 : DmaSems sig S15) (arg9 : DmaSems sig S15)

/-- The barrier signals. -/
def signals (d : Dev nD) : List (Fin 15) → PR (F := F) → PR (F := F)
  | [], K => K
  | i :: l, K => .op (.semSignal (Dev.tc (sigDev d i)) (SemArray.scalar (sig.barrier 0 rfl) : Sems sig S_).sem ((1 : ℕ) : ℤ)) fun _ => signals d l K

/-- The copies of the weights' columns into the scratch. -/
def wcopies (d : Dev nD) : List (Fin 4) → PR (F := F) → PR (F := F)
  | [], K => K
  | h :: l, K => .op (.enqueueDma (wcolOf arg1 d h) (.here (colOf arg4 h)) (.dma (sem4 arg7 h)) (View.wordExact_bits rfl) (View.wordExact_bits rfl) ⟨Or.inl rfl, trivial⟩) fun _ => wcopies d l K

/-- The wait for one of them. -/
def wwait (d : Dev nD) (h : Fin 4) (K : PR (F := F)) : PR (F := F) :=
  .op (.waitDma2 (sem4 arg7 h) (wcolOf arg1 d h) (colOf arg4 h) (View.wordExact_bits rfl) (View.wordExact_bits rfl)) fun _ => K

def ldX (K : Vec F S1024x2048 .f32 → PR (F := F)) : PR (F := F) :=
  .op (.load arg0 (Rect.unit (s := S1024x2048) ![0, 0] S1024x2048.size inb_S1024x2048_S1024x2048_0_0).toLoadRect (View.loadsAt_vmem h_S1024x2048)) K
def ldCol (h : Fin 4) (K : Vec F S2048x512 .f32 → PR (F := F)) : PR (F := F) :=
  .op (.load arg4 (Rect.unit (s := S2048x2048) ![0, 512 * h.val] S2048x512.size (inbCol h)).toLoadRect (View.loadsAt_vmem h_S2048x512)) K
def ldLab (K : Vec F S1024x1 .i32 → PR (F := F)) : PR (F := F) :=
  .op (.load arg2 (Rect.unit (s := S1024x1) ![0, 0] S1024x1.size inb_S1024x1_S1024x1_0_0).toLoadRect (View.loadsAt_vmem h_S1024x1)) K

/-- A send of the partial sums to device `p`. -/
def sendTo (p : Dev nD) (i : Fin 15) (K : PR (F := F)) : PR (F := F) :=
  .op (.enqueueDma arg5 (.remote (Dev.tc p) (slotOf arg6 (rev i)) (.dma (sem15 arg8 i))) (.dma (sem15 arg9 (rev i))) harg5.wordExact ((View.wordExact_bits rfl).reshape _ _) ⟨⟨rfl, Or.inl rfl⟩, trivial⟩) fun _ => K

/-- The sends of the partial sums. -/
def sends (d : Dev nD) : List (Fin 15) → PR (F := F) → PR (F := F)
  | [], K => K
  | i :: l, K => sendTo arg5 harg5 arg6 arg8 arg9 (sendDev d i) i (sends d l K)

/-- The waits: for each send, its own semaphore and the landing that mirrors it. -/
def waits : List (Fin 15) → PR (F := F) → PR (F := F)
  | [], K => K
  | i :: l, K => .op (.waitDma2 (sem15 arg8 i) (slotOf arg6 (rev i)) arg5 ((View.wordExact_bits rfl).reshape _ _) harg5.wordExact) fun _ =>
      .op (.waitDma2 (sem15 arg9 (rev i)) arg5 (slotOf arg6 (rev i)) harg5.wordExact ((View.wordExact_bits rfl).reshape _ _)) fun _ => waits l K

/-- The landed partial sums added one by one. -/
def gathers : List (Fin 15) → FVec F S16x128 .f32 → (FVec F S16x128 .f32 → PR (F := F)) → PR (F := F)
  | [], acc, K => K acc
  | k :: l, acc, K => .op (.load arg6 (Rect.unit (s := S15x16x128) ![k.val, 0, 0] S1x16x128.size (inbSlot k)).toLoadRect (View.loadsAt_vmem h_S1x16x128)) fun v =>
      gathers l (addf acc (shapeCast S16x128 v shapeCasts_S1x16x128_S16x128)) K

/-- What is stored to the output once the partial sums are added. -/
def outOf (v : FVec F S16x128 .f32) : FVec F S8x128 .f32 :=
  subf (log (extractStridedSlice S8x128 ![0, 0] v slices_S16x128_o0_0_S8x128)) (log (extractStridedSlice S8x128 ![8, 0] v slices_S16x128_o8_0_S8x128))

def idx15 : List (Fin 15) := [0, 1, 2, 3, 4, 5, 6, 7, 8, 9, 10, 11, 12, 13, 14]

/-- The first column of the device's slice of the vocabulary, as the body computes it. -/
def colBase (d : Dev nD) : BitVec 32 :=
  Scalar.addi (Scalar.muli (Scalar.remsi (Scalar.divsi (Dev.word d) 4#32) 2#32) 16384#32)
    (Scalar.muli (Scalar.addi (Scalar.muli (Scalar.remsi (Scalar.divsi (Dev.word d) 8#32) 2#32) 4#32) (Scalar.remsi (Scalar.divsi (Dev.word d) 1#32) 4#32)) 2048#32)

/-- The partial sums of the exponentials the body stores, of the values loaded. -/
def sumsOf (x0 x1 x2 x3 : Vec F S1024x2048 .f32) (w0 w1 w2 w3 : Vec F S2048x512 .f32) : FVec F S8x128 .f32 :=
  k0_pay16 (k0_pay2 (F := F)) (k0_pay10 (k0_pay2 (F := F)) (k0_pay5 x1 w1) (k0_pay7 (k0_pay2 (F := F)) (k0_pay3 (F := F)) x0 w0)) (k0_pay12 x3 w3) (k0_pay13 x2 w2)
/-- The partial sums of the labels' exponentials the body stores. -/
def labsOf (base : BitVec 32) (x0 x1 x2 x3 : Vec F S1024x2048 .f32) (w0 w1 w2 w3 : Vec F S2048x512 .f32) (l0 l1 l2 l3 : Vec F S1024x1 .i32) : FVec F S8x128 .f32 :=
  k0_pay17 base (k0_pay2 (F := F))
    (k0_pay11 base (k0_pay2 (F := F)) (k0_pay5 x1 w1) (k0_pay8 base (k0_pay2 (F := F)) (k0_pay4 (F := F)) x0 w0 l0) l1)
    (k0_pay12 x3 w3) (k0_pay14 base x2 w2 l2) l3

/-- From the barrier wait on. -/
def flatTail (d : Dev nD) : PR (F := F) :=
  .op (.semWait (SemArray.scalar (sig.barrier 0 rfl) : Sems sig S_).sem ((15 : ℕ) : ℤ)) fun _ =>
  sends arg5 harg5 arg6 arg8 arg9 d idx15 <|
  waits arg5 harg5 arg6 arg8 arg9 idx15 <|
  .op (.load arg5 (Rect.unit (s := S16x128) ![0, 0] S16x128.size inb_S16x128_S16x128_0_0).toLoadRect (View.loadsAt_vmem h_S16x128)) fun (acc : Vec F S16x128 .f32) =>
  gathers arg6 idx15 acc fun v =>
  .op (.load arg3 (Rect.unit (s := S8x128) ![0, 0] S8x128.size inb_S8x128_S8x128_0_0).toLoadRect (View.loadsAt_vmem h_S8x128)) fun _ =>
  .op (.store arg3 (Rect.unit (s := S8x128) ![0, 0] S8x128.size inb_S8x128_S8x128_0_0) (outOf v) Finset.univ (View.stores_vmem_bits_univ h_S8x128 rfl) (.inl rfl)) fun _ =>
  .ret ⟨⟩

/-- The two stores of the partial sums. -/
def stores (s lle : FVec F S8x128 .f32) (K : PR (F := F)) : PR (F := F) :=
  .op (.load arg5 (Rect.unit (s := S16x128) ![0, 0] S8x128.size inb_S16x128_S8x128_0_0).toLoadRect (View.loadsAt_vmem h_S8x128)) fun _ =>
  .op (.store arg5 (Rect.unit (s := S16x128) ![0, 0] S8x128.size inb_S16x128_S8x128_0_0) s Finset.univ (View.stores_vmem_bits_univ h_S8x128 rfl) (.inl rfl)) fun _ =>
  .op (.load arg5 (Rect.unit (s := S16x128) ![8, 0] S8x128.size inb_S16x128_S8x128_8_0).toLoadRect (View.loadsAt_vmem h_S8x128)) fun _ =>
  .op (.store arg5 (Rect.unit (s := S16x128) ![8, 0] S8x128.size inb_S16x128_S8x128_8_0) lle Finset.univ (View.stores_vmem_bits_univ h_S8x128 rfl) (.inl rfl)) fun _ => K

/-- The body. -/
def flat : PR (F := F) :=
  .op .deviceId fun d =>
  signals d idx15 <|
  wcopies arg1 arg4 arg7 d [0, 1, 2, 3] <|
  wwait arg1 arg4 arg7 d 0 <| ldX arg0 fun x0 => ldCol arg4 0 fun w0 =>
  wwait arg1 arg4 arg7 d 1 <| ldX arg0 fun x1 => ldCol arg4 1 fun w1 => ldLab arg2 fun l0 =>
  wwait arg1 arg4 arg7 d 2 <| ldX arg0 fun x2 => ldCol arg4 2 fun w2 => ldLab arg2 fun l1 =>
  wwait arg1 arg4 arg7 d 3 <| ldX arg0 fun x3 => ldCol arg4 3 fun w3 => ldLab arg2 fun l2 => ldLab arg2 fun l3 =>
  stores arg5 (sumsOf x0 x1 x2 x3 w0 w1 w2 w3) (labsOf (colBase d) x0 x1 x2 x3 w0 w1 w2 w3 l0 l1 l2 l3) <|
  flatTail arg3 arg5 harg5 arg6 arg8 arg9 d

end Pieces

set_option maxRecDepth 65536 in
/-- The printed body is that sequence: by definitional unfolding. -/
theorem body_eq_flat (arg0 : Memref sig .tc .vmem S1024x2048 .f32) (harg0 : arg0.IsWhole) (arg1 : Memref sig .tc .hbm S2048x16384 .f32) (harg1 : arg1.IsWhole) (arg2 : Memref sig .tc .vmem S1024x1 .i32) (harg2 : arg2.IsWhole) (arg3 : Memref sig .tc .vmem S8x128 .f32) (harg3 : arg3.IsWhole) (arg4 : Memref sig .tc .vmem S2048x2048 .f32) (harg4 : arg4.IsWhole) (arg5 : Memref sig .tc .vmem S16x128 .f32) (harg5 : arg5.IsWhole) (arg6 : Memref sig .tc .vmem S15x16x128 .f32) (harg6 : arg6.IsWhole) (arg7 : DmaSems sig S4) (arg8 : DmaSems sig S15) (arg9 : DmaSems sig S15) :
    cc0__body (F := F) arg0 harg0 arg1 harg1 arg2 harg2 arg3 harg3 arg4 harg4 arg5 harg5 arg6 harg6 arg7 arg8 arg9
      = flat arg0 arg1 arg2 arg3 arg4 arg5 harg5 arg6 arg7 arg8 arg9 := rfl

end Cert.KernelIdeal.Own

end
-- ==== Proof.Common.lean ====
/- The exchange between the devices: who pays which semaphore, how much, and what it hands over.

   Every device sends its stored partial sums to each of the fifteen others and reads the fifteen it receives. Device `c`
   signals the barrier semaphore of `peer c i` for every `i`, which tells that device that slot `i` of `c`'s landing
   buffer may be written; it copies four blocks of columns of its weights into scratch, and after its own barrier wait it
   sends its sums to slot `rev i` of `peer c i` for every `i`. -/
module

public import proofs.«01_k».proof.Proof.Flat
public import Idealize.ShloMosaic.Lib.Rounds
public import Idealize.ShloMosaic.Lib.Transfers
public import Idealize.ShloMosaic.Lib.Pipeline.Regions
public import Idealize.ShloMosaic.Lib.Pipeline.RegionTalk
public import Idealize.ShloMosaic.Lib.Pipeline.Kit
public import Idealize.ShloMosaic.Lib.Tactic

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Cert.KernelIdeal Cert.KernelIdeal.Gen

variable {F : FTy → Type} [FloatOps F]

/-! ## The resources: the pipeline's own rounds and the exchange's, whose duties are fifteen -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The devices -/

/-- The device `i + 1` further on. -/
def peer (c : Dev nD) (i : Fin 15) : Dev nD := ⟨(c.val + i.val + 1) % 16, Nat.mod_lt _ (by decide)⟩

theorem rev_rev (i : Fin 15) : rev (rev i) = i := by revert i; decide
theorem peer_rev (c : Dev nD) (i : Fin 15) : peer (peer c i) (rev i) = c := by revert c i; decide
theorem rev_peer (c : Dev nD) (i : Fin 15) : peer (peer c (rev i)) i = c := by revert c i; decide
theorem sigDev_eq (c : Dev nD) (i : Fin 15) : sigDev c i = peer c i := by revert c i; decide
theorem sendDev_eq (c : Dev nD) (i : Fin 15) : sendDev c i = peer c i := by revert c i; decide
/-- For a fixed distance, the devices are permuted. -/
def shift (i : Fin 15) : Dev nD ≃ Dev nD := ⟨fun c => peer c i, fun c => peer c (rev i), fun c => peer_rev c i, fun c => rev_peer c i⟩
def revEquiv : Fin 15 ≃ Fin 15 := ⟨rev, rev, rev_rev, rev_rev⟩

/-! ## The buffers and the semaphores -/

abbrev xM : Memref sig .tc .vmem S1024x2048 .f32 := Memref.whole cc0_stg0_0
abbrev labM : Memref sig .tc .vmem S1024x1 .i32 := Memref.whole cc0_stg1_0
abbrev outM : Memref sig .tc .vmem S8x128 .f32 := Memref.whole cc0_stg2_0
abbrev wM : Memref sig .tc .hbm S2048x16384 .f32 := Memref.whole main_arg1
abbrev wvM : Memref sig .tc .vmem S2048x2048 .f32 := Memref.whole cc0_scratch0
abbrev stM : Memref sig .tc .vmem S16x128 .f32 := Memref.whole cc0_scratch1
abbrev arM : Memref sig .tc .vmem S15x16x128 .f32 := Memref.whole cc0_scratch2
abbrev colM (h : Fin 4) : Memref sig .tc .vmem S2048x512 .f32 := colOf wvM h
abbrev wcolM (d : Dev nD) (h : Fin 4) : Memref sig .tc .hbm S2048x512 .f32 := wcolOf wM d h
abbrev slotM (k : Fin 15) : Memref sig .tc .vmem S16x128 .f32 := slotOf arM k

abbrev barS : Sem sig := (SemArray.scalar (sig.barrier 0 rfl) : Sems sig S_).sem
abbrev locS (h : Fin 4) : DmaSem sig := sem4 cc0_scratch3 h
abbrev sendS (i : Fin 15) : DmaSem sig := sem15 cc0_scratch4 i
abbrev recvS (k : Fin 15) : DmaSem sig := sem15 cc0_scratch5 k

abbrev barCell (c : Dev nD) : GSem nD τ sig := ((c : Thread nD τ), .reg barS)
abbrev locCell (c : Dev nD) (h : Fin 4) : GSem nD τ sig := ((c : Thread nD τ), .dma (locS h))
abbrev sendCell (c : Dev nD) (i : Fin 15) : GSem nD τ sig := ((c : Thread nD τ), .dma (sendS i))
abbrev recvCell (c : Dev nD) (k : Fin 15) : GSem nD τ sig := ((c : Thread nD τ), .dma (recvS k))

theorem locS_val (h : Fin 4) : (locS h).val = 3 + h.val := by revert h; decide
theorem sendS_val (i : Fin 15) : (sendS i).val = 7 + i.val := by revert i; decide
theorem recvS_val (k : Fin 15) : (recvS k).val = 22 + k.val := by revert k; decide

/-- The kernel's own semaphores. -/
abbrev KS : Type := Fin 4 ⊕ (Fin 15 ⊕ Fin 15)
abbrev osem : KS → SemLoc sig := Sum.elim (fun h => .dma (locS h)) (Sum.elim (fun i => .dma (sendS i)) (fun k => .dma (recvS k)))

/-- What a copy of a block of columns, and a send, add to their semaphores. -/
abbrev NW : ℕ := (colM 0).view.dmaCredit
abbrev NS : ℕ := (slotM 0).view.dmaCredit
theorem NW_pos : 0 < NW := View.dmaCredit_pos _ (by decide)
theorem NS_pos : 0 < NS := View.dmaCredit_pos _ (by decide)

/-! ## What the buffers hold -/

/-- The weights on every device, and the partial sums each stores: what the exchange is stated at. -/
structure Conts (F : FTy → Type) where
  /-- A device's weights. -/
  W : Dev nD → (main_arg1 : Ref sig .tc).ty.Contents (Elt F)
  /-- What it stores and sends. -/
  St : Dev nD → Vec F S16x128 .f32

abbrev slotPts (c : Dev nD) (k : Fin 15) (f : (cc0_scratch2 : Ref sig .tc).ty.Contents (Elt F)) : sProp 𝕄 :=
  (slotM k).view.loc (c : Thread nD τ) ↦[(slotM k).view.set]{fullShare} f
abbrev colPts (c : Dev nD) (h : Fin 4) (f : (cc0_scratch0 : Ref sig .tc).ty.Contents (Elt F)) : sProp 𝕄 :=
  (colM h).view.loc (c : Thread nD τ) ↦[(colM h).view.set]{fullShare} f
/-- The four copies each hold a quarter-share token of the columns they read. -/
abbrev wcolPts (C : Conts F) (c : Dev nD) (h : Fin 4) : sProp 𝕄 :=
  (wcolM c h).view.loc (c : Thread nD τ) ↦[(wcolM c h).view.set]{shareTok fullShare 4 h} C.W c
/-- The fifteen sends each hold a share of the stored sums. -/
abbrev stPts (C : Conts F) (c : Dev nD) (i : Fin 15) : sProp 𝕄 :=
  (stM : Memref sig .tc .vmem S16x128 .f32).view.loc (c : Thread nD τ) ↦[(stM : Memref sig .tc .vmem S16x128 .f32).view.set]{shareTok fullShare 15 i} C.St c

/-! ## The schedule -/

/-- Handed to device `c`'s barrier by the device its `j`-th send goes to: the slot that send lands in, and that the
    slot's semaphore is open. -/
def barPay (c : Dev nD) (j : Fin 15) : sProp 𝕄 :=
  iprop((∃ f, slotPts (peer c j) (rev j) f) ∗ reached ER (recvCell (peer c j) (rev j)) 0)
/-- A slot holding what the device `k + 1` further on stored. -/
def recvPay (C : Conts F) (c : Dev nD) (k : Fin 15) : sProp 𝕄 :=
  iprop(∃ f, ⌜(slotM k).view.read (Elt F) f = C.St (peer c k)⌝ ∗ slotPts c k f)
def sendPay (C : Conts F) (c : Dev nD) (i : Fin 15) : sProp 𝕄 := stPts C c i
/-- A block of columns holding the device's weights, and the share of the weights read. -/
def locPay (C : Conts F) (c : Dev nD) (h : Fin 4) : sProp 𝕄 :=
  iprop((∃ f, ⌜(colM h).view.read (Elt F) f = (wcolM c h).view.read (Elt F) (C.W c)⌝ ∗ colPts c h f) ∗ wcolPts C c h)

/-- By the number of the semaphore. -/
def dmaPay (C : Conts F) (c : Dev nD) (n : ℕ) : sProp 𝕄 :=
  if n < 7 then locPay C c ⟨(n - 3) % 4, Nat.mod_lt _ (by decide)⟩
  else if n < 22 then sendPay C c ⟨(n - 7) % 15, Nat.mod_lt _ (by decide)⟩
  else recvPay C c ⟨(n - 22) % 15, Nat.mod_lt _ (by decide)⟩
def dmaAmt (n : ℕ) : ℕ := if n < 7 then NW else NS
theorem dmaAmt_pos (n : ℕ) : 0 < dmaAmt n := by unfold dmaAmt; split; exacts [NW_pos, NS_pos]

instance dmaPay_storable (C : Conts F) (c : Dev nD) (n : ℕ) : BI.Storable (upEmb : UEmb _ 𝕄) (dmaPay C c n) := by
  unfold dmaPay locPay sendPay recvPay
  (repeat' split) <;> infer_instance

def Rd (C : Conts F) : Rounds.Schedule (GSem nD τ sig) (Fin 15) 𝕄 where
  duties g r := if r = 0 ∧ g.1.2 = .tc then (match g.2 with | .reg s => if s = barS then Finset.univ else ∅ | .dma s => if 3 ≤ s.val then {0} else ∅) else ∅
  unitless _ := False
  amount g _ _ := match g.2 with | .reg _ => 1 | .dma s => dmaAmt s.val
  payload g _ j := match g.2 with | .reg _ => barPay g.1.1 j | .dma s => dmaPay C g.1.1 s.val
  amount_pos g _ _ _ := by
    rcases g with ⟨t, s | s⟩
    · exact Nat.one_pos
    · exact dmaAmt_pos _

instance Rd_payload_storable (C : Conts F) (g : GSem nD τ sig) (r : ℕ) (d : Fin 15) :
    BI.Storable (upEmb : UEmb _ 𝕄) ((Rd C).payload g r d) := by
  rcases g with ⟨t, s | s⟩
  · show BI.Storable upEmb (barPay t.1 d)
    unfold barPay; infer_instance
  · show BI.Storable upEmb (dmaPay C t.1 s.val)
    infer_instance

section Sched

variable (C : Conts F) (c : Dev nD)

theorem duties_bar : (Rd C).duties (barCell c) 0 = Finset.univ := rfl
theorem duties_dma (s : DmaSem sig) (hs : 3 ≤ s.val) : (Rd C).duties ((c : Thread nD τ), .dma s) 0 = {0} := by
  show (if (0 : ℕ) = 0 ∧ (c : Thread nD τ).2 = .tc then (if 3 ≤ s.val then {0} else ∅) else ∅) = _
  rw [if_pos ⟨rfl, rfl⟩, if_pos hs]
theorem duties_later (g : GSem nD τ sig) : ∀ r, 1 ≤ r → (Rd C).duties g r = ∅ :=
  fun r hr => by dsimp only [Rd]; rw [if_neg (fun h => by omega)]

theorem locS_ge (h : Fin 4) : 3 ≤ (locS h).val := by rw [locS_val]; omega
theorem sendS_ge (i : Fin 15) : 3 ≤ (sendS i).val := by rw [sendS_val]; omega
theorem recvS_ge (k : Fin 15) : 3 ≤ (recvS k).val := by rw [recvS_val]; omega

theorem duties_loc (h : Fin 4) : (Rd C).duties (locCell c h) 0 = {0} := duties_dma C c _ (locS_ge h)
theorem duties_send (i : Fin 15) : (Rd C).duties (sendCell c i) 0 = {0} := duties_dma C c _ (sendS_ge i)
theorem duties_recv (k : Fin 15) : (Rd C).duties (recvCell c k) 0 = {0} := duties_dma C c _ (recvS_ge k)

theorem amount_bar (j : Fin 15) : (Rd C).amount (barCell c) 0 j = 1 := rfl
theorem amount_loc (h : Fin 4) (j : Fin 15) : (Rd C).amount (locCell c h) 0 j = NW := by
  show dmaAmt (locS h).val = NW; unfold dmaAmt; rw [locS_val, if_pos (by omega)]
theorem amount_send (i : Fin 15) (j : Fin 15) : (Rd C).amount (sendCell c i) 0 j = NS := by
  show dmaAmt (sendS i).val = NS; unfold dmaAmt; rw [sendS_val, if_neg (by omega)]
theorem amount_recv (k : Fin 15) (j : Fin 15) : (Rd C).amount (recvCell c k) 0 j = NS := by
  show dmaAmt (recvS k).val = NS; unfold dmaAmt; rw [recvS_val, if_neg (by omega)]

theorem payload_bar (j : Fin 15) : (Rd C).payload (barCell c) 0 j = barPay c j := rfl
theorem payload_loc (h : Fin 4) (j : Fin 15) : (Rd C).payload (locCell c h) 0 j = locPay C c h := by
  show dmaPay C c (locS h).val = _; unfold dmaPay
  rw [if_pos (by rw [locS_val]; omega)]
  exact congrArg (locPay C c) (Fin.ext (by show ((locS h).val - 3) % 4 = _; rw [locS_val]; omega))
theorem payload_send (i : Fin 15) (j : Fin 15) : (Rd C).payload (sendCell c i) 0 j = sendPay C c i := by
  show dmaPay C c (sendS i).val = _; unfold dmaPay
  rw [if_neg (by rw [sendS_val]; omega), if_pos (by rw [sendS_val]; omega)]
  exact congrArg (sendPay C c) (Fin.ext (by show ((sendS i).val - 7) % 15 = _; rw [sendS_val]; omega))
theorem payload_recv (k : Fin 15) (j : Fin 15) : (Rd C).payload (recvCell c k) 0 j = recvPay C c k := by
  show dmaPay C c (recvS k).val = _; unfold dmaPay
  rw [if_neg (by rw [recvS_val]; omega), if_neg (by rw [recvS_val]; omega)]
  exact congrArg (recvPay C c) (Fin.ext (by show ((recvS k).val - 22) % 15 = _; rw [recvS_val]; omega))

theorem expect_bar : (Rd C).expect (barCell c) 0 = 15 := by
  unfold Schedule.expect Schedule.amountOf; rw [duties_bar]; rfl
theorem expect_loc (h : Fin 4) : (Rd C).expect (locCell c h) 0 = NW := by
  unfold Schedule.expect Schedule.amountOf; rw [duties_loc, Finset.sum_singleton, amount_loc]
theorem expect_send (i : Fin 15) : (Rd C).expect (sendCell c i) 0 = NS := by
  unfold Schedule.expect Schedule.amountOf; rw [duties_send, Finset.sum_singleton, amount_send]
theorem expect_recv (k : Fin 15) : (Rd C).expect (recvCell c k) 0 = NS := by
  unfold Schedule.expect Schedule.amountOf; rw [duties_recv, Finset.sum_singleton, amount_recv]

theorem rest_bar : bigSep ((Rd C).duties (barCell c) 0 \ ∅) (fun j => (Rd C).payload (barCell c) 0 j) = bigSep Finset.univ (barPay (F := F) c) := by
  rw [Finset.sdiff_empty, duties_bar]; rfl
theorem rest_loc (h : Fin 4) : bigSep ((Rd C).duties (locCell c h) 0 \ ∅) (fun j => (Rd C).payload (locCell c h) 0 j) = locPay C c h := by
  rw [Finset.sdiff_empty, duties_loc, bigSep_singleton, payload_loc]
theorem rest_send (i : Fin 15) : bigSep ((Rd C).duties (sendCell c i) 0 \ ∅) (fun j => (Rd C).payload (sendCell c i) 0 j) = sendPay C c i := by
  rw [Finset.sdiff_empty, duties_send, bigSep_singleton, payload_send]
theorem rest_recv (k : Fin 15) : bigSep ((Rd C).duties (recvCell c k) 0 \ ∅) (fun j => (Rd C).payload (recvCell c k) 0 j) = recvPay C c k := by
  rw [Finset.sdiff_empty, duties_recv, bigSep_singleton, payload_recv]

end Sched

/-! ## What each device owes at launch; the levels -/

/-- The units still to be signalled to the barriers of the listed devices, and the sends still to be made. -/
def barDue (c : Dev nD) (l : List (Fin 15)) : CellTallies nD τ sig Unit := (l.map fun i => tallyAt (barCell (peer c i)) () 1).sum
def sendDue (c : Dev nD) (l : List (Fin 15)) : CellTallies nD τ sig Unit := (l.map fun i => tallyAt (recvCell (peer c i) (rev i)) () NS).sum
def O₀ (c : Dev nD) : CellTallies nD τ sig Unit := sendDue c idx15 + barDue c idx15

theorem barDue_cons (c : Dev nD) (i : Fin 15) (l : List (Fin 15)) : barDue c (i :: l) = tallyAt (barCell (peer c i)) () 1 + barDue c l := List.sum_cons
theorem sendDue_cons (c : Dev nD) (i : Fin 15) (l : List (Fin 15)) : sendDue c (i :: l) = tallyAt (recvCell (peer c i) (rev i)) () NS + sendDue c l := List.sum_cons
theorem barDue_nil (c : Dev nD) : barDue c [] = 0 := rfl
theorem sendDue_nil (c : Dev nD) : sendDue c [] = 0 := rfl

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma s => if 22 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 15) : lv (recvCell c k) () = 2 := by
  show (if 22 ≤ (recvS k).val then 2 else 0) = 2; rw [recvS_val, if_pos (by omega)]
theorem lv_loc (c : Dev nD) (h : Fin 4) : lv (locCell c h) () = 0 := by
  show (if 22 ≤ (locS h).val then 2 else 0) = 0; rw [locS_val, if_neg (by omega)]

theorem sendDue_pos {c : Dev nD} {l : List (Fin 15)} {g : GSem nD τ sig} {u : Unit} (h : 0 < sendDue c l g u) :
    ∃ i, g = recvCell (peer c i) (rev i) := by
  induction l with
  | nil => exact absurd h (Nat.lt_irrefl 0)
  | cons i l ih =>
    rw [sendDue_cons, Pi.add_apply, Finsupp.add_apply] at h
    rcases Nat.add_pos_iff_pos_or_pos.mp h with h | h
    · rw [tallyAt_apply] at h
      split at h
      · next hg => exact ⟨i, hg.1⟩
      · exact absurd h (Nat.lt_irrefl 0)
    · exact ih h
theorem barDue_pos {c : Dev nD} {l : List (Fin 15)} {g : GSem nD τ sig} {u : Unit} (h : 0 < barDue c l g u) :
    ∃ i, g = barCell (peer c i) := by
  induction l with
  | nil => exact absurd h (Nat.lt_irrefl 0)
  | cons i l ih =>
    rw [barDue_cons, Pi.add_apply, Finsupp.add_apply] at h
    rcases Nat.add_pos_iff_pos_or_pos.mp h with h | h
    · rw [tallyAt_apply] at h
      split at h
      · next hg => exact ⟨i, hg.1⟩
      · exact absurd h (Nat.lt_irrefl 0)
    · exact ih h

/-- While only sends are owed, a device may wait on a cell below the receive cells. -/
theorem mayWait_send (c : Dev nD) (l : List (Fin 15)) (sm : SemLoc sig) (hsm : lv ((c : Thread nD τ), sm) () < 2) :
    (levAts L lv : sProp 𝕄) ⊢ MayWait (c : Thread nD τ) sm () (sendDue c l) :=
  MayOwe.of_cut (L := L) (lev := lv) (lv ((c : Thread nD τ), sm) ())
    (fun p hp => by rw [Finset.mem_singleton.mp hp, L_tc]; exact Finset.mem_singleton_self _)
    (fun g u hg => by obtain ⟨i, rfl⟩ := sendDue_pos hg; rw [L_tc]; exact Finset.mem_singleton_self _)
    (fun p hp => by rw [Finset.mem_singleton.mp hp])
    (fun g u hg => by obtain ⟨i, rfl⟩ := sendDue_pos hg; rw [show lv (recvCell (peer c i) (rev i)) u = 2 from lv_recv _ _]; exact hsm)

/-! ## The cells, as sets, and the records of them all -/

theorem osem_inj : Function.Injective osem := by decide
theorem osem_ne_bar : ∀ k : KS, osem k ≠ .reg barS := by decide

def barEmb : Dev nD ↪ GSem nD τ sig := ⟨fun c => barCell c, fun _ _ h => congrArg (fun g : GSem nD τ sig => g.1.1) h⟩
def ownEmb : Dev nD × KS ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

theorem bar_mem (c : Dev nD) : barCell c ∈ (barCells ∪ ownCells : Finset (GSem nD τ sig)) :=
  Finset.mem_union_left _ (Finset.mem_map_of_mem barEmb (Finset.mem_univ c))
theorem own_mem (c : Dev nD) (k : KS) : ((c : Thread nD τ), osem k) ∈ (barCells ∪ ownCells : Finset (GSem nD τ sig)) :=
  Finset.mem_union_right _ (Finset.mem_map_of_mem ownEmb (Finset.mem_univ (c, k)))

/-- What every device may consult: all the invariants under one map of names; that every barrier's first round is on. -/
def records (C : Conts F) (κ : GSem nD τ sig → ℕ) : sProp 𝕄 :=
  iprop((bigSep (barCells ∪ ownCells) fun g => cellInv ER (Rd C) (κ g) g) ∗ bigSep barCells fun g => reached ER g 0)

instance records_persistent (C : Conts F) (κ : GSem nD τ sig → ℕ) : BI.Persistent (records C κ) := by unfold records; infer_instance

theorem inv_bar (C : Conts F) (κ : GSem nD τ sig → ℕ) (c : Dev nD) : (records C κ : sProp 𝕄) ⊢ cellInv ER (Rd C) (κ (barCell c)) (barCell c) := by
  unfold records; iintro ⟨H, -⟩; iapply (show (bigSep (barCells ∪ ownCells) fun g => (cellInv ER (Rd C) (κ g) g : sProp 𝕄)) ⊢ cellInv ER (Rd C) (κ (barCell c)) (barCell c) from bigSep_elim (bar_mem c)); iexact H
theorem inv_own (C : Conts F) (κ : GSem nD τ sig → ℕ) (c : Dev nD) (k : KS) :
    (records C κ : sProp 𝕄) ⊢ cellInv ER (Rd C) (κ ((c : Thread nD τ), osem k)) ((c : Thread nD τ), osem k) := by
  unfold records; iintro ⟨H, -⟩;
  iapply (show (bigSep (barCells ∪ ownCells) fun g => (cellInv ER (Rd C) (κ g) g : sProp 𝕄)) ⊢ cellInv ER (Rd C) (κ ((c : Thread nD τ), osem k)) ((c : Thread nD τ), osem k) from bigSep_elim (own_mem c k)); iexact H
theorem reached_bar (C : Conts F) (κ : GSem nD τ sig → ℕ) (c : Dev nD) : (records C κ : sProp 𝕄) ⊢ reached ER (barCell c) 0 := by
  unfold records; iintro ⟨-, H⟩
  iapply (show (bigSep barCells fun g => (reached ER g 0 : sProp 𝕄)) ⊢ reached ER (barCell c) 0 from bigSep_elim (Finset.mem_map_of_mem barEmb (Finset.mem_univ c))); iexact H
theorem inv_loc (C : Conts F) (κ : GSem nD τ sig → ℕ) (c : Dev nD) (h : Fin 4) : (records C κ : sProp 𝕄) ⊢ cellInv ER (Rd C) (κ (locCell c h)) (locCell c h) :=
  inv_own C κ c (.inl h)
theorem inv_send (C : Conts F) (κ : GSem nD τ sig → ℕ) (c : Dev nD) (i : Fin 15) : (records C κ : sProp 𝕄) ⊢ cellInv ER (Rd C) (κ (sendCell c i)) (sendCell c i) :=
  inv_own C κ c (.inr (.inl i))
theorem inv_recv (C : Conts F) (κ : GSem nD τ sig → ℕ) (c : Dev nD) (i : Fin 15) : (records C κ : sProp 𝕄) ⊢ cellInv ER (Rd C) (κ (recvCell c i)) (recvCell c i) :=
  inv_own C κ c (.inr (.inr i))

theorem close (C : Conts F) (κ : ℕ) (g : GSem nD τ sig) :
    iprop(cellInv ER (Rd C) κ g ∗ atPos ER g (0 + 1) ∅ 0) ⊢ (|={Set.univ}=> semVal g 0 : sProp 𝕄) :=
  Rounds.cell_close ER (Rd C) (Set.mem_univ κ) id (duties_later C g)

end Cert.KernelIdeal.Own

end
-- ==== Proof.Loops.lean ====
/- The body's five repetitions — the barrier signals, the copies of the weights' columns, the sends, the waits, the
   additions — each by induction on the list of indices it runs over. -/
module

public import proofs.«01_k».proof.Proof.Common
public import Idealize.ShloMosaic.Lib.Pipeline.BigSepL

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Cert.KernelIdeal Cert.KernelIdeal.Gen

variable {F : FTy → Type} [FloatOps F]

local notation "𝕄" => MT nD τ sig Unit (Elt F) ℕ UU ℕ

variable (C : Conts F) (κ : GSem nD τ sig → ℕ) (c : Dev nD)

theorem bar_handed (i : Fin 15) : iprop((∃ f, slotPts (F := F) c i f) ∗ reached ER (recvCell c i) 0) ⊢ (barPay (peer c i) (rev i) : sProp 𝕄) := by
  unfold barPay; rw [peer_rev, rev_rev]

/-- The barrier signals: slot `i` goes to `peer c i`, with the word that its semaphore is open. -/
theorem signals_wp (l : List (Fin 15)) (O : CellTallies nD τ sig Unit) (W : Waits sig Unit) (K : PR (F := F)) (Q : PUnit → sProp 𝕄) :
    iprop(records C κ ∗ owes (c : Thread nD τ) (O + barDue c l) W
        ∗ bigSepL l fun i => iprop(dutyTok ER (barCell (peer c i)) 0 (rev i) ∗ (∃ f, slotPts (F := F) c i f) ∗ reached ER (recvCell c i) 0))
      ⊢ iprop((owes (c : Thread nD τ) O W -∗ wp frame (wpE (defs₀ (F := F)) 𝒱₀ (c : Thread nD τ) none) Set.univ K Q) -∗ wp frame (wpE (defs₀ (F := F)) 𝒱₀ (c : Thread nD τ) none) Set.univ (signals c l K) Q) := by
  induction l with
  | nil =>
    rw [barDue_nil, add_zero]
    iintro ⟨-, HO, -⟩ Hk
    iapply Hk; iexact HO
  | cons i l ih =>
    rw [bigSepL_cons']
    unfold signals
    rw [sigDev_eq]
    iintro ⟨#HR, HO, ⟨Ht, Hs, Hr⟩, Hl⟩ Hk
    iapply (Rounds.wp_signal 𝒱₀ ER (Rd C) (c : Thread nD τ) none (dst := (peer c i : Thread nD τ)) (sem := barS) (r := 0) (d := rev i)
        (κ := κ (barCell (peer c i))) (by rw [duties_bar]; exact Finset.mem_univ _) (amount_bar C (peer c i) _) () (O₀ := O + barDue c (i :: l)) (O + barDue c l)
        (by rw [barDue_cons, ← add_assoc, add_right_comm])) $$ [HO Ht Hs Hr]
    · isplitr; · iapply (inv_bar C κ (peer c i)); iexact HR
      isplitl [HO]; · iexact HO
      isplitl [Ht]; · iexact Ht
      isplitl [Hs Hr]
      · rw [payload_bar]; iapply (bar_handed (F := F) c i)
        isplitl [Hs] <;> iassumption
      · iapply (reached_bar C κ (peer c i)); iexact HR
    iintro HO
    iapply ih $$ [HO Hl] Hk
    isplitr; · iexact HR
    isplitl [HO] <;> iassumption

theorem col_lands (h : Fin 4) (f : (cc0_scratch0 : Ref sig .tc).ty.Contents (Elt F)) :
    iprop(colPts c h ((colM h).view.write (Elt F) f ((wcolM c h).view.read (Elt F) (C.W c)) Finset.univ) ∗ wcolPts C c h) ⊢ (locPay C c h : sProp 𝕄) := by
  unfold locPay
  iintro ⟨Hc, Hw⟩
  isplitl [Hc]
  · iexists ((colM h).view.write (Elt F) f ((wcolM c h).view.read (Elt F) (C.W c)) Finset.univ)
    isplitr
    · ipureintro; exact View.read_write_univ _ _
    · iexact Hc
  · iexact Hw

/-- The copies of the columns. -/
theorem wcopies_wp (l : List (Fin 4)) (K : PR (F := F)) (Q : PUnit → sProp 𝕄) :
    iprop(records C κ ∗ bigSepL l fun h => iprop(wcolPts C c h ∗ (∃ f, colPts (F := F) c h f) ∗ dutyTok ER (locCell c h) 0 0 ∗ reached ER (locCell c h) 0))
      ⊢ iprop(((bigSepL l fun h => cred (tallyAt (locCell c h) () NW)) -∗ wp frame (wpE (defs₀ (F := F)) 𝒱₀ (c : Thread nD τ) none) Set.univ K Q) -∗ wp frame (wpE (defs₀ (F := F)) 𝒱₀ (c : Thread nD τ) none) Set.univ (wcopies wM wvM cc0_scratch3 c l K) Q) := by
  induction l with
  | nil =>
    rw [bigSepL_nil, bigSepL_nil]
    iintro ⟨-, HE⟩ Hk
    iapply Hk; iexact HE
  | cons h l ih =>
    rw [bigSepL_cons', bigSepL_cons']
    unfold wcopies
    iintro ⟨#HR, ⟨Hw, ⟨%f, Hc⟩, Ht, Hr⟩, Hl⟩ Hk
    iapply (Rounds.wp_copy_pointsTo 𝒱₀ ER (Rd C) (c : Thread nD τ) none (src := wcolM c h) (dst := colM h) (sem := .dma (locS h))
        (q := shareTok fullShare 4 h) (fs := C.W c) (fd := f) (r := 0) (d := 0) (κ := κ (locCell c h))
        (by rw [duties_loc]; exact Finset.mem_singleton_self _) () NW rfl (amount_loc C c h 0)
        (by rw [payload_loc]; exact col_lands C c h f)) $$ [Hw Hc Ht Hr]
    · isplitr; · iapply (inv_loc C κ c h); iexact HR
      isplitl [Hw]; · iexact Hw
      isplitl [Hc]; · iexact Hc
      isplitl [Ht] <;> iassumption
    iintro Hcr
    iapply ih $$ [Hl]
    · isplitr; · iexact HR
      iexact Hl
    iintro Hcl
    iapply Hk
    isplitl [Hcr] <;> iassumption

/-- The wait for one block of columns, while sends are owed. -/
theorem wwait_wp (h : Fin 4) (l : List (Fin 15)) (W : Waits sig Unit) (K : PR (F := F)) (Q : PUnit → sProp 𝕄) :
    iprop(records C κ ∗ levAts L lv ∗ owes (c : Thread nD τ) (sendDue c l) W ∗ cred (tallyAt (locCell c h) () NW) ∗ atPos ER (locCell c h) 0 ∅ 0)
      ⊢ iprop(((∃ W', owes (c : Thread nD τ) (sendDue c l) W') ∗ atPos ER (locCell c h) (0 + 1) ∅ 0 ∗ locPay C c h -∗ wp frame (wpE (defs₀ (F := F)) 𝒱₀ (c : Thread nD τ) none) Set.univ K Q)
          -∗ wp frame (wpE (defs₀ (F := F)) 𝒱₀ (c : Thread nD τ) none) Set.univ (wwait wM wvM cc0_scratch3 c h K) Q) := by
  unfold wwait
  iintro ⟨#HR, #Hlev, HO, Hc, Hat⟩ Hk
  iapply (Rounds.wp_wait_rest_token 𝒱₀ ER (Rd C) (c : Thread nD τ) none (κ := κ (locCell c h)) (sm := .dma (locS h))
      (wpE_waitDma2_eq (src := wcolM c h) (dst := colM h) 𝒱₀ (c : Thread nD τ) none Set.univ) (Set.mem_univ _) () (O := sendDue c l) (W := W) (R := 0) (m := 0) (T := ∅)
      ((Nat.zero_add _).trans (expect_loc C c h).symm)) $$ [HO Hc Hat]
  · isplitr; · iapply (inv_loc C κ c h); iexact HR
    isplitl [Hc]; · iexact Hc
    isplitl [HO]; · iexact HO
    isplitr; · iapply (mayWait_send c l (.dma (locS h)) (by rw [lv_loc]; decide)); iexact Hlev
    iexact Hat
  iintro ⟨HO, Hat, -, Hpay⟩
  ihave Hp := (Entails.of_eq (rest_loc C c h)) $$ Hpay
  iapply Hk
  isplitl [HO]; · iexists _; iexact HO
  isplitl [Hat] <;> iassumption

/-- The barrier wait: fifteen slots, one at each of the other devices. -/
theorem barwait_wp (l : List (Fin 15)) (W : Waits sig Unit) (K : PUnit → PR (F := F)) (Q : PUnit → sProp 𝕄) :
    iprop(records C κ ∗ levAts L lv ∗ owes (c : Thread nD τ) (sendDue c l) W ∗ cred (tallyAt (barCell c) () 15) ∗ atPos ER (barCell c) 0 ∅ 0)
      ⊢ iprop(((∃ W', owes (c : Thread nD τ) (sendDue c l) W') ∗ atPos ER (barCell c) (0 + 1) ∅ 0 ∗ bigSep Finset.univ (barPay (F := F) c) -∗ wp frame (wpE (defs₀ (F := F)) 𝒱₀ (c : Thread nD τ) none) Set.univ (K ⟨⟩) Q)
          -∗ wp frame (wpE (defs₀ (F := F)) 𝒱₀ (c : Thread nD τ) none) Set.univ (.op (.semWait barS ((15 : ℕ) : ℤ)) K) Q) := by
  iintro ⟨#HR, #Hlev, HO, Hc, Hat⟩ Hk
  iapply (Rounds.wp_wait_rest_token 𝒱₀ ER (Rd C) (c : Thread nD τ) none (κ := κ (barCell c)) (sm := .reg barS)
      (wpE_semWait_eq 𝒱₀ (c : Thread nD τ) none Set.univ) (Set.mem_univ _) () (O := sendDue c l) (W := W) (R := 0) (m := 0) (T := ∅)
      ((Nat.zero_add _).trans (expect_bar C c).symm)) $$ [HO Hc Hat]
  · isplitr; · iapply (inv_bar C κ c); iexact HR
    isplitl [Hc]; · iexact Hc
    isplitl [HO]; · iexact HO
    isplitr; · iapply (mayWait_send c l (.reg barS) (by rw [lv_bar]; decide)); iexact Hlev
    iexact Hat
  iintro ⟨HO, Hat, -, Hpay⟩
  ihave Hp := (Entails.of_eq (rest_bar C c)) $$ Hpay
  iapply Hk
  isplitl [HO]; · iexists _; iexact HO
  isplitl [Hat] <;> iassumption

theorem send_lands (i : Fin 15) (f : (cc0_scratch2 : Ref sig .tc).ty.Contents (Elt F)) :
    slotPts (peer c i) (rev i) ((slotM (rev i)).view.write (Elt F) f ((stM : Memref sig .tc .vmem S16x128 .f32).view.read (Elt F) (C.St c)) Finset.univ)
      ⊢ (recvPay C (peer c i) (rev i) : sProp 𝕄) := by
  unfold recvPay
  iintro H
  iexists ((slotM (rev i)).view.write (Elt F) f ((stM : Memref sig .tc .vmem S16x128 .f32).view.read (Elt F) (C.St c)) Finset.univ)
  isplitr
  · ipureintro
    rw [peer_rev]
    rw [View.read_write_univ]; exact View.read_whole _ _
  · iexact H

/-- The sends. -/
theorem sends_wp (l : List (Fin 15)) (O : CellTallies nD τ sig Unit) (W : Waits sig Unit) (K : PR (F := F)) (Q : PUnit → sProp 𝕄) :
    iprop(records C κ ∗ owes (c : Thread nD τ) (O + sendDue c l) W
        ∗ bigSepL l fun i => iprop(stPts C c i ∗ barPay (F := F) c i ∗ (dutyTok ER (sendCell c i) 0 0 ∗ reached ER (sendCell c i) 0) ∗ dutyTok ER (recvCell (peer c i) (rev i)) 0 0))
      ⊢ iprop((owes (c : Thread nD τ) O W ∗ (bigSepL l fun i => cred (tallyAt (sendCell c i) () NS)) -∗ wp frame (wpE (defs₀ (F := F)) 𝒱₀ (c : Thread nD τ) none) Set.univ K Q)
          -∗ wp frame (wpE (defs₀ (F := F)) 𝒱₀ (c : Thread nD τ) none) Set.univ (sends stM (Memref.isWhole_whole _) arM cc0_scratch4 cc0_scratch5 c l K) Q) := by
  induction l with
  | nil =>
    rw [sendDue_nil, add_zero, bigSepL_nil, bigSepL_nil]
    iintro ⟨-, HO, HE⟩ Hk
    iapply Hk
    isplitl [HO] <;> iassumption
  | cons i l ih =>
    rw [bigSepL_cons', bigSepL_cons']
    unfold sends
    rw [sendDev_eq]
    unfold sendTo
    iintro ⟨#HR, HO, ⟨Hst, Hb, ⟨HtS, HrS⟩, HtV⟩, Hl⟩ Hk
    unfold barPay
    icases Hb with ⟨⟨%f, Hs⟩, HrV⟩
    iapply (Rounds.wp_send_pointsTo 𝒱₀ ER (Rd C) (c : Thread nD τ) none (c' := (peer c i : Thread nD τ)) (src := stM) (dst := slotM (rev i))
        (sS := .dma (sendS i)) (sem := .dma (recvS (rev i))) (q := shareTok fullShare 15 i) (fs := C.St c) (κ₁ := κ (sendCell c i)) (κ₂ := κ (recvCell (peer c i) (rev i)))
        (r₁ := 0) (r₂ := 0) (d₁ := 0) (d₂ := 0) (fd := f)
        (by rw [duties_send]; exact Finset.mem_singleton_self _) (by rw [duties_recv]; exact Finset.mem_singleton_self _)
        () () NS rfl (amount_send C c i 0) (amount_recv C (peer c i) (rev i) 0) (O₀ := O + sendDue c (i :: l)) (O + sendDue c l) (by rw [sendDue_cons, ← add_assoc, add_right_comm]) (W := W)
        (by rw [payload_send]; exact BI.Entails.refl _)
        (by rw [payload_recv]; exact send_lands C c i f)) $$ [Hst Hs HO HtS HrS HtV HrV]
    · isplitr; · iapply (inv_send C κ c i); iexact HR
      isplitr; · iapply (inv_recv C κ (peer c i) (rev i)); iexact HR
      isplitl [Hst]; · iexact Hst
      isplitl [Hs]; · iexact Hs
      isplitl [HO]; · iexact HO
      isplitl [HtS]; · iexact HtS
      isplitl [HrS]; · iexact HrS
      isplitl [HtV] <;> iassumption
    iintro ⟨Hcr, HO⟩
    iapply ih $$ [HO Hl]
    · isplitr; · iexact HR
      isplitl [HO]; · iexact HO
      iexact Hl
    iintro ⟨HO, Hcl⟩
    iapply Hk
    isplitl [HO]; · iexact HO
    isplitl [Hcr] <;> iassumption

/-- The waits: every send's share of the stored sums back, every slot at what its sender stored. -/
theorem waits_wp (l : List (Fin 15)) (W : Waits sig Unit) (K : PR (F := F)) (Q : PUnit → sProp 𝕄) :
    iprop(records C κ ∗ owes (c : Thread nD τ) 0 W
        ∗ bigSepL l fun i => iprop((cred (tallyAt (sendCell c i) () NS) ∗ atPos ER (sendCell c i) 0 ∅ 0)
            ∗ (cred (tallyAt (recvCell c (rev i)) () NS) ∗ atPos ER (recvCell c (rev i)) 0 ∅ 0)))
      ⊢ iprop((∀ W', owes (c : Thread nD τ) 0 W' ∗ (bigSepL l fun i => iprop((stPts C c i ∗ atPos ER (sendCell c i) (0 + 1) ∅ 0)
              ∗ (recvPay C c (rev i) ∗ atPos ER (recvCell c (rev i)) (0 + 1) ∅ 0))) -∗ wp frame (wpE (defs₀ (F := F)) 𝒱₀ (c : Thread nD τ) none) Set.univ K Q)
          -∗ wp frame (wpE (defs₀ (F := F)) 𝒱₀ (c : Thread nD τ) none) Set.univ (waits stM (Memref.isWhole_whole _) arM cc0_scratch4 cc0_scratch5 l K) Q) := by
  induction l generalizing W with
  | nil =>
    rw [bigSepL_nil, bigSepL_nil]
    unfold waits
    iintro ⟨-, HO, HE⟩ Hk
    iapply Hk
    isplitl [HO] <;> iassumption
  | cons i l ih =>
    rw [bigSepL_cons', bigSepL_cons']
    unfold waits
    iintro ⟨#HR, HO, ⟨⟨HcS, HatS⟩, ⟨HcV, HatV⟩⟩, Hl⟩ Hk
    iapply (Rounds.wp_wait_rest_token 𝒱₀ ER (Rd C) (c : Thread nD τ) none (κ := κ (sendCell c i)) (sm := .dma (sendS i))
        (wpE_waitDma2_eq (src := slotM (rev i)) (dst := stM) 𝒱₀ (c : Thread nD τ) none Set.univ) (Set.mem_univ _) () (O := 0) (W := W) (R := 0) (m := 0) (T := ∅)
        ((Nat.zero_add _).trans (expect_send C c i).symm)) $$ [HO HcS HatS]
    · isplitr; · iapply (inv_send C κ c i); iexact HR
      isplitl [HcS]; · iexact HcS
      isplitl [HO]; · iexact HO
      isplitr; · rw [MayWait_zero]; iempintro
      iexact HatS
    iintro ⟨HO, HatS, -, Hpay⟩
    ihave Hst := (Entails.of_eq (rest_send C c i)) $$ Hpay
    unfold sendPay
    iapply (Rounds.wp_wait_rest_token 𝒱₀ ER (Rd C) (c : Thread nD τ) none (κ := κ (recvCell c (rev i))) (sm := .dma (recvS (rev i)))
        (wpE_waitDma2_eq (src := stM) (dst := slotM (rev i)) 𝒱₀ (c : Thread nD τ) none Set.univ) (Set.mem_univ _) () (O := 0) (W := insert (SemLoc.dma (sendS i), ()) W) (R := 0) (m := 0) (T := ∅)
        ((Nat.zero_add _).trans (expect_recv C c (rev i)).symm)) $$ [HO HcV HatV]
    · isplitr; · iapply (inv_recv C κ c (rev i)); iexact HR
      isplitl [HcV]; · iexact HcV
      isplitl [HO]; · iexact HO
      isplitr; · rw [MayWait_zero]; iempintro
      iexact HatV
    iintro ⟨HO, HatV, -, Hpay⟩
    ihave Hrv := (Entails.of_eq (rest_recv C c (rev i))) $$ Hpay
    iapply (ih (insert (SemLoc.dma (recvS (rev i)), ()) (insert (SemLoc.dma (sendS i), ()) W))) $$ [HO Hl]
    · isplitr; · iexact HR
      isplitl [HO] <;> iassumption
    iintro %W' ⟨HO, Hl⟩
    iapply Hk
    isplitl [HO]; · iexact HO
    isplitr [Hl]
    · isplitl [Hst HatS]
      · isplitl [Hst] <;> iassumption
      isplitl [Hrv] <;> iassumption
    iexact Hl

/-- The sums of the listed senders added to `acc`, in order. -/
def accum (l : List (Fin 15)) (acc : FVec F S16x128 .f32) : FVec F S16x128 .f32 := l.foldl (fun a k => addf a (C.St (peer c k))) acc

/-- A slot read as a `1 × 16 × 128` block and recast is the slot read as a `16 × 128` block. -/
theorem slot_loaded (k : Fin 15) (f : (cc0_scratch2 : Ref sig .tc).ty.Contents (Elt F)) :
    (shapeCast S16x128 ((arM.view.slice (Rect.unit (s := S15x16x128) ![k.val, 0, 0] S1x16x128.size (inbSlot k))).read (Elt F) f) shapeCasts_S1x16x128_S16x128 : Vec F S16x128 .f32)
      = (slotM k).view.read (Elt F) f := rfl

theorem slot_set (k : Fin 15) : (slotM k).view.set = (arM.access (Rect.unit (s := S15x16x128) ![k.val, 0, 0] S1x16x128.size (inbSlot k))).set :=
  View.set_reshape _ _

/-- The additions: the slots as they were. -/
theorem gathers_wp (l : List (Fin 15)) (acc : FVec F S16x128 .f32) (K : FVec F S16x128 .f32 → PR (F := F)) (Q : PUnit → sProp 𝕄) :
    (bigSepL l fun k => recvPay C c k)
      ⊢ iprop(((bigSepL l fun k => recvPay C c k) -∗ wp frame (wpE (defs₀ (F := F)) 𝒱₀ (c : Thread nD τ) none) Set.univ (K (accum C c l acc)) Q) -∗ wp frame (wpE (defs₀ (F := F)) 𝒱₀ (c : Thread nD τ) none) Set.univ (gathers arM l acc K) Q) := by
  induction l generalizing acc with
  | nil =>
    rw [bigSepL_nil]
    iintro HE Hk
    iapply Hk; iexact HE
  | cons k l ih =>
    rw [bigSepL_cons']
    unfold gathers
    iintro ⟨Hr, Hl⟩ Hk
    unfold recvPay
    icases Hr with ⟨%f, %hf, Hs⟩
    iapply (wp_load_rect 𝒱₀ (c : Thread nD τ) none Set.univ (m := arM) (r := Rect.unit (s := S15x16x128) ![k.val, 0, 0] S1x16x128.size (inbSlot k)) (S := (slotM k).view.set) (by rw [slot_set])) $$ Hs
    iintro Hs
    rw [show shapeCast S16x128 ((arM.access (Rect.unit (s := S15x16x128) ![k.val, 0, 0] S1x16x128.size (inbSlot k))).read (Elt F) f) shapeCasts_S1x16x128_S16x128 = C.St (peer c k) from hf]
    iapply (ih (addf acc (C.St (peer c k)))) $$ [Hl]
    · iexact Hl
    iintro Hl
    iapply Hk
    isplitl [Hs]
    · iexists f
      isplitr
      · ipureintro; exact hf
      iexact Hs
    iexact Hl

end Cert.KernelIdeal.Own

end
-- ==== Proof.Parts.lean ====
/- The buffers in parts: the landing buffer by slots, the weights' scratch by blocks of columns, the weights by shares;
   and the two stores that fill the buffer of partial sums. -/
module

public import proofs.«01_k».proof.Proof.Loops
public import Idealize.ShloMosaic.Lib.Ring
public import Idealize.ShloMosaic.Lib.Writes
public import Idealize.ShloMosaic.Lib.WritesUnit
public import Idealize.ShloMosaic.Lib.Pipeline.Value

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Ring (lead_disjoint lead_cover pointsTo_blocks pointsTo_blocks_join_exists)
open Cert.KernelIdeal Cert.KernelIdeal.Gen

variable {F : FTy → Type} [FloatOps F]

local notation "𝕄" => MT nD τ sig Unit (Elt F) ℕ UU ℕ

/-! ## Slots and columns -/

/-- The elements of slot `k`; of the `h`-th block of columns. -/
abbrev slotSet (k : Fin 15) : Finset S15x16x128.Idx := (slotM k).view.set
abbrev colSet (h : Fin 4) : Finset S2048x2048.Idx := (colM h).view.set

theorem slot_rect (k : Fin 15) : slotSet k = (Rect.unit (s := S15x16x128) ![k.val, 0, 0] S1x16x128.size (inbSlot k)).set :=
  (slot_set k).trans (View.set_slice_whole _ _)
theorem col_rect (h : Fin 4) : colSet h = (Rect.unit (s := S2048x2048) ![0, 512 * h.val] S2048x512.size (inbCol h)).set :=
  View.set_slice_whole _ _

theorem slots_disjoint (k k' : Fin 15) (h : k ≠ k') : Disjoint (slotSet k) (slotSet k') := by
  rw [slot_rect, slot_rect]
  exact lead_disjoint (s := S15x16x128) (0 : Fin 3) 1 (fun k : Fin 15 => ![k.val, 0, 0]) S1x16x128.size inbSlot
    (fun b => (Nat.one_mul _).symm) rfl k k' h
theorem slots_cover : Finset.univ.biUnion slotSet = Finset.univ := by
  rw [show slotSet = fun k => (Rect.unit (s := S15x16x128) ![k.val, 0, 0] S1x16x128.size (inbSlot k)).set from funext slot_rect]
  exact lead_cover (s := S15x16x128) (0 : Fin 3) 1 (fun k : Fin 15 => ![k.val, 0, 0]) S1x16x128.size inbSlot
    (fun b => (Nat.one_mul _).symm) (by decide) rfl (by decide) (by decide)
theorem cols_disjoint (h h' : Fin 4) (hne : h ≠ h') : Disjoint (colSet h) (colSet h') := by
  rw [col_rect, col_rect]
  exact lead_disjoint (s := S2048x2048) (1 : Fin 2) 512 (fun h : Fin 4 => ![0, 512 * h.val]) S2048x512.size inbCol
    (fun b => rfl) rfl h h' hne
theorem cols_cover : Finset.univ.biUnion colSet = Finset.univ := by
  rw [show colSet = fun h => (Rect.unit (s := S2048x2048) ![0, 512 * h.val] S2048x512.size (inbCol h)).set from funext col_rect]
  exact lead_cover (s := S2048x2048) (1 : Fin 2) 512 (fun h : Fin 4 => ![0, 512 * h.val]) S2048x512.size inbCol
    (fun b => rfl) (by decide) rfl (by decide) (by decide)

theorem bigSep_some {ι : Type} (s : Finset ι) {X : ι → Type} (Φ : (i : ι) → X i → sProp 𝕄) (f : (i : ι) → X i) :
    bigSep s (fun i => Φ i (f i)) ⊢ bigSep s fun i => iprop(∃ x, Φ i x) := by
  have h1 (i : ι) : Φ i (f i) ⊢ (iprop(∃ x, Φ i x) : sProp 𝕄) := by iintro H; iexists (f i); iexact H
  exact bigSep_mono fun i _ => h1 i

theorem slots_split (c : Dev nD) (f : (cc0_scratch2 : Ref sig .tc).ty.Contents (Elt F)) :
    (((c : Thread nD τ).loc cc0_scratch2) ↦{fullShare} f : sProp 𝕄) ⊢ bigSep Finset.univ fun k : Fin 15 => iprop(∃ f, slotPts (F := F) c k f) :=
  (Entails.of_eq (pointsTo_blocks (ℓ := (c : Thread nD τ).loc cc0_scratch2) slotSet slots_disjoint slots_cover f)).trans
    (bigSep_some (F := F) Finset.univ (fun k (f : (cc0_scratch2 : Ref sig .tc).ty.Contents (Elt F)) => slotPts (F := F) c k f) (fun _ => f))
theorem slots_join (c : Dev nD) : (bigSep Finset.univ fun k : Fin 15 => iprop(∃ f, slotPts (F := F) c k f))
    ⊢ (iprop(∃ f, ((c : Thread nD τ).loc cc0_scratch2) ↦{fullShare} f) : sProp 𝕄) :=
  pointsTo_blocks_join_exists (ℓ := (c : Thread nD τ).loc cc0_scratch2) slotSet slots_disjoint slots_cover (fun _ => Classical.choice (Elt.nonempty F .f32))
theorem cols_split (c : Dev nD) (f : (cc0_scratch0 : Ref sig .tc).ty.Contents (Elt F)) :
    (((c : Thread nD τ).loc cc0_scratch0) ↦{fullShare} f : sProp 𝕄) ⊢ bigSep Finset.univ fun h : Fin 4 => iprop(∃ f, colPts (F := F) c h f) :=
  (Entails.of_eq (pointsTo_blocks (ℓ := (c : Thread nD τ).loc cc0_scratch0) colSet cols_disjoint cols_cover f)).trans
    (bigSep_some (F := F) Finset.univ (fun h (f : (cc0_scratch0 : Ref sig .tc).ty.Contents (Elt F)) => colPts (F := F) c h f) (fun _ => f))
theorem cols_join (c : Dev nD) : (bigSep Finset.univ fun h : Fin 4 => iprop(∃ f, colPts (F := F) c h f))
    ⊢ (iprop(∃ f, ((c : Thread nD τ).loc cc0_scratch0) ↦{fullShare} f) : sProp 𝕄) :=
  pointsTo_blocks_join_exists (ℓ := (c : Thread nD τ).loc cc0_scratch0) colSet cols_disjoint cols_cover (fun _ => Classical.choice (Elt.nonempty F .f32))

/-! ## The weights, by shares -/

/-- What of the weights no copy reads while the four copies run. -/
def wRest (C : Conts F) (c : Dev nD) : sProp 𝕄 :=
  iprop((((c : Thread nD τ).loc main_arg1) ↦{shareDrop fullShare 4} C.W c)
    ∗ bigSep Finset.univ fun h : Fin 4 => ((c : Thread nD τ).loc main_arg1) ↦[Finset.univ \ (wcolM c h).view.set]{shareTok fullShare 4 h} C.W c)

theorem tok_cut (C : Conts F) (c : Dev nD) (h : Fin 4) :
    (((c : Thread nD τ).loc main_arg1) ↦{shareTok fullShare 4 h} C.W c : sProp 𝕄)
      ⊣⊢ iprop(wcolPts C c h ∗ ((c : Thread nD τ).loc main_arg1) ↦[Finset.univ \ (wcolM c h).view.set]{shareTok fullShare 4 h} C.W c) := by
  have h1 := pointsTo_union (nD := nD) (τ := τ) (sig := sig) (Ix := Unit) (Val := Elt F) (Name := ℕ) (U := UU) (Lvl := ℕ) (ℓ := (c : Thread nD τ).loc main_arg1) (q := shareTok fullShare 4 h) (f := C.W c)
    (I := (wcolM c h).view.set) (J := Finset.univ \ (wcolM c h).view.set) Finset.disjoint_sdiff
  rw [Finset.union_sdiff_of_subset (Finset.subset_univ _)] at h1
  exact h1

theorem w_split (C : Conts F) (c : Dev nD) :
    (((c : Thread nD τ).loc main_arg1) ↦{fullShare} C.W c : sProp 𝕄) ⊢ iprop(wRest C c ∗ bigSep Finset.univ fun h : Fin 4 => wcolPts C c h) := by
  unfold wRest
  refine (pointsTo_toks_split fullShare 4).trans ?_
  iintro ⟨Hd, Ht⟩
  ihave Ht2 := (show (bigSep Finset.univ fun h : Fin 4 => (((c : Thread nD τ).loc main_arg1) ↦{shareTok fullShare 4 h} C.W c : sProp 𝕄))
      ⊢ bigSep Finset.univ fun h : Fin 4 => iprop(wcolPts C c h ∗ ((c : Thread nD τ).loc main_arg1) ↦[Finset.univ \ (wcolM c h).view.set]{shareTok fullShare 4 h} C.W c)
      from bigSep_mono fun h _ => (tok_cut C c h).1) $$ Ht
  ihave Ht3 := (Entails.of_eq (bigSep_sep' _ _ _)) $$ Ht2
  icases Ht3 with ⟨Ha, Hb⟩
  isplitr [Ha]
  · isplitl [Hd] <;> iassumption
  iexact Ha
theorem w_join (C : Conts F) (c : Dev nD) :
    iprop(wRest C c ∗ bigSep Finset.univ fun h : Fin 4 => wcolPts C c h) ⊢ (((c : Thread nD τ).loc main_arg1) ↦{fullShare} C.W c : sProp 𝕄) := by
  unfold wRest
  refine BIBase.Entails.trans ?_ (pointsTo_toks_join fullShare 4)
  iintro ⟨⟨Hd, Hb⟩, Ha⟩
  isplitl [Hd]; · iexact Hd
  iapply (show iprop((bigSep Finset.univ fun h : Fin 4 => wcolPts C c h) ∗ (bigSep Finset.univ fun h : Fin 4 => ((c : Thread nD τ).loc main_arg1) ↦[Finset.univ \ (wcolM c h).view.set]{shareTok fullShare 4 h} C.W c))
      ⊢ (bigSep Finset.univ fun h : Fin 4 => (((c : Thread nD τ).loc main_arg1) ↦{shareTok fullShare 4 h} C.W c : sProp 𝕄))
      from (Entails.of_eq (bigSep_sep' _ _ _).symm).trans (bigSep_mono fun h _ => (tok_cut C c h).2))
  isplitl [Ha] <;> iassumption

/-! ## The two stores of the partial sums -/

/-- Row `i mod 8`, same column. -/
def row8 (i : S16x128.Idx) : S8x128.Idx := Fin.cases ⟨(i 0).val % 8, Nat.mod_lt _ (by decide)⟩ (Fin.cases (i 1) fun x => x.elim0)

/-- Eight rows of sums above eight rows of the labels' sums. -/
def stC (s lle : FVec F S8x128 .f32) : Vec F S16x128 .f32 := fun i => if (i 0).val < 8 then s (row8 i) else lle (row8 i)

abbrev rS : Rect S16x128 := Rect.unit (s := S16x128) ![0, 0] S8x128.size inb_S16x128_S8x128_0_0
abbrev rL : Rect S16x128 := Rect.unit (s := S16x128) ![8, 0] S8x128.size inb_S16x128_S8x128_8_0

theorem stored (s lle : FVec F S8x128 .f32) (f : (cc0_scratch1 : Ref sig .tc).ty.Contents (Elt F)) :
    (stM : Memref sig .tc .vmem S16x128 .f32).view.writes (Elt F) f [⟨rL, lle⟩, ⟨rS, s⟩] = stC s lle := by
  refine Eq.trans (View.read_whole cc0_scratch1 _).symm (funext fun y => ?_)
  have hy := (y 0).isLt
  have hy : (y 0).val < 16 := hy
  show (stM : Memref sig .tc .vmem S16x128 .f32).view.read (Elt F) _ y = _
  unfold stC
  by_cases h : (y 0).val < 8
  · rw [if_pos h]
    refine (View.read_writes_cons_rows_of_not_mem (d := ![16, 128]) (stM : Memref sig .tc .vmem S16x128 .f32).view f (o := 8) (W := 8) inb_S16x128_S8x128_8_0 lle _ y rfl rfl (Or.inl h)).trans ?_
    refine View.read_writes_cons_rows_of_mem (d := ![16, 128]) (stM : Memref sig .tc .vmem S16x128 .f32).view f (o := 0) inb_S16x128_S8x128_0_0 s _ y (row8 y) rfl ?_ rfl
    show (y 0).val = 0 + (y 0).val % 8
    omega
  · rw [if_neg h]
    refine View.read_writes_cons_rows_of_mem (d := ![16, 128]) (stM : Memref sig .tc .vmem S16x128 .f32).view f (o := 8) inb_S16x128_S8x128_8_0 lle _ y (row8 y) rfl ?_ rfl
    show (y 0).val = 8 + (y 0).val % 8
    omega

/-! ## The loads and the stores -/

variable (C : Conts F) (κ : GSem nD τ sig → ℕ) (c : Dev nD)

theorem zeros2 {S : Shape} (h : S.rank = 2) : (fun a : Fin 2 => (![0, 0] : Fin 2 → ℕ) a) = fun _ => 0 := by funext a; fin_cases a <;> rfl

theorem ldX_wp (X : Vec F S1024x2048 .f32) (K : Vec F S1024x2048 .f32 → PR (F := F)) (Q : PUnit → sProp 𝕄) :
    (((c : Thread nD τ).loc cc0_stg0_0) ↦{fullShare} X)
      ⊢ iprop(((((c : Thread nD τ).loc cc0_stg0_0) ↦{fullShare} X) -∗ wp frame (wpE (defs₀ (F := F)) 𝒱₀ (c : Thread nD τ) none) Set.univ (K X) Q) -∗ wp frame (wpE (defs₀ (F := F)) 𝒱₀ (c : Thread nD τ) none) Set.univ (ldX xM K) Q) := by
  unfold ldX
  iintro H Hk
  iapply (wp_load_rect 𝒱₀ (c : Thread nD τ) none Set.univ (m := xM) (r := Rect.unit (s := S1024x2048) ![0, 0] S1024x2048.size inb_S1024x2048_S1024x2048_0_0) (S := Finset.univ) (f := X) (Finset.subset_univ _)) $$ H
  rw [show (xM.access (Rect.unit (s := S1024x2048) ![0, 0] S1024x2048.size inb_S1024x2048_S1024x2048_0_0)).read (Elt F) X = X from
    View.ld_unit_zero (S := S1024x2048) (zeros2 (S := S1024x2048) rfl) inb_S1024x2048_S1024x2048_0_0 X]
  iexact Hk

theorem ldLab_wp (X : Vec F S1024x1 .i32) (K : Vec F S1024x1 .i32 → PR (F := F)) (Q : PUnit → sProp 𝕄) :
    (((c : Thread nD τ).loc cc0_stg1_0) ↦{fullShare} X)
      ⊢ iprop(((((c : Thread nD τ).loc cc0_stg1_0) ↦{fullShare} X) -∗ wp frame (wpE (defs₀ (F := F)) 𝒱₀ (c : Thread nD τ) none) Set.univ (K X) Q) -∗ wp frame (wpE (defs₀ (F := F)) 𝒱₀ (c : Thread nD τ) none) Set.univ (ldLab labM K) Q) := by
  unfold ldLab
  iintro H Hk
  iapply (wp_load_rect 𝒱₀ (c : Thread nD τ) none Set.univ (m := labM) (r := Rect.unit (s := S1024x1) ![0, 0] S1024x1.size inb_S1024x1_S1024x1_0_0) (S := Finset.univ) (f := X) (Finset.subset_univ _)) $$ H
  rw [show (labM.access (Rect.unit (s := S1024x1) ![0, 0] S1024x1.size inb_S1024x1_S1024x1_0_0)).read (Elt F) X = X from
    View.ld_unit_zero (S := S1024x1) (zeros2 (S := S1024x1) rfl) inb_S1024x1_S1024x1_0_0 X]
  iexact Hk

/-- A block of columns as its load reads it. -/
def wcol (h : Fin 4) : Vec F S2048x512 .f32 := (wcolM c h).view.read (Elt F) (C.W c)

theorem ldCol_wp (h : Fin 4) (K : Vec F S2048x512 .f32 → PR (F := F)) (Q : PUnit → sProp 𝕄) :
    locPay C c h
      ⊢ iprop((locPay C c h -∗ wp frame (wpE (defs₀ (F := F)) 𝒱₀ (c : Thread nD τ) none) Set.univ (K (wcol C c h)) Q) -∗ wp frame (wpE (defs₀ (F := F)) 𝒱₀ (c : Thread nD τ) none) Set.univ (ldCol wvM h K) Q) := by
  unfold ldCol locPay
  iintro ⟨⟨%f, %hf, H⟩, Hw⟩ Hk
  iapply (wp_load_rect 𝒱₀ (c : Thread nD τ) none Set.univ (m := wvM) (r := Rect.unit (s := S2048x2048) ![0, 512 * h.val] S2048x512.size (inbCol h)) (S := (colM h).view.set) (f := f) (Finset.Subset.refl _)) $$ H
  rw [show (wvM.access (Rect.unit (s := S2048x2048) ![0, 512 * h.val] S2048x512.size (inbCol h))).read (Elt F) f = wcol C c h from hf]
  iintro H
  iapply Hk
  isplitl [H]
  · iexists f
    isplitr
    · ipureintro; exact hf
    iexact H
  iexact Hw

theorem stores_wp (s lle : FVec F S8x128 .f32) (K : PR (F := F)) (Q : PUnit → sProp 𝕄) :
    iprop(∃ f, ((c : Thread nD τ).loc cc0_scratch1) ↦{fullShare} f)
      ⊢ iprop(((((c : Thread nD τ).loc cc0_scratch1) ↦{fullShare} stC s lle) -∗ wp frame (wpE (defs₀ (F := F)) 𝒱₀ (c : Thread nD τ) none) Set.univ K Q) -∗ wp frame (wpE (defs₀ (F := F)) 𝒱₀ (c : Thread nD τ) none) Set.univ (stores stM s lle K) Q) := by
  unfold stores
  iintro ⟨%f, H⟩ Hk
  iapply (wp_load_rect 𝒱₀ (c : Thread nD τ) none Set.univ (m := stM) (r := rS) (S := Finset.univ) (f := f) (Finset.subset_univ _)) $$ H
  iintro H
  iapply (wp_store_writes₀ 𝒱₀ (c : Thread nD τ) none Set.univ (m := stM) (r := rS) (w := s) (S := Finset.univ) (f := f) (Finset.subset_univ _)) $$ H
  iintro H
  iapply (wp_load_rect 𝒱₀ (c : Thread nD τ) none Set.univ (m := stM) (r := rL) (S := Finset.univ) (Finset.subset_univ _)) $$ H
  iintro H
  iapply (wp_store_writes 𝒱₀ (c : Thread nD τ) none Set.univ (m := stM) (r := rL) (w := lle) (S := Finset.univ) (f := f) (L := [⟨rS, s⟩]) (Finset.subset_univ _)) $$ H
  rw [stored]
  iexact Hk

end Cert.KernelIdeal.Own

end
-- ==== Proof.Body.lean ====
/- One device's run of the body, from the launch's resources to the stored result. -/
module

public import proofs.«01_k».proof.Proof.Parts
public import Idealize.ShloMosaic.Harness.Basic

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Cert.KernelIdeal Cert.KernelIdeal.Gen

variable {F : FTy → Type} [FloatOps F]

local notation "𝕄" => MT nD τ sig Unit (Elt F) ℕ UU ℕ

variable (C : Conts F) (κ : GSem nD τ sig → ℕ) (c : Dev nD)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem listed (Φ : Fin 15 → sProp 𝕄) : bigSep Finset.univ Φ = bigSepL idx15 Φ := bigSep_univ_eq_bigSepL idx15 (by decide) (by decide) Φ
theorem listed4 (Φ : Fin 4 → sProp 𝕄) : bigSep Finset.univ Φ = bigSepL [0, 1, 2, 3] Φ := bigSep_univ_eq_bigSepL [0, 1, 2, 3] (by decide) (by decide) Φ

/-! ## What the launch and the opening of the semaphores hand the body -/

/-- For the `i`-th signal: the right to signal, and that the slot's semaphore is open. -/
def sigBits (i : Fin 15) : sProp 𝕄 := iprop(dutyTok ER (barCell (peer c i)) 0 (rev i) ∗ reached ER (recvCell c i) 0)
/-- For the `h`-th copy: the right to pay its semaphore, that it is open, and the right to wait on it. -/
def locBits (h : Fin 4) : sProp 𝕄 := iprop((dutyTok ER (locCell c h) 0 0 ∗ reached ER (locCell c h) 0) ∗ atPos ER (locCell c h) 0 ∅ 0)
/-- For the `i`-th send. -/
def sendBits (i : Fin 15) : sProp 𝕄 :=
  iprop(((dutyTok ER (sendCell c i) 0 0 ∗ reached ER (sendCell c i) 0) ∗ dutyTok ER (recvCell (peer c i) (rev i)) 0 0) ∗ atPos ER (sendCell c i) 0 ∅ 0)
/-- For the `k`-th landing. -/
def recvBits (k : Fin 15) : sProp 𝕄 := iprop(cred (tallyAt (recvCell c k) () NS) ∗ atPos ER (recvCell c k) 0 ∅ 0)

/-- Everything the body starts from but the buffers. -/
def bits : sProp 𝕄 :=
  iprop(atPos ER (barCell c) 0 ∅ 0 ∗ cred (tallyAt (barCell c) () 15) ∗ bigSep Finset.univ (sigBits (F := F) c) ∗ bigSep Finset.univ (locBits (F := F) c)
    ∗ bigSep Finset.univ (sendBits (F := F) c) ∗ bigSep Finset.univ (recvBits (F := F) c))

/-- The cells after their one round. -/
def doneBits : sProp 𝕄 :=
  iprop(atPos ER (barCell c) (0 + 1) ∅ 0 ∗ (bigSep Finset.univ fun h : Fin 4 => atPos ER (locCell c h) (0 + 1) ∅ 0)
    ∗ (bigSep Finset.univ fun i : Fin 15 => atPos ER (sendCell c i) (0 + 1) ∅ 0) ∗ bigSep Finset.univ fun k : Fin 15 => atPos ER (recvCell c k) (0 + 1) ∅ 0)

/-! ## Up to the stores of the partial sums -/

/-- What a device stores, of the values it loads. -/
def stOf (X : Vec F S1024x2048 .f32) (LB : Vec F S1024x1 .i32) : Vec F S16x128 .f32 :=
  stC (sumsOf X X X X (wcol C c 0) (wcol C c 1) (wcol C c 2) (wcol C c 3))
    (labsOf (colBase c) X X X X (wcol C c 0) (wcol C c 1) (wcol C c 2) (wcol C c 3) LB LB LB LB)

/-- The body up to the barrier wait. -/
def headP (d : Dev nD) (K : PR (F := F)) : PR (F := F) :=
  signals d idx15 <|
  wcopies wM wvM cc0_scratch3 d [0, 1, 2, 3] <|
  wwait wM wvM cc0_scratch3 d 0 <| ldX xM fun x0 => ldCol wvM 0 fun w0 =>
  wwait wM wvM cc0_scratch3 d 1 <| ldX xM fun x1 => ldCol wvM 1 fun w1 => ldLab labM fun l0 =>
  wwait wM wvM cc0_scratch3 d 2 <| ldX xM fun x2 => ldCol wvM 2 fun w2 => ldLab labM fun l1 =>
  wwait wM wvM cc0_scratch3 d 3 <| ldX xM fun x3 => ldCol wvM 3 fun w3 => ldLab labM fun l2 => ldLab labM fun l3 =>
  stores stM (sumsOf x0 x1 x2 x3 w0 w1 w2 w3) (labsOf (colBase d) x0 x1 x2 x3 w0 w1 w2 w3 l0 l1 l2 l3) K

abbrev tailP (d : Dev nD) : PR (F := F) := flatTail outM stM (Memref.isWhole_whole _) arM cc0_scratch4 cc0_scratch5 d

theorem sig_bits : iprop((bigSep Finset.univ (sigBits (F := F) c)) ∗ bigSep Finset.univ fun k : Fin 15 => iprop(∃ f, slotPts (F := F) c k f))
    ⊢ (bigSepL idx15 fun i => iprop(dutyTok ER (barCell (peer c i)) 0 (rev i) ∗ (∃ f, slotPts (F := F) c i f) ∗ reached ER (recvCell c i) 0) : sProp 𝕄) := by
  have h1 (i : Fin 15) : iprop(sigBits (F := F) c i ∗ (∃ f, slotPts (F := F) c i f)) ⊢ (iprop(dutyTok ER (barCell (peer c i)) 0 (rev i) ∗ (∃ f, slotPts (F := F) c i f) ∗ reached ER (recvCell c i) 0) : sProp 𝕄) := by
    unfold sigBits
    iintro ⟨⟨Ht, Hr⟩, Hs⟩
    isplitl [Ht]; · iexact Ht
    isplitl [Hs] <;> iassumption
  rw [← listed]
  exact (Entails.of_eq (bigSep_sep' _ _ _).symm).trans (bigSep_mono fun i _ => h1 i)

theorem loc_bits : iprop((bigSep Finset.univ (locBits (F := F) c)) ∗ (bigSep Finset.univ fun h : Fin 4 => iprop(∃ f, colPts (F := F) c h f)) ∗ bigSep Finset.univ fun h : Fin 4 => wcolPts C c h)
    ⊢ (iprop((bigSepL [0, 1, 2, 3] fun h => iprop(wcolPts C c h ∗ (∃ f, colPts (F := F) c h f) ∗ dutyTok ER (locCell c h) 0 0 ∗ reached ER (locCell c h) 0))
        ∗ bigSep Finset.univ fun h : Fin 4 => atPos ER (locCell c h) 0 ∅ 0) : sProp 𝕄) := by
  have h1 (h : Fin 4) : iprop(locBits (F := F) c h ∗ (∃ f, colPts (F := F) c h f) ∗ wcolPts C c h)
      ⊢ (iprop((wcolPts C c h ∗ (∃ f, colPts (F := F) c h f) ∗ dutyTok ER (locCell c h) 0 0 ∗ reached ER (locCell c h) 0) ∗ atPos ER (locCell c h) 0 ∅ 0) : sProp 𝕄) := by
    unfold locBits
    iintro ⟨⟨⟨Ht, Hr⟩, Ha⟩, Hc, Hw⟩
    isplitr [Ha]
    · isplitl [Hw]; · iexact Hw
      isplitl [Hc]; · iexact Hc
      isplitl [Ht] <;> iassumption
    iexact Ha
  rw [← listed4, ← bigSep_sep', ← bigSep_sep', ← bigSep_sep']
  exact bigSep_mono fun h _ => h1 h

theorem head_wp (X : Vec F S1024x2048 .f32) (LB : Vec F S1024x1 .i32) (W : Waits sig Unit) (K : PR (F := F)) (Q : PUnit → sProp 𝕄) :
    iprop(records C κ ∗ levAts L lv ∗ owes (c : Thread nD τ) (O₀ c) W
        ∗ bigSep Finset.univ (sigBits (F := F) c) ∗ bigSep Finset.univ (locBits (F := F) c)
        ∗ (((c : Thread nD τ).loc cc0_stg0_0) ↦{fullShare} X) ∗ (((c : Thread nD τ).loc cc0_stg1_0) ↦{fullShare} LB)
        ∗ (((c : Thread nD τ).loc main_arg1) ↦{fullShare} C.W c)
        ∗ (∃ f, ((c : Thread nD τ).loc cc0_scratch0) ↦{fullShare} f) ∗ (∃ f, ((c : Thread nD τ).loc cc0_scratch1) ↦{fullShare} f)
        ∗ (∃ f, ((c : Thread nD τ).loc cc0_scratch2) ↦{fullShare} f))
      ⊢ iprop(((∃ W', owes (c : Thread nD τ) (sendDue c idx15) W')
        ∗ (bigSep Finset.univ fun h : Fin 4 => atPos ER (locCell c h) (0 + 1) ∅ 0)
        ∗ (((c : Thread nD τ).loc cc0_stg0_0) ↦{fullShare} X) ∗ (((c : Thread nD τ).loc cc0_stg1_0) ↦{fullShare} LB)
        ∗ (((c : Thread nD τ).loc main_arg1) ↦{fullShare} C.W c)
        ∗ (∃ f, ((c : Thread nD τ).loc cc0_scratch0) ↦{fullShare} f) ∗ (((c : Thread nD τ).loc cc0_scratch1) ↦{fullShare} stOf C c X LB)
          -∗ wp frame (wpE (defs₀ (F := F)) 𝒱₀ (c : Thread nD τ) none) Set.univ K Q)
        -∗ wp frame (wpE (defs₀ (F := F)) 𝒱₀ (c : Thread nD τ) none) Set.univ (headP c K) Q) := by
  unfold headP O₀
  iintro ⟨#HR, #Hlev, HO, Hsig, Hloc, Hx, Hl, Hw, ⟨%f0, Hs0⟩, Hs1, ⟨%f2, Hs2⟩⟩ Hk
  ihave Hsl := (slots_split c f2) $$ Hs2
  ihave Hsig2 := (sig_bits c) $$ [Hsig Hsl]
  · isplitl [Hsig] <;> iassumption
  iapply (signals_wp C κ c idx15 (sendDue c idx15) W) $$ [HO Hsig2]
  · isplitr; · iexact HR
    isplitl [HO] <;> iassumption
  iintro HO
  ihave Hco := (cols_split c f0) $$ Hs0
  ihave Hw2 := (w_split C c) $$ Hw
  icases Hw2 with ⟨Hwr, Hwt⟩
  ihave Hloc2 := (loc_bits C c) $$ [Hloc Hco Hwt]
  · isplitl [Hloc]; · iexact Hloc
    isplitl [Hco] <;> iassumption
  icases Hloc2 with ⟨Hloc, Hat⟩
  iapply (wcopies_wp C κ c [0, 1, 2, 3]) $$ [Hloc]
  · isplitr; · iexact HR
    iexact Hloc
  iintro Hc
  ihave Hc2 := (show (bigSepL [0, 1, 2, 3] fun h => cred (tallyAt (locCell c h) () NW)) ⊢ (iprop(cred (tallyAt (locCell c 0) () NW) ∗ cred (tallyAt (locCell c 1) () NW) ∗ cred (tallyAt (locCell c 2) () NW) ∗ cred (tallyAt (locCell c 3) () NW)) : sProp 𝕄) from
    Entails.of_eq ((listed4 _).symm.trans (four _))) $$ Hc
  icases Hc2 with ⟨Hc0, Hc1, Hc2, Hc3⟩
  ihave Hat2 := (Entails.of_eq (four (fun h : Fin 4 => (atPos ER (locCell c h) 0 ∅ 0 : sProp 𝕄)))) $$ Hat
  icases Hat2 with ⟨Ha0, Ha1, Ha2, Ha3⟩
  iapply (wwait_wp C κ c 0 idx15 W) $$ [HO Hc0 Ha0]
  · isplitr; · iexact HR
    isplitr; · iexact Hlev
    isplitl [HO]; · iexact HO
    isplitl [Hc0] <;> iassumption
  iintro ⟨⟨%W0, HO⟩, Ha0, Hp0⟩
  iapply (ldX_wp c X) $$ Hx; iintro Hx
  iapply (ldCol_wp C c 0) $$ Hp0; iintro Hp0
  iapply (wwait_wp C κ c 1 idx15 W0) $$ [HO Hc1 Ha1]
  · isplitr; · iexact HR
    isplitr; · iexact Hlev
    isplitl [HO]; · iexact HO
    isplitl [Hc1] <;> iassumption
  iintro ⟨⟨%W1, HO⟩, Ha1, Hp1⟩
  iapply (ldX_wp c X) $$ Hx; iintro Hx
  iapply (ldCol_wp C c 1) $$ Hp1; iintro Hp1
  iapply (ldLab_wp c LB) $$ Hl; iintro Hl
  iapply (wwait_wp C κ c 2 idx15 W1) $$ [HO Hc2 Ha2]
  · isplitr; · iexact HR
    isplitr; · iexact Hlev
    isplitl [HO]; · iexact HO
    isplitl [Hc2] <;> iassumption
  iintro ⟨⟨%W2, HO⟩, Ha2, Hp2⟩
  iapply (ldX_wp c X) $$ Hx; iintro Hx
  iapply (ldCol_wp C c 2) $$ Hp2; iintro Hp2
  iapply (ldLab_wp c LB) $$ Hl; iintro Hl
  iapply (wwait_wp C κ c 3 idx15 W2) $$ [HO Hc3 Ha3]
  · isplitr; · iexact HR
    isplitr; · iexact Hlev
    isplitl [HO]; · iexact HO
    isplitl [Hc3] <;> iassumption
  iintro ⟨⟨%W3, HO⟩, Ha3, Hp3⟩
  iapply (ldX_wp c X) $$ Hx; iintro Hx
  iapply (ldCol_wp C c 3) $$ Hp3; iintro Hp3
  iapply (ldLab_wp c LB) $$ Hl; iintro Hl
  iapply (ldLab_wp c LB) $$ Hl; iintro Hl
  iapply (stores_wp c) $$ Hs1; iintro Hs1
  unfold locPay
  icases Hp0 with ⟨⟨%g0, -, Hp0⟩, Hq0⟩
  icases Hp1 with ⟨⟨%g1, -, Hp1⟩, Hq1⟩
  icases Hp2 with ⟨⟨%g2, -, Hp2⟩, Hq2⟩
  icases Hp3 with ⟨⟨%g3, -, Hp3⟩, Hq3⟩
  iapply Hk
  isplitl [HO]; · iexists W3; iexact HO
  isplitl [Ha0 Ha1 Ha2 Ha3]
  · rw [four]
    isplitl [Ha0]; · iexact Ha0
    isplitl [Ha1]; · iexact Ha1
    isplitl [Ha2] <;> iassumption
  isplitl [Hx]; · iexact Hx
  isplitl [Hl]; · iexact Hl
  isplitl [Hwr Hq0 Hq1 Hq2 Hq3]
  · iapply (w_join C c)
    isplitl [Hwr]; · iexact Hwr
    rw [four]
    isplitl [Hq0]; · iexact Hq0
    isplitl [Hq1]; · iexact Hq1
    isplitl [Hq2] <;> iassumption
  isplitl [Hp0 Hp1 Hp2 Hp3]
  · iapply (cols_join c)
    rw [four]
    isplitl [Hp0]; · iexists g0; iexact Hp0
    isplitl [Hp1]; · iexists g1; iexact Hp1
    isplitl [Hp2]; · iexists g2; iexact Hp2
    iexists g3; iexact Hp3
  iexact Hs1

/-! ## From the barrier wait on -/

theorem st_eq (i : Fin 15) : stPts C c i = (((c : Thread nD τ).loc cc0_scratch1) ↦{shareTok fullShare 15 i} C.St c : sProp 𝕄) := by
  unfold stPts; rw [show (stM : Memref sig .tc .vmem S16x128 .f32).view.set = Finset.univ from View.set_whole _]
theorem st_split : (((c : Thread nD τ).loc cc0_scratch1) ↦{fullShare} C.St c : sProp 𝕄)
    ⊢ iprop((((c : Thread nD τ).loc cc0_scratch1) ↦{shareDrop fullShare 15} C.St c) ∗ bigSep Finset.univ fun i : Fin 15 => stPts C c i) := by
  rw [bigSep_congr fun i _ => st_eq C c i]
  exact pointsTo_toks_split fullShare 15
theorem st_join : iprop((((c : Thread nD τ).loc cc0_scratch1) ↦{shareDrop fullShare 15} C.St c) ∗ bigSep Finset.univ fun i : Fin 15 => stPts C c i)
    ⊢ (((c : Thread nD τ).loc cc0_scratch1) ↦{fullShare} C.St c : sProp 𝕄) := by
  rw [bigSep_congr fun i _ => st_eq C c i]
  exact pointsTo_toks_join fullShare 15

theorem send_bits : iprop((bigSep Finset.univ (sendBits (F := F) c)) ∗ (bigSep Finset.univ fun i : Fin 15 => stPts C c i) ∗ bigSep Finset.univ (barPay (F := F) c))
    ⊢ (iprop((bigSepL idx15 fun i => iprop(stPts C c i ∗ barPay (F := F) c i ∗ (dutyTok ER (sendCell c i) 0 0 ∗ reached ER (sendCell c i) 0) ∗ dutyTok ER (recvCell (peer c i) (rev i)) 0 0))
        ∗ bigSep Finset.univ fun i : Fin 15 => atPos ER (sendCell c i) 0 ∅ 0) : sProp 𝕄) := by
  have h1 (i : Fin 15) : iprop(sendBits (F := F) c i ∗ stPts C c i ∗ barPay (F := F) c i)
      ⊢ (iprop((stPts C c i ∗ barPay (F := F) c i ∗ (dutyTok ER (sendCell c i) 0 0 ∗ reached ER (sendCell c i) 0) ∗ dutyTok ER (recvCell (peer c i) (rev i)) 0 0) ∗ atPos ER (sendCell c i) 0 ∅ 0) : sProp 𝕄) := by
    unfold sendBits
    iintro ⟨⟨⟨Hs, Ht⟩, Ha⟩, Hst, Hb⟩
    isplitr [Ha]
    · isplitl [Hst]; · iexact Hst
      isplitl [Hb]; · iexact Hb
      isplitl [Hs] <;> iassumption
    iexact Ha
  rw [← listed, ← bigSep_sep', ← bigSep_sep', ← bigSep_sep']
  exact bigSep_mono fun i _ => h1 i

theorem wait_bits : iprop((bigSep Finset.univ fun i : Fin 15 => cred (tallyAt (sendCell c i) () NS)) ∗ (bigSep Finset.univ fun i : Fin 15 => atPos ER (sendCell c i) 0 ∅ 0) ∗ bigSep Finset.univ (recvBits (F := F) c))
    ⊢ (bigSepL idx15 fun i => iprop((cred (tallyAt (sendCell c i) () NS) ∗ atPos ER (sendCell c i) 0 ∅ 0)
            ∗ (cred (tallyAt (recvCell c (rev i)) () NS) ∗ atPos ER (recvCell c (rev i)) 0 ∅ 0)) : sProp 𝕄) := by
  have h1 (i : Fin 15) : iprop(cred (tallyAt (sendCell c i) () NS) ∗ atPos ER (sendCell c i) 0 ∅ 0 ∗ recvBits (F := F) c (rev i))
      ⊢ (iprop((cred (tallyAt (sendCell c i) () NS) ∗ atPos ER (sendCell c i) 0 ∅ 0)
            ∗ (cred (tallyAt (recvCell c (rev i)) () NS) ∗ atPos ER (recvCell c (rev i)) 0 ∅ 0)) : sProp 𝕄) := by
    unfold recvBits
    iintro ⟨Hc, Ha, Hr⟩
    isplitr [Hr]
    · isplitl [Hc] <;> iassumption
    iexact Hr
  rw [← listed, bigSep_univ_equiv revEquiv (recvBits (F := F) c), ← bigSep_sep', ← bigSep_sep']
  exact bigSep_mono fun i _ => h1 i

theorem waited : (bigSepL idx15 fun i => iprop((stPts C c i ∗ atPos ER (sendCell c i) (0 + 1) ∅ 0) ∗ (recvPay C c (rev i) ∗ atPos ER (recvCell c (rev i)) (0 + 1) ∅ 0)) : sProp 𝕄)
    ⊢ (iprop((bigSep Finset.univ fun i : Fin 15 => stPts C c i) ∗ (bigSep Finset.univ fun i : Fin 15 => atPos ER (sendCell c i) (0 + 1) ∅ 0)
        ∗ (bigSepL idx15 fun k => recvPay C c k) ∗ (bigSep Finset.univ fun k : Fin 15 => atPos ER (recvCell c k) (0 + 1) ∅ 0)) : sProp 𝕄) := by
  have h1 (i : Fin 15) : iprop((stPts C c i ∗ atPos ER (sendCell c i) (0 + 1) ∅ 0) ∗ (recvPay C c (rev i) ∗ atPos ER (recvCell c (rev i)) (0 + 1) ∅ 0))
      ⊢ (iprop(stPts C c i ∗ atPos ER (sendCell c i) (0 + 1) ∅ 0 ∗ recvPay C c (rev i) ∗ atPos ER (recvCell c (rev i)) (0 + 1) ∅ 0) : sProp 𝕄) := by
    iintro ⟨⟨Hs, Ha⟩, Hr⟩
    isplitl [Hs]; · iexact Hs
    isplitl [Ha] <;> iassumption
  rw [← listed, ← listed, bigSep_univ_equiv revEquiv (fun k => recvPay C c k),
    bigSep_univ_equiv revEquiv (fun k : Fin 15 => (atPos ER (recvCell c k) (0 + 1) ∅ 0 : sProp 𝕄)), ← bigSep_sep', ← bigSep_sep', ← bigSep_sep']
  exact bigSep_mono fun i _ => h1 i

theorem landed_join : (bigSepL idx15 fun k => recvPay C c k) ⊢ (iprop(∃ f, ((c : Thread nD τ).loc cc0_scratch2) ↦{fullShare} f) : sProp 𝕄) := by
  have h1 (k : Fin 15) : recvPay C c k ⊢ (iprop(∃ f, slotPts (F := F) c k f) : sProp 𝕄) := by
    unfold recvPay
    iintro ⟨%f, -, H⟩
    iexists f; iexact H
  rw [← listed]
  exact (bigSep_mono fun k _ => h1 k).trans (slots_join c)

theorem whole16 : (Rect.unit (s := S16x128) ![0, 0] S16x128.size inb_S16x128_S16x128_0_0 : Rect S16x128).set = Finset.univ := by
  rw [Finset.eq_univ_iff_forall]
  exact View.mem_set_unit_zero (S := S16x128) (zeros2 (S := S16x128) rfl) _

theorem read_st (f : (cc0_scratch1 : Ref sig .tc).ty.Contents (Elt F)) :
    (stM.access (Rect.unit (s := S16x128) ![0, 0] S16x128.size inb_S16x128_S16x128_0_0)).read (Elt F) f = f :=
  View.ld_unit_zero (S := S16x128) (zeros2 (S := S16x128) rfl) inb_S16x128_S16x128_0_0 f

theorem write_out (f : (cc0_stg2_0 : Ref sig .tc).ty.Contents (Elt F)) (w : FVec F S8x128 .f32) :
    (outM : Memref sig .tc .vmem S8x128 .f32).view.writes (Elt F) f [⟨Rect.unit (s := S8x128) ![0, 0] S8x128.size inb_S8x128_S8x128_0_0, w⟩] = w := by
  refine Eq.trans (View.read_whole cc0_stg2_0 _).symm (funext fun y => ?_)
  exact View.read_writes_cons_rows_of_mem (d := ![8, 128]) (outM : Memref sig .tc .vmem S8x128 .f32).view f (o := 0) inb_S8x128_S8x128_0_0 w [] y y rfl (Nat.zero_add _).symm rfl

/-- What a device's output block holds. -/
def outVal : FVec F S8x128 .f32 := outOf (accum C c idx15 (C.St c))

theorem tail_wp (W : Waits sig Unit) (Q : PUnit → sProp 𝕄) :
    iprop(records C κ ∗ levAts L lv ∗ owes (c : Thread nD τ) (sendDue c idx15) W
        ∗ atPos ER (barCell c) 0 ∅ 0 ∗ cred (tallyAt (barCell c) () 15)
        ∗ bigSep Finset.univ (sendBits (F := F) c) ∗ bigSep Finset.univ (recvBits (F := F) c)
        ∗ (((c : Thread nD τ).loc cc0_scratch1) ↦{fullShare} C.St c) ∗ (∃ f, ((c : Thread nD τ).loc cc0_stg2_0) ↦{fullShare} f))
      ⊢ iprop(((∃ W', owes (c : Thread nD τ) 0 W') ∗ atPos ER (barCell c) (0 + 1) ∅ 0
        ∗ (bigSep Finset.univ fun i : Fin 15 => atPos ER (sendCell c i) (0 + 1) ∅ 0) ∗ (bigSep Finset.univ fun k : Fin 15 => atPos ER (recvCell c k) (0 + 1) ∅ 0)
        ∗ (∃ f, ((c : Thread nD τ).loc cc0_scratch1) ↦{fullShare} f) ∗ (∃ f, ((c : Thread nD τ).loc cc0_scratch2) ↦{fullShare} f)
        ∗ (((c : Thread nD τ).loc cc0_stg2_0) ↦{fullShare} outVal C c)
          -∗ |={Set.univ}=> Q ⟨⟩)
        -∗ wp frame (wpE (defs₀ (F := F)) 𝒱₀ (c : Thread nD τ) none) Set.univ (tailP c) Q) := by
  unfold tailP flatTail
  iintro ⟨#HR, #Hlev, HO, Hat, Hc, Hsend, Hrecv, Hst, ⟨%g, Hout⟩⟩ Hk
  iapply (barwait_wp C κ c idx15 W) $$ [HO Hat Hc]
  · isplitr; · iexact HR
    isplitr; · iexact Hlev
    isplitl [HO]; · iexact HO
    isplitl [Hc] <;> iassumption
  iintro ⟨⟨%W1, HO⟩, Hat, Hb⟩
  ihave Hst2 := (st_split C c) $$ Hst
  icases Hst2 with ⟨Hstd, Hst⟩
  ihave Hsb := (send_bits C c) $$ [Hsend Hst Hb]
  · isplitl [Hsend]; · iexact Hsend
    isplitl [Hst]
    · iexact Hst
    iexact Hb
  icases Hsb with ⟨Hsb, HatS⟩
  iapply (sends_wp C κ c idx15 0 W1) $$ [HO Hsb]
  · isplitr; · iexact HR
    isplitl [HO]; · rw [zero_add]; iexact HO
    iexact Hsb
  iintro ⟨HO, Hcr⟩
  ihave Hcr := (show (bigSepL idx15 fun i => cred (tallyAt (sendCell c i) () NS)) ⊢ (bigSep Finset.univ fun i : Fin 15 => cred (tallyAt (sendCell c i) () NS) : sProp 𝕄) from
    Entails.of_eq (listed _).symm) $$ Hcr
  ihave Hwb := (wait_bits c) $$ [Hcr HatS Hrecv]
  · isplitl [Hcr]; · iexact Hcr
    isplitl [HatS] <;> iassumption
  iapply (waits_wp C κ c idx15 W1) $$ [HO Hwb]
  · isplitr; · iexact HR
    isplitl [HO] <;> iassumption
  iintro %W2 ⟨HO, Hl⟩
  ihave Hl2 := (waited C c) $$ Hl
  icases Hl2 with ⟨Hst, HatS, Hr, HatR⟩
  ihave Hst3 := (st_join C c) $$ [Hstd Hst]
  · isplitl [Hstd]; · iexact Hstd
    iexact Hst
  iapply (wp_load_rect 𝒱₀ (c : Thread nD τ) none Set.univ (m := stM) (r := Rect.unit (s := S16x128) ![0, 0] S16x128.size inb_S16x128_S16x128_0_0) (S := Finset.univ) (f := C.St c) (Finset.subset_univ _)) $$ Hst3
  rw [read_st]
  iintro Hst
  iapply (gathers_wp C c idx15 (C.St c)) $$ Hr
  iintro Hr
  iapply (wp_load_rect 𝒱₀ (c : Thread nD τ) none Set.univ (m := outM) (r := Rect.unit (s := S8x128) ![0, 0] S8x128.size inb_S8x128_S8x128_0_0) (S := Finset.univ) (f := g) (Finset.subset_univ _)) $$ Hout
  iintro Hout
  iapply (wp_store_writes₀ 𝒱₀ (c : Thread nD τ) none Set.univ (m := outM) (r := Rect.unit (s := S8x128) ![0, 0] S8x128.size inb_S8x128_S8x128_0_0) (w := outVal C c) (S := Finset.univ) (f := g) (Finset.subset_univ _)) $$ Hout
  rw [write_out]
  iintro Hout
  rw [wp_ret]
  iapply Hk
  isplitl [HO]; · iexists W2; iexact HO
  isplitl [Hat]; · iexact Hat
  isplitl [HatS]; · iexact HatS
  isplitl [HatR]; · iexact HatR
  isplitl [Hst]; · iexists (C.St c); iexact Hst
  isplitl [Hr]; · iapply (landed_join C c); iexact Hr
  iexact Hout

end Cert.KernelIdeal.Own

end
-- ==== Proof.Ghost.lean ====
/- What the launch deals each device: the rights to pay and to wait, the credit, and the opening and closing of the
   kernel's semaphores. -/
module

public import proofs.«01_k».proof.Proof.Body

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What stays with each device -/

/-- The rights to the payments a device makes. -/
def payToks (c : Dev nD) : sProp 𝕄 :=
  iprop((bigSep Finset.univ fun i : Fin 15 => dutyTok ER (barCell (peer c i)) 0 (rev i))
    ∗ (bigSep Finset.univ fun h : Fin 4 => dutyTok ER (locCell c h) 0 0)
    ∗ (bigSep Finset.univ fun i : Fin 15 => dutyTok ER (sendCell c i) 0 0)
    ∗ bigSep Finset.univ fun i : Fin 15 => dutyTok ER (recvCell (peer c i) (rev i)) 0 0)
/-- Its place at its barrier, the rights to open its own semaphores, and its payments. -/
def linear (c : Dev nD) : sProp 𝕄 :=
  iprop(atPos ER (barCell c) 0 ∅ 0 ∗ (bigSep Finset.univ fun k : KS => openTok ER ((c : Thread nD τ), osem k)) ∗ payToks c)
/-- What the others owe it. -/
def credits (c : Dev nD) : sProp 𝕄 :=
  iprop(cred (tallyAt (barCell c) () 15) ∗ bigSep Finset.univ fun k : Fin 15 => cred (tallyAt (recvCell c k) () NS))

/-! ## Opening and closing the kernel's own semaphores -/

section OpenClose

variable (C : Conts F) (κ : GSem nD τ sig → ℕ) (c : Dev nD)

theorem ks_split (Φ : SemLoc sig → sProp 𝕄) : (bigSep Finset.univ fun k : KS => Φ (osem k))
    = iprop((bigSep Finset.univ fun h : Fin 4 => Φ (.dma (locS h))) ∗ (bigSep Finset.univ fun i : Fin 15 => Φ (.dma (sendS i)))
        ∗ bigSep Finset.univ fun k : Fin 15 => Φ (.dma (recvS k))) := by
  rw [bigSep_univ_sum, bigSep_univ_sum]; rfl

theorem open_all : iprop(records C κ ∗ (bigSep Finset.univ fun k : KS => openTok ER ((c : Thread nD τ), osem k)) ∗ Pipeline.ownSems0 osem c)
    ⊢ (|={Set.univ}=> bigSep Finset.univ fun k : KS => iprop(atPos ER ((c : Thread nD τ), osem k) 0 ∅ 0 ∗ reached ER ((c : Thread nD τ), osem k) 0) : sProp 𝕄) := by
  have h1 (k : KS) : iprop(records C κ ∗ openTok ER ((c : Thread nD τ), osem k) ∗ semVal ((c : Thread nD τ), osem k) 0)
      ⊢ (|={Set.univ}=> iprop(atPos ER ((c : Thread nD τ), osem k) 0 ∅ 0 ∗ reached ER ((c : Thread nD τ), osem k) 0) : sProp 𝕄) := by
    iintro ⟨HR, Ho, Hs⟩
    iapply (Rounds.cell_open ER (Rd C) (g := ((c : Thread nD τ), osem k)) (Set.mem_univ (κ ((c : Thread nD τ), osem k))))
    isplitl [HR]; · iapply (inv_own C κ c k); iexact HR
    isplitl [Ho] <;> iassumption
  unfold Pipeline.ownSems0
  rw [← bigSep_sep']
  exact (bigSep_with_persistent fun k _ => h1 k).trans (bigSep_fupd _ _)

theorem close_all : iprop(records C κ ∗ doneBits c) ⊢ (|={Set.univ}=> iprop(semVal (barCell c) 0 ∗ Pipeline.ownSems0 osem c) : sProp 𝕄) := by
  have h1 (k : KS) : iprop(records C κ ∗ atPos ER ((c : Thread nD τ), osem k) (0 + 1) ∅ 0) ⊢ (|={Set.univ}=> semVal ((c : Thread nD τ), osem k) 0 : sProp 𝕄) := by
    iintro ⟨HR, Ha⟩
    iapply (close C (κ ((c : Thread nD τ), osem k)) ((c : Thread nD τ), osem k))
    isplitl [HR]; · iapply (inv_own C κ c k); iexact HR
    iexact Ha
  have h2 : iprop(records C κ ∗ bigSep Finset.univ fun k : KS => atPos ER ((c : Thread nD τ), osem k) (0 + 1) ∅ 0)
      ⊢ (|={Set.univ}=> Pipeline.ownSems0 osem c : sProp 𝕄) := by
    unfold Pipeline.ownSems0
    exact (bigSep_with_persistent fun k _ => h1 k).trans (bigSep_fupd _ _)
  have h3 : iprop((bigSep Finset.univ fun h : Fin 4 => atPos ER (locCell c h) (0 + 1) ∅ 0)
      ∗ (bigSep Finset.univ fun i : Fin 15 => atPos ER (sendCell c i) (0 + 1) ∅ 0) ∗ bigSep Finset.univ fun k : Fin 15 => atPos ER (recvCell c k) (0 + 1) ∅ 0)
      ⊢ (bigSep Finset.univ fun k : KS => atPos ER ((c : Thread nD τ), osem k) (0 + 1) ∅ 0 : sProp 𝕄) :=
    Entails.of_eq (ks_split (fun sm => (atPos ER ((c : Thread nD τ), sm) (0 + 1) ∅ 0 : sProp 𝕄))).symm
  unfold doneBits
  iintro ⟨#HR, Hb, Hown⟩
  ihave Hk := h3 $$ Hown
  imod h2 $$ [Hk] with Hs
  · isplitr; · iexact HR
    iexact Hk
  imod (close C (κ (barCell c)) (barCell c)) $$ [Hb] with Hb
  · isplitr; · iapply (inv_bar C κ c); iexact HR
    iexact Hb
  imodintro
  isplitl [Hb] <;> iassumption

theorem bits_intro : iprop(records C κ ∗ linear c ∗ credits c ∗ Pipeline.ownSems0 osem c) ⊢ (|={Set.univ}=> bits c : sProp 𝕄) := by
  have hs : iprop((bigSep Finset.univ fun i : Fin 15 => dutyTok ER (barCell (peer c i)) 0 (rev i)) ∗ bigSep Finset.univ fun k : Fin 15 => reached ER (recvCell c k) 0)
      ⊢ (bigSep Finset.univ (sigBits (F := F) c) : sProp 𝕄) := Entails.of_eq (bigSep_sep' _ _ _).symm
  have hl : iprop(((bigSep Finset.univ fun h : Fin 4 => dutyTok ER (locCell c h) 0 0) ∗ bigSep Finset.univ fun h : Fin 4 => reached ER (locCell c h) 0)
        ∗ bigSep Finset.univ fun h : Fin 4 => atPos ER (locCell c h) 0 ∅ 0) ⊢ (bigSep Finset.univ (locBits (F := F) c) : sProp 𝕄) := by
    rw [← bigSep_sep', ← bigSep_sep']; first | done | exact BI.Entails.refl _
  have hd : iprop((((bigSep Finset.univ fun i : Fin 15 => dutyTok ER (sendCell c i) 0 0) ∗ bigSep Finset.univ fun i : Fin 15 => reached ER (sendCell c i) 0)
        ∗ bigSep Finset.univ fun i : Fin 15 => dutyTok ER (recvCell (peer c i) (rev i)) 0 0) ∗ bigSep Finset.univ fun i : Fin 15 => atPos ER (sendCell c i) 0 ∅ 0)
      ⊢ (bigSep Finset.univ (sendBits (F := F) c) : sProp 𝕄) := by
    rw [← bigSep_sep', ← bigSep_sep', ← bigSep_sep']; first | done | exact BI.Entails.refl _
  have hr : iprop((bigSep Finset.univ fun k : Fin 15 => cred (tallyAt (recvCell c k) () NS)) ∗ bigSep Finset.univ fun k : Fin 15 => atPos ER (recvCell c k) 0 ∅ 0)
      ⊢ (bigSep Finset.univ (recvBits (F := F) c) : sProp 𝕄) := Entails.of_eq (bigSep_sep' _ _ _).symm
  have hk : (bigSep Finset.univ fun k : KS => iprop(atPos ER ((c : Thread nD τ), osem k) 0 ∅ 0 ∗ reached ER ((c : Thread nD τ), osem k) 0))
      ⊢ (iprop(((bigSep Finset.univ fun h : Fin 4 => atPos ER (locCell c h) 0 ∅ 0) ∗ (bigSep Finset.univ fun i : Fin 15 => atPos ER (sendCell c i) 0 ∅ 0)
            ∗ bigSep Finset.univ fun k : Fin 15 => atPos ER (recvCell c k) 0 ∅ 0)
          ∗ ((bigSep Finset.univ fun h : Fin 4 => reached ER (locCell c h) 0) ∗ (bigSep Finset.univ fun i : Fin 15 => reached ER (sendCell c i) 0)
            ∗ bigSep Finset.univ fun k : Fin 15 => reached ER (recvCell c k) 0)) : sProp 𝕄) := by
    rw [bigSep_sep', ks_split (fun sm => (atPos ER ((c : Thread nD τ), sm) 0 ∅ 0 : sProp 𝕄)), ks_split (fun sm => (reached ER ((c : Thread nD τ), sm) 0 : sProp 𝕄))]
  unfold linear credits payToks bits
  iintro ⟨#HR, ⟨Hb, Ho, Ht1, Ht2, Ht3, Ht4⟩, ⟨Hc1, Hc2⟩, Hs⟩
  imod (open_all C κ c) $$ [Ho Hs] with Hk
  · isplitr; · iexact HR
    isplitl [Ho] <;> iassumption
  ihave Hk2 := hk $$ Hk
  icases Hk2 with ⟨⟨Ha1, Ha2, Ha3⟩, ⟨Hr1, Hr2, Hr3⟩⟩
  imodintro
  isplitl [Hb]; · iexact Hb
  isplitl [Hc1]; · iexact Hc1
  isplitl [Ht1 Hr3]
  · iapply hs; isplitl [Ht1] <;> iassumption
  isplitl [Ht2 Hr1 Ha1]
  · iapply hl; isplitr [Ha1]
    · isplitl [Ht2] <;> iassumption
    iexact Ha1
  isplitl [Ht3 Hr2 Ht4 Ha2]
  · iapply hd; isplitr [Ha2]
    · isplitr [Ht4]
      · isplitl [Ht3] <;> iassumption
      iexact Ht4
    iexact Ha2
  iapply hr; isplitl [Hc2] <;> iassumption

end OpenClose

/-! ## The rights to pay, as dealt -/

/-- Every barrier's fifteen payments, and the one payment of each of the kernel's own semaphores. -/
abbrev tokOf (x : Dev nD × (Fin 15 ⊕ KS)) : GSem nD τ sig × ℕ × Fin 15 :=
  (((x.1 : Thread nD τ), x.2.elim (fun _ => .reg barS) osem), 0, x.2.elim id fun _ => 0)
theorem tok_inj : Function.Injective tokOf := by
  rintro ⟨c, a⟩ ⟨c', a'⟩ h
  have h1 : c = c' := congrArg (fun t : GSem nD τ sig × ℕ × Fin 15 => t.1.1.1) h
  have h2 : a.elim (fun _ => .reg barS) osem = a'.elim (fun _ => .reg barS) osem := congrArg (fun t : GSem nD τ sig × ℕ × Fin 15 => t.1.2) h
  have h3 : a.elim id (fun _ => (0 : Fin 15)) = a'.elim id fun _ => 0 := congrArg (fun t : GSem nD τ sig × ℕ × Fin 15 => t.2.2) h
  subst h1
  rcases a with a | a <;> rcases a' with a' | a'
  · exact congrArg (fun j => (c, Sum.inl j)) h3
  · exact absurd h2.symm (osem_ne_bar a')
  · exact absurd h2 (osem_ne_bar a)
  · exact congrArg (fun j => (c, Sum.inr j)) (osem_inj h2)
def talkToks : Finset (GSem nD τ sig × ℕ × Fin 15) := Finset.univ.map ⟨tokOf, tok_inj⟩

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A device and a distance, read from the other end. -/
def around : Dev nD × Fin 15 ≃ Dev nD × Fin 15 where
  toFun p := (peer p.1 p.2, rev p.2)
  invFun p := (peer p.1 p.2, rev p.2)
  left_inv p := Prod.ext (peer_rev p.1 p.2) (rev_rev p.2)
  right_inv p := Prod.ext (peer_rev p.1 p.2) (rev_rev p.2)

theorem swap_around (Φ : Dev nD → Fin 15 → sProp 𝕄) :
    (bigSep Finset.univ fun c : Dev nD => bigSep Finset.univ fun i : Fin 15 => Φ c i)
      = bigSep Finset.univ fun c : Dev nD => bigSep Finset.univ fun i : Fin 15 => Φ (peer c i) (rev i) := by
  rw [← bigSep_univ_prod (fun p : Dev nD × Fin 15 => Φ p.1 p.2), bigSep_univ_equiv around, bigSep_univ_prod]
  rfl

theorem toks_dealt : bigSep talkToks (fun x => (dutyTok ER x.1 x.2.1 x.2.2 : sProp 𝕄)) = bigSep Finset.univ (payToks (F := F)) := by
  have e1 : bigSep talkToks (fun x => (dutyTok ER x.1 x.2.1 x.2.2 : sProp 𝕄))
      = bigSep Finset.univ fun c : Dev nD => iprop((bigSep Finset.univ fun j : Fin 15 => dutyTok ER (barCell c) 0 j)
        ∗ (bigSep Finset.univ fun h : Fin 4 => dutyTok ER (locCell c h) 0 0)
        ∗ (bigSep Finset.univ fun i : Fin 15 => dutyTok ER (sendCell c i) 0 0)
        ∗ bigSep Finset.univ fun k : Fin 15 => dutyTok ER (recvCell c k) 0 0) := by
    unfold talkToks; rw [bigSep_map, bigSep_univ_prod]
    refine bigSep_congr fun c _ => ?_
    rw [bigSep_univ_sum]
    exact congrArg (fun X : sProp 𝕄 => iprop((bigSep Finset.univ fun j : Fin 15 => dutyTok ER (barCell c) 0 j) ∗ X))
      (ks_split (fun sm => (dutyTok ER ((c : Thread nD τ), sm) 0 0 : sProp 𝕄)))
  have e2 : bigSep Finset.univ (payToks (F := F)) = bigSep Finset.univ fun c : Dev nD => iprop((bigSep Finset.univ fun i : Fin 15 => dutyTok ER (barCell (peer c i)) 0 (rev i))
    ∗ (bigSep Finset.univ fun h : Fin 4 => dutyTok ER (locCell c h) 0 0)
    ∗ (bigSep Finset.univ fun i : Fin 15 => dutyTok ER (sendCell c i) 0 0)
    ∗ bigSep Finset.univ fun i : Fin 15 => dutyTok ER (recvCell (peer c i) (rev i)) 0 0) := rfl
  rw [e1, e2]
  simp only [bigSep_sep']
  rw [swap_around (fun c j => (dutyTok ER (barCell c) 0 j : sProp 𝕄)), swap_around (fun c j => (dutyTok ER (recvCell c j) 0 0 : sProp 𝕄))]

/-! ## The credit at launch -/

theorem due_sum (f : Fin 15 → ℕ) : (idx15.map f).sum = ∑ i, f i := by
  rw [Fin.sum_univ_def, show idx15 = List.finRange 15 from by decide]

theorem barDue_at (d : Dev nD) (l : List (Fin 15)) (g : GSem nD τ sig) :
    barDue d l g () = (l.map fun i => if g = barCell (peer d i) then 1 else 0).sum := by
  induction l with
  | nil => rfl
  | cons i l ih =>
    rw [barDue_cons, Pi.add_apply, Finsupp.add_apply, ih, tallyAt_apply, List.map_cons, List.sum_cons]
    simp only [and_true]
theorem sendDue_at (d : Dev nD) (l : List (Fin 15)) (g : GSem nD τ sig) :
    sendDue d l g () = (l.map fun i => if g = recvCell (peer d i) (rev i) then NS else 0).sum := by
  induction l with
  | nil => rfl
  | cons i l ih =>
    rw [sendDue_cons, Pi.add_apply, Finsupp.add_apply, ih, tallyAt_apply, List.map_cons, List.sum_cons]
    simp only [and_true]

theorem recv_ne_bar (k : Fin 15) : (SemLoc.dma (recvS k) : SemLoc sig) ≠ .reg barS := nofun

theorem bar_eq_iff (c d : Dev nD) (i : Fin 15) : barCell c = barCell (peer d i) ↔ d = peer c (rev i) :=
  ⟨fun h => by
    have : c = peer d i := congrArg (fun g : GSem nD τ sig => g.1.1) h
    rw [this, peer_rev], fun h => by rw [h, rev_peer]⟩
theorem recvS_inj : Function.Injective recvS := fun a b h => Fin.ext (by
  have := congrArg Fin.val h; rw [recvS_val, recvS_val] at this; omega)
theorem recv_eq_iff (c d : Dev nD) (k i : Fin 15) : recvCell c k = recvCell (peer d i) (rev i) ↔ d = peer c k ∧ i = rev k :=
  ⟨fun h => by
    have h1 : c = peer d i := congrArg (fun g : GSem nD τ sig => g.1.1) h
    have h2 : k = rev i := recvS_inj (SemLoc.dma.inj (congrArg (fun g : GSem nD τ sig => g.2) h))
    rw [h1, h2, peer_rev, rev_rev]; exact ⟨rfl, rfl⟩, fun ⟨h1, h2⟩ => by rw [h1, h2, peer_rev, rev_rev]⟩

theorem total_bar (c : Dev nD) : ∑ d : Dev nD, O₀ d (barCell c) () = 15 := by
  have h (d : Dev nD) : O₀ d (barCell c) () = ∑ i : Fin 15, if d = peer c (rev i) then 1 else 0 := by
    unfold O₀
    rw [Pi.add_apply, Finsupp.add_apply, sendDue_at, barDue_at, due_sum, due_sum]
    rw [Finset.sum_eq_zero fun i _ => if_neg fun h => recv_ne_bar (rev i) (congrArg Prod.snd h).symm, Nat.zero_add]
    exact Finset.sum_congr rfl fun i _ => by simp only [bar_eq_iff]
  rw [Finset.sum_congr rfl fun d _ => h d, Finset.sum_comm]
  rw [Finset.sum_congr rfl fun i _ => Finset.sum_ite_eq' Finset.univ (peer c (rev i)) fun _ => 1]
  simp
theorem total_recv (c : Dev nD) (k : Fin 15) : ∑ d : Dev nD, O₀ d (recvCell c k) () = NS := by
  have h (d : Dev nD) : O₀ d (recvCell c k) () = if d = peer c k then NS else 0 := by
    unfold O₀
    rw [Pi.add_apply, Finsupp.add_apply, sendDue_at, barDue_at, due_sum, due_sum]
    rw [Finset.sum_eq_zero (f := fun i : Fin 15 => if recvCell c k = barCell (peer d i) then 1 else 0) fun i _ => if_neg fun h => recv_ne_bar k (congrArg Prod.snd h), Nat.add_zero]
    rw [Finset.sum_congr rfl fun i _ => if_congr (recv_eq_iff c d k i) rfl rfl]
    by_cases hd : d = peer c k
    · rw [if_pos hd, Finset.sum_congr rfl fun i _ => if_congr (and_iff_right hd) rfl rfl, Finset.sum_ite_eq' Finset.univ (rev k) fun _ => NS, if_pos (Finset.mem_univ _)]
    · rw [if_neg hd]; exact Finset.sum_eq_zero fun i _ => if_neg fun h => hd h.1
  rw [Finset.sum_congr rfl fun d _ => h d, Finset.sum_ite_eq' Finset.univ (peer c k) fun _ => NS, if_pos (Finset.mem_univ _)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]; exact total_bar c
theorem launch_recv (c : Dev nD) (k : Fin 15) :
    tallyOn (recvCell c k) (launchCredit (Pipeline.owing O₀) 0 (recvCell c k)) = (tallyAt (recvCell c k) () NS : CellTallies nD τ sig Unit) := by
  unfold tallyAt; refine congrArg _ (Finsupp.ext fun u => ?_); cases u
  rw [Pipeline.launchCredit_owing, Finsupp.single_eq_same]; exact total_recv c k

def credEmb : Unit ⊕ Fin 15 ↪ SemLoc sig := ⟨Sum.elim (fun _ => .reg barS) fun k => .dma (recvS k), by
  rintro (a | a) (b | b) h
  · rfl
  · exact absurd h.symm (recv_ne_bar b)
  · exact absurd h (recv_ne_bar a)
  · exact congrArg Sum.inr (recvS_inj (SemLoc.dma.inj h))⟩

theorem creds (c : Dev nD) : (Pipeline.launchCred O₀ c : sProp 𝕄) ⊢ credits c := by
  unfold Pipeline.launchCred credits
  refine BIBase.Entails.trans (bigSep_subset (Finset.subset_univ (Finset.univ.map credEmb))) (Entails.of_eq ?_)
  rw [bigSep_map, bigSep_univ_sum, bigSep_univ_of_subsingleton ()]
  exact congrArg₂ (fun X Y : sProp 𝕄 => iprop(X ∗ Y)) (congrArg cred (launch_bar c)) (bigSep_congr fun k _ => congrArg cred (launch_recv c k))

end Cert.KernelIdeal.Own

end
-- ==== Proof.Region.lean ====
/- The kernel's region: its windows, what its body starts from and leaves, and its entry and exit. -/
module

public import proofs.«01_k».proof.Proof.Ghost
public import proofs.«01_k».proof.Proof.Gen.KernelIdeal.Frame
public import Idealize.ShloMosaic.Lib.Pipeline.ValueKit.Geometry

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

/-! ## The whole body -/

section Run

variable (C : Conts F) (κ : GSem nD τ sig → ℕ) (c : Dev nD)

/-- The three scratch buffers, at some contents. -/
def scratch : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

abbrev theBody : PR (F := F) :=
  cc0__body xM (Memref.isWhole_whole _) wM (Memref.isWhole_whole _) labM (Memref.isWhole_whole _) outM (Memref.isWhole_whole _) wvM (Memref.isWhole_whole _) stM (Memref.isWhole_whole _) arM (Memref.isWhole_whole _) cc0_scratch3 cc0_scratch4 cc0_scratch5

theorem body_split : (theBody : PR (F := F)) = .op .deviceId fun d => headP d (tailP d) := rfl

theorem body_run (X : Vec F S1024x2048 .f32) (LB : Vec F S1024x1 .i32) (hSt : C.St c = stOf C c X LB) (W : Waits sig Unit) (Q : PUnit → sProp 𝕄) :
    iprop(records C κ ∗ levAts L lv ∗ owes (c : Thread nD τ) (O₀ c) W ∗ bits c
        ∗ (((c : Thread nD τ).loc cc0_stg0_0) ↦{fullShare} X) ∗ (((c : Thread nD τ).loc cc0_stg1_0) ↦{fullShare} LB)
        ∗ (((c : Thread nD τ).loc main_arg1) ↦{fullShare} C.W c) ∗ scratch c ∗ (∃ f, ((c : Thread nD τ).loc cc0_stg2_0) ↦{fullShare} f))
      ⊢ iprop(((∃ W', owes (c : Thread nD τ) 0 W') ∗ semVal (barCell c) 0 ∗ Pipeline.ownSems0 osem c
        ∗ (((c : Thread nD τ).loc cc0_stg0_0) ↦{fullShare} X) ∗ (((c : Thread nD τ).loc cc0_stg1_0) ↦{fullShare} LB)
        ∗ (((c : Thread nD τ).loc main_arg1) ↦{fullShare} C.W c) ∗ scratch c ∗ (((c : Thread nD τ).loc cc0_stg2_0) ↦{fullShare} outVal C c)
          -∗ Q ⟨⟩)
        -∗ wp frame (wpE (defs₀ (F := F)) 𝒱₀ (c : Thread nD τ) none) Set.univ theBody Q) := by
  rw [body_split]
  unfold bits scratch
  iintro ⟨#HR, #Hlev, HO, ⟨Hb, Hc, Hsig, Hloc, Hsend, Hrecv⟩, Hx, Hl, Hw, ⟨Hs0, Hs1, Hs2⟩, Hout⟩ Hk
  rw [wp_deviceId]
  iapply (head_wp C κ c X LB W (tailP c) Q) $$ [HO Hsig Hloc Hx Hl Hw Hs0 Hs1 Hs2]
  · isplitr; · iexact HR
    isplitr; · iexact Hlev
    isplitl [HO]; · iexact HO
    isplitl [Hsig]; · iexact Hsig
    isplitl [Hloc]; · iexact Hloc
    isplitl [Hx]; · iexact Hx
    isplitl [Hl]; · iexact Hl
    isplitl [Hw]; · iexact Hw
    isplitl [Hs0]; · iexact Hs0
    isplitl [Hs1] <;> iassumption
  rw [← hSt]
  iintro ⟨⟨%W1, HO⟩, HaL, Hx, Hl, Hw, Hs0, Hst⟩
  iapply (tail_wp C κ c W1 Q) $$ [HO Hb Hc Hsend Hrecv Hst Hout]
  · isplitr; · iexact HR
    isplitr; · iexact Hlev
    isplitl [HO]; · iexact HO
    isplitl [Hb]; · iexact Hb
    isplitl [Hc]; · iexact Hc
    isplitl [Hsend]; · iexact Hsend
    isplitl [Hrecv]; · iexact Hrecv
    isplitl [Hst]; · iexact Hst
    iexact Hout
  iintro ⟨HO, HaB, HaS, HaR, Hs1, Hs2, Hout⟩
  imod (close_all C κ c) $$ [HaB HaL HaS HaR] with ⟨Hbar, Hown⟩
  · isplitr; · iexact HR
    unfold doneBits
    isplitl [HaB]; · iexact HaB
    isplitl [HaL]; · iexact HaL
    isplitl [HaS] <;> iassumption
  imodintro
  iapply Hk
  isplitl [HO]; · iexact HO
  isplitl [Hbar]; · iexact Hbar
  isplitl [Hown]; · iexact Hown
  isplitl [Hx]; · iexact Hx
  isplitl [Hl]; · iexact Hl
  isplitl [Hw]; · iexact Hw
  isplitl [Hs0 Hs1 Hs2]
  · isplitl [Hs0]; · iexact Hs0
    isplitl [Hs1] <;> iassumption
  iexact Hout

end Run

/-! ## The contents, from a launch memory -/

variable (m : (ℓ : Loc nD τ sig) → Buf (Elt F) ℓ) (ρ : Dev nD → PrngReg)

/-- What the input windows stage. -/
def xstg (c : Dev nD) : (cc0_stg0_0 : Ref sig .tc).ty.Contents (Elt F) := (win0_0.blk t0_0).view.read (Elt F) (V m c main_arg0)
def labstg (c : Dev nD) : (cc0_stg1_0 : Ref sig .tc).ty.Contents (Elt F) := (win0_1.blk t0_0).view.read (Elt F) (V m c main_v1)

/-- The weights, with any stored sums. -/
def weights : Conts F := ⟨fun c => V m c main_arg1, fun _ _ => Classical.choice (Elt.nonempty F .f32)⟩
/-- The weights, with what each device stores. -/
def conts : Conts F := ⟨fun c => V m c main_arg1, fun c => stOf (weights m) c (xstg m c) (labstg m c)⟩

theorem conts_st (c : Dev nD) : (conts m).St c = stOf (conts m) c (xstg m c) (labstg m c) := rfl

/-! ## The pipeline's data -/

/-- What enters the body beside the windows. -/
def X1 (c : Dev nD) : sProp 𝕄 := iprop((∃ κ, records (conts m) κ) ∗ bits c ∗ levAts L lv)

/-- The buffers no window stages, as the region finds them. -/
def restP (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_v3) ↦{fullShare} V m c main_v3))

def Φ₀ (c : Dev nD) : sProp 𝕄 := iprop(X1 m c ∗ restP m c ∗ scratch c ∗ ∃ r, prngReg c r)
def Φ₁ (c : Dev nD) : sProp 𝕄 := iprop(semVal (barCell c) 0 ∗ Pipeline.ownSems0 osem c ∗ restP m c ∗ scratch c ∗ ∃ r, prngReg c r)

def dat0 (c : Dev nD) : Dat τ (Elt F) Unit ℕ UU ℕ cfg0 c where
  A w := V m c (Pipeline.arrRef spec0 w)
  after w _ := match w with
    | ⟨0, _⟩ => xstg m c
    | ⟨1, _⟩ => labstg m c
    | ⟨2, _⟩ => outVal (conts m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem before_x (c : Dev nD) (d) : (dat0 m c).before (0 : Fin 3) t0_0 d = xstg m c := by
  unfold Dat.before; rw [if_pos (by decide)]; rfl
theorem before_lab (c : Dev nD) (d) : (dat0 m c).before (1 : Fin 3) t0_0 d = labstg m c := by
  unfold Dat.before; rw [if_pos (by decide)]; rfl

/-- At each end of the one point, what the device owes is what the data says. -/
theorem owes_out (c : Dev nD) (t : Fin (cfg0.N + 1)) : ((dat0 m c).owesAt () t : sProp 𝕄) ⊢ iprop(∃ W, owes (c : Thread nD τ) ((dat0 m c).owed t) W) := by
  unfold Dat.owesAt Pipeline.owesWithin
  iintro ⟨%W, -, H⟩
  iexists W
  iexact H
theorem owes_in (c : Dev nD) (t : Fin (cfg0.N + 1)) (W : Waits sig Unit) : (owes (c : Thread nD τ) ((dat0 m c).owed t) W : sProp 𝕄) ⊢ (dat0 m c).owesAt () t := by
  unfold Dat.owesAt Pipeline.owesWithin
  iintro H
  iexists W
  isplitr
  · ipureintro; exact fun _ _ => Or.inl trivial
  iexact H

/-- A staging buffer at given contents, as the windows are owned. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dat0 m c).owesAt () t0_0.castSucc
    ∗ (∃ d, stg c cc0_stg0_0 ((dat0 m c).before (0 : Fin 3) t0_0 d)) ∗ (∃ d, stg c cc0_stg1_0 ((dat0 m c).before (1 : Fin 3) t0_0 d))
    ∗ (∃ d, stg c cc0_stg2_0 ((dat0 m c).before (2 : Fin 3) t0_0 d)))
def bodyPost (c : Dev nD) : sProp 𝕄 :=
  iprop(Φ₁ m c ∗ (dat0 m c).owesAt () t0_0.succ ∗ stg c cc0_stg0_0 (xstg m c) ∗ stg c cc0_stg1_0 (labstg m c) ∗ stg c cc0_stg2_0 (outVal (conts m) c))

theorem body_wp (c : Dev nD) : bodyPre m c ⊢ wp frame (wpE (defs₀ (F := F)) 𝒱₀ (c : Thread nD τ) none) Set.univ theBody (fun _ => bodyPost m c) := by
  unfold bodyPre bodyPost Φ₀ Φ₁ X1 restP
  iintro ⟨⟨⟨⟨%κ, #HR⟩, Hbits, #Hlev⟩, ⟨Hw, H2, H3⟩, Hs, Hp⟩, HO, ⟨%d0, %f0, %h0, Hx⟩, ⟨%d1, %f1, %h1, Hl⟩, ⟨%d2, %f2, -, Hout⟩⟩
  rw [before_x] at h0; rw [before_lab] at h1
  subst h0; subst h1
  ihave HO' := (owes_out m c t0_0.castSucc) $$ HO
  rw [show (dat0 m c).owed t0_0.castSucc = O₀ c from rfl]
  icases HO' with ⟨%W, HO⟩
  iapply (body_run (conts m) κ c (xstg m c) (labstg m c) (conts_st m c) W _) $$ [HO Hbits Hx Hl Hw Hs Hout]
  · isplitr; · iexact HR
    isplitr; · iexact Hlev
    isplitl [HO]; · iexact HO
    isplitl [Hbits]; · iexact Hbits
    isplitl [Hx]; · iexact Hx
    isplitl [Hl]; · iexact Hl
    isplitl [Hw]; · iexact Hw
    isplitl [Hs]; · iexact Hs
    iexists f2; iexact Hout
  iintro ⟨⟨%W', HO⟩, Hbar, Hown, Hx, Hl, Hw, Hs, Hout⟩
  isplitl [Hbar Hown Hw H2 H3 Hs Hp]
  · isplitl [Hbar]; · iexact Hbar
    isplitl [Hown]; · iexact Hown
    isplitl [Hw H2 H3]
    · isplitl [Hw]; · iexact Hw
      isplitl [H2] <;> iassumption
    isplitl [Hs] <;> iassumption
  isplitl [HO]; · iapply (owes_in m c t0_0.succ W'); iexact HO
  isplitl [Hx]
  · iexists _; isplitr; swap; (· iexact Hx); ipureintro; rfl
  isplitl [Hl]
  · iexists _; isplitr; swap; (· iexact Hl); ipureintro; rfl
  iexists _; isplitr; swap; (· iexact Hout); ipureintro; rfl

set_option maxRecDepth 100000 in
theorem body_obligation (c : Dev nD) : BodyObligation (dat0 (F := F) m c) (defs₀ (F := F)) 𝒱₀ () Set.univ := fun t => by
  rw [fin_N0 t]
  rw [bigSep_W0, bigSep_W0]
  simp only [owns_whole_eq]
  exact body_wp m c

/-! ## Entry and exit -/

/-- The buffers no window stages. -/
def rest : Finset (DevRef τ sig) := Pipeline.ucRefs τ sig \ Pipeline.arrRefs spec0

theorem rest_eq (c : Dev nD) (W : Valuation τ sig (Elt F)) : (StableHlo.held (c : Thread nD τ) rest W : sProp 𝕄)
    = iprop((((c : Thread nD τ).loc main_arg1) ↦{fullShare} W main_arg1) ∗ (((c : Thread nD τ).loc main_arg2) ↦{fullShare} W main_arg2)
      ∗ (((c : Thread nD τ).loc main_v3) ↦{fullShare} W main_v3)) := by
  unfold StableHlo.held
  rw [bigSep_eq_bigSepL_of_eq [Proc.devRef .tc main_arg1, Proc.devRef .tc main_arg2, Proc.devRef .tc main_v3] (by decide) (by decide)]
  rfl

/-- What the arrays hold when the region is left; the other buffers as it found them. -/
def V2 (c : Dev nD) : Valuation τ sig (Elt F) := Pipeline.withArrays spec0 c (V0 m c) ((dat0 m c).arrAt · cfg0.N)

theorem V2_rest (c : Dev nD) (b : Ref sig .tc) (hb : ∀ w, Pipeline.arrRef spec0 w ≠ b) : V2 m c (Proc.devRef .tc b) = V m c b :=
  Pipeline.withArrays_of_ne _ c (V0 m c) _ b hb
theorem V2_arr (c : Dev nD) (w : Fin cfg0.W) : V2 m c (Proc.devRef .tc (Pipeline.arrRef spec0 w)) = (dat0 m c).arrAt w cfg0.N :=
  Pipeline.withArrays_arr spec0 winFacts0.arr_inj c (V0 m c) _ w

theorem out_arr (c : Dev nD) : (dat0 m c).arrAt (2 : Fin 3) cfg0.N = outVal (conts m) c := by
  refine (dat0 m c).arrAt_eq_of_after_last (2 : Fin 3) t0_0 (by decide +kernel) _ fun j => ?_
  rfl

theorem V2_out (c : Dev nD) : V2 m c (Proc.devRef .tc main_v2) = outVal (conts m) c := (V2_arr m c (2 : Fin 3)).trans (out_arr m c)
theorem V2_x (c : Dev nD) : V2 m c (Proc.devRef .tc main_arg0) = V m c main_arg0 := (V2_arr m c (0 : Fin 3)).trans ((dat0 m c).arrAt_in (0 : Fin 3) rfl _)

theorem held_rest (c : Dev nD) : (StableHlo.held (c : Thread nD τ) rest (V0 m c) : sProp 𝕄) = restP m c := rest_eq c (V0 m c)
theorem held_rest' (c : Dev nD) : (StableHlo.held (c : Thread nD τ) rest (V2 m c) : sProp 𝕄) = restP m c := by
  rw [rest_eq, V2_rest m c main_arg1 (by decide), V2_rest m c main_arg2 (by decide), V2_rest m c main_v3 (by decide)]; rfl

def Tk (c : Dev nD) : sProp 𝕄 := iprop((∃ κ, records (conts m) κ ∗ linear c) ∗ credits c)
def Yk (c : Dev nD) : sProp 𝕄 := semVal (barCell c) 0

theorem hopen (c : Dev nD) : iprop(Tk m c ∗ Pipeline.ownSems0 osem c ∗ levAts L lv) ⊢ (|={Set.univ}=> X1 m c : sProp 𝕄) := by
  unfold Tk X1
  iintro ⟨⟨⟨%κ, #HR, Hl⟩, Hc⟩, Hs, #Hlev⟩
  imod (bits_intro (conts m) κ c) $$ [Hl Hc Hs] with Hb
  · isplitr; · iexact HR
    isplitl [Hl]; · iexact Hl
    isplitl [Hc] <;> iassumption
  imodintro
  isplitr; · iexists κ; iexact HR
  isplitl [Hb]; · iexact Hb
  iexact Hlev

theorem hin (c : Dev nD) : iprop(Pipeline.scopedRest (Pipeline.pin (pcfgs (F := F)) adm 0).spec c ∗ (∃ r, prngReg c r)
      ∗ StableHlo.held (c.tc : Thread nD τ) rest (V0 m c) ∗ X1 m c) ⊢ (pdats m 0 c).Φ 0 := by
  rw [show (pdats m 0 c).Φ 0 = Φ₀ m c from rfl, held_rest m c,
    show (Pipeline.scopedRest (Ix := Unit) (Name := ℕ) (U := UU) (Lvl := ℕ) (Val := Elt F) (Pipeline.pin (pcfgs (F := F)) adm 0).spec c : sProp 𝕄) = scratch c from scopedRest0_eq c]
  unfold Φ₀
  iintro ⟨Hs, Hp, Hr, HX⟩
  isplitl [HX]; · iexact HX
  isplitl [Hr]; · iexact Hr
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) rest (V2 m c)
      ∗ Pipeline.ownSems0 osem c ∗ Yk c) := by
  rw [show (pdats m 0 c).Φ (Fin.last _) = Φ₁ m c from rfl, held_rest' m c,
    show (Pipeline.scopedRest (Ix := Unit) (Name := ℕ) (U := UU) (Lvl := ℕ) (Val := Elt F) (Pipeline.pin (pcfgs (F := F)) adm 0).spec c : sProp 𝕄) = scratch c from scopedRest0_eq c]
  unfold Φ₁ Yk
  iintro ⟨Hb, Ho, Hr, Hs, Hp⟩
  isplitl [Hs]; · iexact Hs
  isplitl [Hp]; · iexact Hp
  isplitl [Hr]; · iexact Hr
  isplitl [Ho] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = O₀ c ∨ (pdats (F := F) m 0 c).owed t = 0 := by
    rcases t with ⟨_ | _, ht⟩
    · exact Or.inl rfl
    · exact Or.inr rfl
  rcases e with e | e
  · rw [e] at h
    unfold O₀ at h
    rw [Pi.add_apply, Finsupp.add_apply] at h
    rcases Nat.add_pos_iff_pos_or_pos.mp h with h | h
    · obtain ⟨k, rfl⟩ := sendDue_pos h
      exact ⟨by rw [L_tc]; exact Finset.mem_singleton_self _, by rw [show lv (recvCell (peer c k) (rev k)) i = 2 from lv_recv _ _]; decide⟩
    · obtain ⟨k, rfl⟩ := barDue_pos h
      exact ⟨by rw [L_tc]; exact Finset.mem_singleton_self _, by rw [show lv (barCell (peer c k)) i = 1 from rfl]; decide⟩
  · rw [e] at h; exact absurd h (Nat.lt_irrefl 0)

theorem lv_stage : ∀ (w : Fin 3) (s : Fin (spec0 w).nbuf), ((spec0 w).sem s).val < 22 := by decide

local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem (by decide : Pipeline.OwnSemFacts spec0 osem)
    rest rest (Finset.Subset.refl _) kitP rfl (fun c => (body_obligation m c).loose)
    (fun _ => 0) O₀ (fun c => (zero_add (O₀ c)).symm) (fun _ => rfl) (fun _ => rfl) (fun c w => by unfold Dat.share; split <;> rfl)
    (V0 m) (V2 m) (fun _ b hb => absurd hb (by rw [Finset.sdiff_self]; exact Finset.notMem_empty b))
    (Tk m) Yk (X1 m) Yk (hopen m) (hin m) (hout m)
    (fun c => by iintro H; imodintro; iexact H)
    (fun _ => 0)
    ⟨fun c w s => by rw [L_tc]; exact Finset.mem_singleton_self _,
      fun c w s => by
        show (if 22 ≤ ((spec0 w).sem s).val then 2 else 0) ≤ 0
        rw [if_neg (Nat.not_le.mpr (lv_stage w s))], fun c t g i h => cutD m c t g i h⟩
    (fun _ => iprop(emp))
    (fun _ _ => rfl) (fun c w => (V2_arr m c w).symm)

end Cert.KernelIdeal.Own

end
-- ==== Proof.Launch.lean ====
/- The run: what the launch deals, and what every final state holds. -/
module

public import proofs.«01_k».proof.Proof.Region

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

abbrev Vm (c : Dev nD) : Valuation τ sig (Elt F) := fun b => m (c, b)
abbrev V3 (c : Dev nD) : Valuation τ sig (Elt F) := StableHlo.after hostOps1 (V2 m c)

/-- What rides along until the region starts. -/
def rides (c : Dev nD) : sProp 𝕄 := iprop(Tk m c ∗ (∃ r, prngReg c r) ∗ ∃ W, owes (c : Thread nD τ) (O₀ c) W)
/-- What rides along after it. -/
def rides' (c : Dev nD) : sProp 𝕄 := iprop(semVal (barCell c) 0 ∗ ∃ W, owes (c : Thread nD τ) (0 : CellTallies nD τ sig Unit) W)

local notation "ℍ𝕊" => Pipeline.HostSeg (Ix := Unit) (Name := ℕ) (U := UU) (Lvl := ℕ) (pcfgs (F := F)) defs₀ 𝒱₀ L lv

def seg0 : ℍ𝕊 := Pipeline.HostSeg.ofOps _ _ _ _ _ (Pipeline.ucRefs τ sig) hostOps0
  (fun op h => Pipeline.sub_ucRefs op ((List.forall_iff_forall_mem.mp hostOps0_sub) op h)) (List.forall_iff_forall_mem.mp hostOps0_fresh) (Vm m) (rides m)
def seg1 : ℍ𝕊 := Pipeline.HostSeg.ofOps _ _ _ _ _ (Pipeline.ucRefs τ sig) hostOps1
  (fun op h => Pipeline.sub_ucRefs op ((List.forall_iff_forall_mem.mp hostOps1_sub) op h)) (List.forall_iff_forall_mem.mp hostOps1_fresh) (V2 m) (rides' (F := F))

theorem arr_sub : Pipeline.arrRefs (τ := τ) spec0 ⊆ Pipeline.ucRefs τ sig := by decide

theorem held_split (c : Dev nD) (W : Valuation τ sig (Elt F)) : (StableHlo.held (c : Thread nD τ) (Pipeline.ucRefs τ sig) W : sProp 𝕄)
    = iprop(StableHlo.held (c : Thread nD τ) (Pipeline.arrRefs spec0) W ∗ StableHlo.held (c : Thread nD τ) rest W) :=
  StableHlo.held_sub_split (c : Thread nD τ) arr_sub W

set_option backward.isDefEq.respectTransparency.types false in
theorem reg_pre (c : Dev nD) : iprop(StableHlo.held (c : Thread nD τ) (Pipeline.ucRefs τ sig) (V0 m c) ∗ rides m c) ⊢ (reg m).pre c := by
  show _ ⊢ iprop(StableHlo.held (c.tc : Thread nD τ) (Pipeline.arrRefs spec0) (V0 m c) ∗ (∃ r, prngReg c r)
    ∗ (StableHlo.held (c.tc : Thread nD τ) rest (V0 m c) ∗ emp) ∗ Tk m c ∗ ∃ Wd, owes (c : Thread nD τ) (0 + O₀ c) Wd)
  rw [held_split, zero_add]
  unfold rides
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

set_option backward.isDefEq.respectTransparency.types false in
theorem reg_post (c : Dev nD) : (reg m).post c ⊢ iprop(StableHlo.held (c : Thread nD τ) (Pipeline.ucRefs τ sig) (V2 m c) ∗ rides' c) := by
  show iprop(StableHlo.held (c.tc : Thread nD τ) (Pipeline.arrRefs spec0) (V2 m c) ∗ (∃ r, prngReg c r)
    ∗ (StableHlo.held (c.tc : Thread nD τ) rest (V2 m c) ∗ emp) ∗ Yk c ∗ ∃ Wd, owes (c : Thread nD τ) (0 : CellTallies nD τ sig Unit) Wd) ⊢ _
  rw [held_split]
  unfold rides' Yk
  iintro ⟨Ha, -, ⟨Hr, -⟩, Hb, HO⟩
  isplitl [Ha Hr]
  · isplitl [Ha] <;> iassumption
  isplitl [Hb] <;> iassumption

def segs : List (Pipeline.Seg (pcfgs (F := F)) adm (pdats m) () defs₀ 𝒱₀ L lv) := [.host (seg0 m), .region (reg m), .host (seg1 m)]

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells talkToks)

/-- The protocol's element, kept with device 0 until it is dealt. -/
def parked (c : Dev nD) : sProp 𝕄 := if c = 0 then BI.own (ER (launchOf barCells ownCells talkToks)) else iprop(emp)
theorem parked_all : bigSep Finset.univ (parked (F := F)) = BI.own (ER (launchOf barCells ownCells talkToks)) := by
  have h : ∀ c ∈ Finset.univ.erase (0 : Dev nD), parked (F := F) c = BI.emp := fun c hc => by
    unfold parked; rw [if_neg (Finset.ne_of_mem_erase hc)]; rfl
  rw [bigSep_univ_at _ (0 : Dev nD), bigSep_congr h, BI.bigSep_emp_const]
  unfold parked; rw [if_pos rfl]
  exact BI.equiv_iff.mp sep_emp

abbrev T₀ (c : Dev nD) : sProp 𝕄 := iprop(StableHlo.held (c : Thread nD τ) (Pipeline.ucRefs τ sig) (Vm m c) ∗ rides m c)
abbrev Tₙ (c : Dev nD) : sProp 𝕄 := iprop(StableHlo.held (c : Thread nD τ) (Pipeline.ucRefs τ sig) (V3 m c) ∗ semVal (barCell c) 0)

/-- A device's share of the launch, its ghost state aside. -/
def goods (c : Dev nD) : sProp 𝕄 :=
  iprop(StableHlo.held (c : Thread nD τ) (Pipeline.ucRefs τ sig) (Vm m c) ∗ credits c ∗ owes (c : Thread nD τ) (O₀ c) ∅ ∗ ∃ r, prngReg c r)

theorem T₀_intro (κ : GSem nD τ sig → ℕ) (c : Dev nD) : iprop(records (conts m) κ ∗ (linear c ∗ goods m c)) ⊢ T₀ m c := by
  unfold goods T₀ rides Tk
  iintro ⟨#HR, Hl, Hh, Hc, HO, Hp⟩
  isplitl [Hh]; · iexact Hh
  isplitl [Hl Hc]
  · isplitl [Hl]
    · iexists κ
      isplitr; · iexact HR
      iexact Hl
    iexact Hc
  isplitl [Hp]; · iexact Hp
  iexists ∅; iexact HO

theorem unzip {A B : Dev nD → sProp 𝕄} : (bigSep Finset.univ fun c => iprop(A c ∗ B c)) ⊢ iprop(bigSep Finset.univ A ∗ bigSep Finset.univ B) :=
  Entails.of_eq (bigSep_sep' _ _ _)
theorem zip {A B : Dev nD → sProp 𝕄} : iprop(bigSep Finset.univ A ∗ bigSep Finset.univ B) ⊢ (bigSep Finset.univ fun c => iprop(A c ∗ B c)) :=
  Entails.of_eq (bigSep_sep' _ _ _).symm

theorem counters (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem dealt (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(goods m c ∗ (semVal (barCell c) 0 ∗ parked c)) : sProp 𝕄) := by
  rw [show unscopedBufs c (fun b => m ((c : Thread nD τ).loc b)) = StableHlo.held (c : Thread nD τ) (Pipeline.ucRefs τ sig) (Vm m c) from
    Pipeline.unscopedBufs_held c (Vm m c), counters]
  unfold goods
  iintro ⟨Hh, Hus, HO, Hcr, Hp, HG⟩
  isplitr [Hus HG]
  · isplitl [Hh]; · iexact Hh
    isplitl [Hcr]; · iapply (creds (F := F) c); iexact Hcr
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : KS => (openTok ER ((c : Thread nD τ), osem k) : sProp 𝕄)) :=
    Entails.of_eq (by
      rw [bigSep_map, bigSep_univ_prod]
      rfl)
  have htok : bigSep talkToks (fun x => (dutyTok ER x.1 x.2.1 x.2.2 : sProp 𝕄)) ⊢ bigSep Finset.univ (payToks (F := F)) := Entails.of_eq toks_dealt
  have hcore : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(goods m c ∗ (semVal (barCell c) 0 ∗ parked c)) : sProp 𝕄) := bigSep_mono fun c _ => dealt m ρ c
  have hpark : bigSep Finset.univ (parked (F := F)) ⊢ BI.own (ER (launchOf barCells ownCells talkToks)) := Entails.of_eq parked_all
  iintro ⟨H, -⟩
  ihave H' := hcore $$ H
  ihave H2 := unzip $$ H'; icases H2 with ⟨HB, H3⟩
  ihave H4 := unzip $$ H3; icases H4 with ⟨Hv, HG⟩
  ihave Hu := hpark $$ HG
  imod (Rounds.fund_launch ER (Rd (conts m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (conts m) κ) (Φ := fun c => iprop(linear c ∗ goods m c)) fun c _ => T₀_intro m κ c)
  isplitr
  · unfold records
    isplitr; · iexact Hinv
    iexact Hr
  iapply zip
  isplitr [HB]
  · unfold linear
    iapply zip; isplitl [Hat]; · iapply hat $$ Hat
    iapply zip; isplitl [Hopen]; · iapply hopen $$ Hopen
    iapply htok $$ Htok
  · iexact HB

/-! ## The final contents -/

theorem V3_keep (c : Dev nD) (b : Ref sig .tc) (hb : b ≠ main_v3) : V3 m c (Proc.devRef .tc b) = V2 m c (Proc.devRef .tc b) := by
  show StableHlo.after [_] (V2 m c) (Proc.devRef .tc b) = _
  rw [StableHlo.after_cons, StableHlo.after_nil, StableHlo.reshape_result_ne _ _ _ _ _ _ _ hb]

/-- The result: the eight rows the body leaves, laid end to end. -/
def result (c : Dev nD) : Vec F S1024 .f32 := shapeCast S1024 (outVal (conts m) c) shapeCasts_S8x128_S1024

theorem V3_out (c : Dev nD) : V3 m c (Proc.devRef .tc main_v3) = result m c := by
  show StableHlo.after [_] (V2 m c) (Proc.devRef .tc main_v3) = _
  rw [StableHlo.after_cons, StableHlo.after_nil, StableHlo.reshape_result', V2_out]
  rfl
theorem V3_arg0 (c : Dev nD) : V3 m c (Proc.devRef .tc main_arg0) = m ((c : Thread nD τ).loc main_arg0) := by
  rw [V3_keep m c _ (by decide), V2_x, V_main_arg0]
theorem V3_arg1 (c : Dev nD) : V3 m c (Proc.devRef .tc main_arg1) = m ((c : Thread nD τ).loc main_arg1) := by
  rw [V3_keep m c _ (by decide), V2_rest m c _ (by decide), V_main_arg1]
theorem V3_arg2 (c : Dev nD) : V3 m c (Proc.devRef .tc main_arg2) = m ((c : Thread nD τ).loc main_arg2) := by
  rw [V3_keep m c _ (by decide), V2_rest m c _ (by decide), V_main_arg2]

theorem unscoped_eq : ∀ sm : SemLoc sig, sm.isScoped .tc = false → sm = .reg barS := by decide

theorem held_all (c : Dev nD) (W : Valuation τ sig (Elt F)) : (StableHlo.held (c : Thread nD τ) (Pipeline.ucRefs τ sig) W : sProp 𝕄)
    ⊢ iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v3) ↦{fullShare} W main_v3)) := by
  have hs : ({Proc.devRef .tc main_arg0, Proc.devRef .tc main_arg1, Proc.devRef .tc main_arg2, Proc.devRef .tc main_v3} : Finset (DevRef τ sig))
      ⊆ Pipeline.ucRefs τ sig := by decide
  unfold StableHlo.held
  refine BIBase.Entails.trans (bigSep_subset hs) (Entails.of_eq ?_)
  rw [bigSep_eq_bigSepL_of_eq [Proc.devRef .tc main_arg0, Proc.devRef .tc main_arg1, Proc.devRef .tc main_arg2, Proc.devRef .tc main_v3] (by decide) (by decide)]
  rfl

/-- What every final state holds. -/
def Final (r : PUnit × MemSt nD τ sig (Elt F)) : Prop :=
  (∀ c : Dev nD, r.2.mem ((c : Thread nD τ).loc main_v3) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

set_option backward.isDefEq.respectTransparency.types false in
theorem run_main : θ_run defs (onTc (τ := τ) (main (F := F))) ⟨m, fun _ => 0, ρ⟩ (Final m) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg m) rfl rfl c]; exact .rfl)
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => reg_pre m c, fun c => reg_post m c, fun c => ?_⟩
      show iprop(StableHlo.held (c : Thread nD τ) (Pipeline.ucRefs τ sig) (V3 m c) ∗ rides' c)
        ⊢ iprop(Tₙ m c ∗ ∃ W, owes (c : Thread nD τ) (0 : CellTallies nD τ sig Unit) W)
      unfold rides'
      iintro ⟨Hh, Hb0, HO⟩
      isplitr [HO]
      · isplitl [Hh] <;> iassumption
      · iexact HO)
    (hinit := init m ρ)
    (QY := fun c s => (s.mem ((c : Thread nD τ).loc main_arg0) = V3 m c main_arg0 ∧ s.mem ((c : Thread nD τ).loc main_arg1) = V3 m c main_arg1
      ∧ s.mem ((c : Thread nD τ).loc main_arg2) = V3 m c main_arg2 ∧ s.mem ((c : Thread nD τ).loc main_v3) = V3 m c main_v3) ∧ s.sem (barCell c) = 0)
    (hfin := fun c s' => by
      dsimp only [Tₙ]
      iintro ⟨⟨Hh, Hb0⟩, HSI⟩
      ihave H4 := (held_all c (V3 m c)) $$ Hh
      icases H4 with ⟨H0, H1, H2, H3⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        exact ⟨h3.trans (V3_out m c), h0.trans (V3_arg0 m c), h1.trans (V3_arg1 m c), h2.trans (V3_arg2 m c)⟩,
      sem_eq_zero hs fun c sm hsm => by
        obtain rfl := unscoped_eq sm hsm
        exact (h c).2⟩)

end Cert.KernelIdeal.Own

end
-- ==== Proof.Frames.lean ====
/- The frames: the kernel as printed and as idealized, by one run; the reference, by its own. -/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.Proof

open Idealize.ShloMosaic Idealize.SL.Sem

section Both

open Cert.KernelIdeal Idealize.ShloMosaic.TcCoe

variable {F : FTy → Type} [FloatOps F]

/-- What a frame says of a final state. -/
def Kept (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0

theorem frame_any (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (Kept m) :=
  (θ_run Cert.KernelIdeal.defs _ _).mono (fun _ h => ⟨fun c => (h.1 c).2, h.2⟩) (Cert.KernelIdeal.Own.run_main m ρ)

/-- The two texts have one table of bodies. -/
theorem bodies_eq : @Cert.Kernel.defs₀ F _ _ = @Cert.KernelIdeal.defs₀ F _ _ := by
  refine congrArg (Defs.onTc (nD := nD) (τ := τ) (sig := sig) (Val := Elt F) (Λ := Λ₀)) ?_
  funext l x
  rcases l with ⟨_ | n, h⟩
  · rcases x with ⟨t, s⟩
    rfl
  · exact absurd h (Nat.not_lt.2 (Nat.le_add_left _ _))
theorem tables_eq : @Cert.Kernel.defs F _ _ = @Cert.KernelIdeal.defs F _ _ := congrArg (fun d => Pipeline.defs Cert.KernelIdeal.pcfgs d) bodies_eq

theorem frame_printed (m : (ℓ : Loc nD τ sig) → Buf (Elt F) ℓ) (ρ : Dev nD → PrngReg) :
    θ_run (Cert.Kernel.defs (F := F)) (onTc (τ := τ) (Cert.KernelIdeal.main (F := F))) ⟨m, fun _ => 0, ρ⟩ (Kept m) := by
  rw [tables_eq]; exact frame_any m ρ

end Both

theorem frame_kernel : Cert.quiescent_Kernel := fun m ρ _ => frame_printed (F := Bits) m ρ
theorem frame_ideal : Cert.quiescent_KernelIdeal := fun m ρ _ => frame_any (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Pre.lean ====
/- What the precondition says of the arguments, over the extended reals. -/
module

public import proofs.«01_k».proof.Pre_finite_in_range_KernelIdeal
public import proofs.«01_k».proof.Pre_finite_in_range_ReferenceIdeal
public import Idealize.ShloMosaic.Lib.ReduceAll
public import Idealize.ShloMosaic.Lib.Pointwise

@[expose] public section

noncomputable section

namespace Cert.Proof

open Idealize.ShloMosaic

theorem pre_kernel_facts : Cert.Pre_finite_in_range_KernelIdeal.Facts :=
  ⟨by decide, by decide, by decide, by decide, by decide, by decide, by decide⟩

theorem pre_reference_facts : Cert.Pre_finite_in_range_ReferenceIdeal.Facts :=
  ⟨by decide, by decide, by decide, by decide, by decide, by decide, by decide⟩

/-- An extended real whose absolute value is below the pattern of plus infinity is finite. -/
theorem finite_of_cmp (a : EReal) (h : Ideal.cmp .olt (max a (-a)) (Ideal.ofBits .f32 0x7F800000#32) = 1#1) : a ≠ ⊤ ∧ a ≠ ⊥ := by
  have ht : Ideal.ofBits .f32 0x7F800000#32 = ⊤ := by simp [Ideal.ofBits, Ideal.ieee]
  rw [ht] at h
  have h1 : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  refine ⟨fun e => ?_, fun e => ?_⟩ <;> subst e <;> simp at h1

section

open Cert.Pre_finite_in_range_KernelIdeal

variable [Facts]

instance : Subsingleton S_.Idx := ⟨fun a b => funext fun k => k.elim0⟩

theorem decode (x : FVec Ideal S1024x2048 .f32) (w : FVec Ideal S2048x16384 .f32) (lab : IVec S1024 32)
    (h : fn (F := Ideal) x w lab = fun _ => 1#1) :
    (∀ i, x i ≠ (⊤ : EReal) ∧ x i ≠ (⊥ : EReal)) ∧ (∀ i, w i ≠ (⊤ : EReal) ∧ w i ≠ (⊥ : EReal))
      ∧ ∀ i, 0 ≤ (lab i).toInt ∧ (lab i).toInt < 32768 := by
  have h0 := congrFun h (fun k => k.elim0)
  unfold fn at h0
  obtain ⟨h1, h3⟩ := IntOp.andi_eq_one.1 h0
  obtain ⟨h1, h2⟩ := IntOp.andi_eq_one.1 h1
  refine ⟨fun i => ?_, fun i => ?_, fun i => ?_⟩
  · exact finite_of_cmp _ (Host.reduce_andi_all _ _ _ _ _ h1 i)
  · exact finite_of_cmp _ (Host.reduce_andi_all _ _ _ _ _ h2 i)
  · obtain ⟨ha, hb⟩ := IntOp.andi_eq_one.1 (Host.reduce_andi_all _ _ _ _ _ h3 i)
    exact ⟨(IntOp.cmpi_sge (y := 0#32)).1 ha, (IntOp.cmpi_slt (y := 32768#32)).1 hb⟩

end

end Cert.Proof

end
-- ==== Proof.Sums.lean ====
/- What one device's partial sums are, element by element, over the extended reals. -/
module

public import proofs.«01_k».proof.Proof.Flat
public import Idealize.ShloMosaic.Lib.Pointwise

@[expose] public section

set_option maxRecDepth 16384

noncomputable section

namespace Cert.KernelIdeal.Own

open Idealize.ShloMosaic Idealize.ShloMosaic.TcCoe
open Cert.KernelIdeal Cert.KernelIdeal.Gen

/-- The token of row `a`, lane `b` of the partial sums. -/
def tok (a : Fin 8) (b : Fin 128) : Fin 1024 := ⟨a.val * 128 + b.val, by omega⟩

/-- The exponential of a logit. -/
def ex (X : Vec Ideal S1024x2048 .f32) (w : Vec Ideal S2048x512 .f32) (t : Fin 1024) (v : Fin 512) : EReal :=
  Ideal.exp (∑ k : Fin 2048, X (ix2 t k) * w (ix2 k v))

theorem sums_at (X : Vec Ideal S1024x2048 .f32) (w : Fin 4 → Vec Ideal S2048x512 .f32) (a : Fin 8) (b : Fin 128) :
    sumsOf (F := Ideal) X X X X (w 0) (w 1) (w 2) (w 3) (ix2 a b) = ∑ h : Fin 4, ∑ v : Fin 512, ex X (w h) (tok a b) v := by
  rw [Fin.sum_univ_four]
  unfold sumsOf k0_pay16 k0_pay10
  pointwise [k0_pay2, k0_pay3, k0_pay5, k0_pay6, k0_pay7, k0_pay9, k0_pay12, k0_pay13, k0_pay15]
  rfl

/-- A choice by the equality of two words. -/
theorem select_eq (p q : BitVec 32) (x y : EReal) : Scalar.select (IntOp.cmpi .eq p q) x y = if p = q then x else y := by
  by_cases h : p = q
  · rw [if_pos h, IntOp.cmpi_eq.2 h]; rfl
  · rw [if_neg h]
    have h0 : IntOp.cmpi .eq p q = 0#1 := by
      rcases BitVec.eq_zero_or_eq_one (IntOp.cmpi .eq p q) with e | e
      · exact e
      · exact absurd (IntOp.cmpi_eq.1 e) h
    rw [h0]; rfl

theorem labs_at (base : BitVec 32) (X : Vec Ideal S1024x2048 .f32) (w : Fin 4 → Vec Ideal S2048x512 .f32) (L : Vec Ideal S1024x1 .i32) (a : Fin 8) (b : Fin 128) :
    labsOf (F := Ideal) base X X X X (w 0) (w 1) (w 2) (w 3) L L L L (ix2 a b)
      = ∑ h : Fin 4, ∑ v : Fin 512, if BitVec.ofNat 32 v.val + (base + BitVec.ofNat 32 (512 * h.val)) = L (ix2 (tok a b) 0) then ex X (w h) (tok a b) v else 0 := by
  rw [Fin.sum_univ_four]
  unfold labsOf k0_pay17 k0_pay11
  pointwise [k0_pay2, k0_pay4, k0_pay5, k0_pay6, k0_pay8, k0_pay9, k0_pay12, k0_pay13, k0_pay14, k0_pay15]
  simp only [select_eq]
  rfl

end Cert.KernelIdeal.Own

end
-- ==== Proof.Device.lean ====
/- What a device stores, of its arguments. -/
module

public import proofs.«01_k».proof.Proof.Region
public import proofs.«01_k».proof.Proof.Sums

@[expose] public section

set_option maxRecDepth 16384

noncomputable section

namespace Cert.KernelIdeal.Own

open Idealize.ShloMosaic Idealize.ShloMosaic.TcCoe
open Cert.KernelIdeal Cert.KernelIdeal.Gen

/-- Which sixteenth of the vocabulary a device has. -/
def part (c : Dev nD) : Fin 16 := ⟨c.val / 4 % 2 * 8 + (c.val / 8 * 4 + c.val % 4), by have := c.isLt; have h : nD = 16 := rfl; omega⟩

theorem colBase_eq (c : Dev nD) : colBase c = BitVec.ofNat 32 (2048 * (part c).val) := by revert c; decide
theorem off1_col (c : Dev nD) (h : Fin 4) : k0_off1 c (BitVec.ofNat 32 (512 * h.val)) 1 = 2048 * ((part c).val % 8) + 512 * h.val := by revert c h; decide

variable (m : (ℓ : Loc nD τ sig) → Buf (Elt Ideal) ℓ)

abbrev argX (c : Dev nD) : Vec Ideal S1024x2048 .f32 := m ((c : Thread nD τ).loc main_arg0)
abbrev argW (c : Dev nD) : Vec Ideal S2048x16384 .f32 := m ((c : Thread nD τ).loc main_arg1)
abbrev argL (c : Dev nD) : Vec Ideal S1024 .i32 := m ((c : Thread nD τ).loc main_arg2)

theorem xstg_eq (c : Dev nD) : xstg m c = argX m c := by
  have h : xstg m c = V m c main_arg0 := by
    funext i
    refine congrArg (V m c main_arg0) (funext fun a => Fin.ext ?_)
    match a with
    | ⟨0, _⟩ => simp; rfl
    | ⟨1, _⟩ => simp; rfl
  rw [h, V_main_arg0]

theorem labstg_at (c : Dev nD) (t : Fin 1024) : labstg m c (ix2 t 0) = argL m c (ix1 t) := by
  have h : labstg m c = V m c main_v1 := by
    funext i
    refine congrArg (V m c main_v1) (funext fun a => Fin.ext ?_)
    match a with
    | ⟨0, _⟩ => simp; rfl
    | ⟨1, _⟩ => simp; rfl
  have h2 : (V m c main_v1 : Vec Ideal S1024x1 .i32) = shapeCast S1024x1 (argL m c) shapeCasts_S1024_S1024x1 := by
    show StableHlo.after hostOps0 (fun b => m (c, b)) (Proc.devRef .tc main_v1) = _
    rw [StableHlo.after_cons, StableHlo.after_nil, StableHlo.reshape_result']
    rfl
  rw [h]
  refine (congrFun h2 (ix2 t 0)).trans ?_
  pointwise

theorem wcol_at (c : Dev nD) (h : Fin 4) (k : Fin 2048) (v : Fin 512) :
    wcol (weights m) c h (ix2 k v) = argW m c (ix2 k ⟨2048 * ((part c).val % 8) + 512 * h.val + v.val, by omega⟩) := by
  have hw : (weights m).W c = argW m c := V_main_arg1 m c
  unfold wcol
  rw [hw]
  refine congrArg (argW m c) (funext fun a => Fin.ext ?_)
  match a with
  | ⟨0, _⟩ => show 0 + 1 * k.val = k.val; omega
  | ⟨1, _⟩ =>
    show k0_off1 c (BitVec.ofNat 32 (512 * h.val)) 1 + 1 * v.val = _
    rw [off1_col, Nat.one_mul]
    rfl

/-- A device's column of the whole vocabulary: column `v` of its block `h`. -/
def col (c : Dev nD) (h : Fin 4) (v : Fin 512) : Fin 32768 := ⟨2048 * (part c).val + 512 * h.val + v.val, by omega⟩

/-- The exponential of a logit, of the whole arrays. -/
def E (x : FVec Ideal S1024x2048 .f32) (w : FVec Ideal ⟨2, ![2048, 32768]⟩ .f32) (t : Fin 1024) (j : Fin 32768) : EReal :=
  Ideal.exp (∑ k : Fin 2048, x (ix2 t k) * w (ix2 k j))

/-- The arguments of every device are these arrays' parts. -/
structure Parts (x : FVec Ideal S1024x2048 .f32) (w : FVec Ideal ⟨2, ![2048, 32768]⟩ .f32) (lab : IVec S1024 32) : Prop where
  hx : ∀ c, argX m c = x
  hw : ∀ c k (j : Fin 16384), argW m c (ix2 k j) = w (ix2 k ⟨16384 * (c.val / 4 % 2) + j.val, by omega⟩)
  hl : ∀ c, argL m c = lab

section

variable {m} {x : FVec Ideal S1024x2048 .f32} {w : FVec Ideal ⟨2, ![2048, 32768]⟩ .f32} {lab : IVec S1024 32} (hp : Parts m x w lab)

include hp in
theorem ex_eq (c : Dev nD) (h : Fin 4) (t : Fin 1024) (v : Fin 512) : ex (xstg m c) (wcol (weights m) c h) t v = E x w t (col c h v) := by
  unfold ex E
  refine congrArg Ideal.exp (Finset.sum_congr rfl fun k _ => ?_)
  rw [xstg_eq, hp.hx, wcol_at, hp.hw]
  refine congrArg (fun j => x (ix2 t k) * w (ix2 k j)) (Fin.ext ?_)
  show 16384 * (c.val / 4 % 2) + (2048 * ((c.val / 4 % 2 * 8 + (c.val / 8 * 4 + c.val % 4)) % 8) + 512 * h.val + v.val)
    = 2048 * (c.val / 4 % 2 * 8 + (c.val / 8 * 4 + c.val % 4)) + 512 * h.val + v.val
  have := c.isLt
  have hn : nD = 16 := rfl
  omega

theorem word_eq (c : Dev nD) (h : Fin 4) (v : Fin 512) :
    BitVec.ofNat 32 v.val + (colBase c + BitVec.ofNat 32 (512 * h.val)) = BitVec.ofNat 32 (col c h v).val := by
  rw [colBase_eq, ← BitVec.ofNat_add, ← BitVec.ofNat_add]
  refine congrArg (BitVec.ofNat 32) ?_
  show v.val + (2048 * (part c).val + 512 * h.val) = 2048 * (part c).val + 512 * h.val + v.val
  omega

include hp in
theorem st_sums (c : Dev nD) (a : Fin 8) (b : Fin 128) :
    (conts m).St c (ix2 ⟨a.val, by omega⟩ b) = ∑ h : Fin 4, ∑ v : Fin 512, E x w (tok a b) (col c h v) := by
  have h1 : (conts m).St c (ix2 ⟨a.val, by omega⟩ b)
      = sumsOf (F := Ideal) (xstg m c) (xstg m c) (xstg m c) (xstg m c) (wcol (weights m) c 0) (wcol (weights m) c 1) (wcol (weights m) c 2) (wcol (weights m) c 3) (row8 (ix2 ⟨a.val, by omega⟩ b)) :=
    if_pos a.isLt
  have h2 : row8 (ix2 (⟨a.val, by omega⟩ : Fin 16) b) = ix2 a b := by
    funext k
    match k with
    | ⟨0, _⟩ => exact Fin.ext (Nat.mod_eq_of_lt a.isLt)
    | ⟨1, _⟩ => rfl
  rw [h1, h2]
  refine (sums_at (xstg m c) (fun h => wcol (weights m) c h) a b).trans ?_
  exact Finset.sum_congr rfl fun h _ => Finset.sum_congr rfl fun v _ => ex_eq hp c h _ v

include hp in
theorem st_labs (c : Dev nD) (a : Fin 8) (b : Fin 128) :
    (conts m).St c (ix2 ⟨8 + a.val, by omega⟩ b)
      = ∑ h : Fin 4, ∑ v : Fin 512, if BitVec.ofNat 32 (col c h v).val = lab (ix1 (tok a b)) then E x w (tok a b) (col c h v) else 0 := by
  have h1 : (conts m).St c (ix2 ⟨8 + a.val, by omega⟩ b)
      = labsOf (F := Ideal) (colBase c) (xstg m c) (xstg m c) (xstg m c) (xstg m c) (wcol (weights m) c 0) (wcol (weights m) c 1) (wcol (weights m) c 2) (wcol (weights m) c 3)
        (labstg m c) (labstg m c) (labstg m c) (labstg m c) (row8 (ix2 ⟨8 + a.val, by omega⟩ b)) :=
    if_neg (by show ¬ (8 + a.val < 8); omega)
  have h2 : row8 (ix2 (⟨8 + a.val, by omega⟩ : Fin 16) b) = ix2 a b := by
    funext k
    match k with
    | ⟨0, _⟩ => exact Fin.ext (by show (8 + a.val) % 8 = a.val; omega)
    | ⟨1, _⟩ => rfl
  rw [h1, h2]
  refine (labs_at (colBase c) (xstg m c) (fun h => wcol (weights m) c h) (labstg m c) a b).trans ?_
  refine Finset.sum_congr rfl fun h _ => Finset.sum_congr rfl fun v _ => ?_
  rw [word_eq, labstg_at, hp.hl, ex_eq hp]

end

end Cert.KernelIdeal.Own

end
-- ==== Proof.Total.lean ====
/- The devices' columns are the vocabulary's, each once; and what a device adds up over the others is the sum over all. -/
module

public import proofs.«01_k».proof.Proof.Device

@[expose] public section

set_option maxRecDepth 16384

noncomputable section

namespace Cert.KernelIdeal.Own

open Idealize.ShloMosaic Idealize.ShloMosaic.TcCoe
open Cert.KernelIdeal Cert.KernelIdeal.Gen

/-- The devices' parts are all different. -/
theorem part_bij : Function.Bijective part := by decide

/-- The columns in order: sixteenth, quarter of it, column of the quarter. -/
def cols : (Fin 16 × Fin 4) × Fin 512 ≃ Fin 32768 :=
  (finProdFinEquiv.prodCongr (Equiv.refl _)).trans finProdFinEquiv

theorem cols_part (c : Dev nD) (h : Fin 4) (v : Fin 512) : cols ((part c, h), v) = col c h v := by
  refine Fin.ext ?_
  show v.val + 512 * (h.val + 4 * (part c).val) = 2048 * (part c).val + 512 * h.val + v.val
  omega

theorem sum_cols (f : Fin 32768 → EReal) : ∑ c : Dev nD, ∑ h : Fin 4, ∑ v : Fin 512, f (col c h v) = ∑ j : Fin 32768, f j := by
  rw [← Equiv.sum_comp cols f, Fintype.sum_prod_type, Fintype.sum_prod_type]
  refine Fintype.sum_bijective part part_bij _ _ fun c => ?_
  exact Finset.sum_congr rfl fun h _ => Finset.sum_congr rfl fun v _ => by rw [cols_part]

/-- The device itself and its fifteen peers are all the devices. -/
theorem sum_peers (c : Dev nD) (f : Dev nD → EReal) : f c + ∑ i : Fin 15, f (peer c i) = ∑ d : Dev nD, f d := by
  have hb : Function.Bijective (fun i : Fin 16 => (⟨(c.val + i.val) % 16, Nat.mod_lt _ (by decide)⟩ : Dev nD)) := by revert c; decide
  refine Eq.trans ?_ (Fintype.sum_bijective _ hb (fun i => f ⟨(c.val + i.val) % 16, Nat.mod_lt _ (by decide)⟩) f (fun _ => rfl))
  refine Eq.trans ?_ (Fin.sum_univ_succ (n := 15) _).symm
  have h0 : (⟨(c.val + (0 : Fin 16).val) % 16, Nat.mod_lt _ (by decide)⟩ : Dev nD) = c := Fin.ext (Nat.mod_eq_of_lt c.isLt)
  rw [h0]
  exact congrArg (f c + ·) (Finset.sum_congr rfl fun i _ => rfl)

theorem accum_at (C : Conts Ideal) (c : Dev nD) (i : S16x128.Idx) : accum C c idx15 (C.St c) i = ∑ d : Dev nD, C.St d i := by
  refine Eq.trans ?_ (sum_peers c fun d => C.St d i)
  have h (l : List (Fin 15)) (acc : FVec Ideal S16x128 .f32) : accum C c l acc i = acc i + (l.map fun k => (C.St (peer c k) i : EReal)).sum := by
    induction l generalizing acc with
    | nil => exact (add_zero (acc i : EReal)).symm
    | cons k l ih =>
      refine (ih (addf acc (C.St (peer c k)))).trans ?_
      rw [List.map_cons, List.sum_cons]
      exact add_assoc (acc i : EReal) _ _
  rw [h]
  refine congrArg ((C.St c i : EReal) + ·) ?_
  have hl : idx15 = List.finRange 15 := by decide
  rw [hl, ← List.ofFn_eq_map, List.sum_ofFn]

end Cert.KernelIdeal.Own

end
-- ==== Proof.Value.lean ====
/- The kernel's result at a row: the logarithm of the sum of the exponentials of the whole vocabulary's logits, less the
   logarithm of the label's exponential. -/
module

public import proofs.«01_k».proof.Proof.Total
public import proofs.«01_k».proof.Proof.Launch
import Idealize.ShloMosaic.Lib.Pointwise

@[expose] public section

set_option maxRecDepth 16384

noncomputable section

namespace Cert.KernelIdeal.Own

open Idealize.ShloMosaic Idealize.ShloMosaic.TcCoe
open Cert.KernelIdeal Cert.KernelIdeal.Gen

/-- The difference of the logarithms of the two halves, laid out as one row. -/
def flatOut (v : FVec Ideal S16x128 .f32) : FVec Ideal S1024 .f32 := shapeCast S1024 (outOf v) shapeCasts_S8x128_S1024

theorem flatOut_at (v : FVec Ideal S16x128 .f32) (a : Fin 8) (b : Fin 128) :
    flatOut v (ix1 (tok a b)) = (Ideal.log (v (ix2 ⟨a.val, by omega⟩ b)) - Ideal.log (v (ix2 ⟨8 + a.val, by omega⟩ b)) : EReal) := by
  unfold flatOut outOf tok
  pointwise

variable {m : (ℓ : Loc nD τ sig) → Buf (Elt Ideal) ℓ}
variable {x : FVec Ideal S1024x2048 .f32} {w : FVec Ideal ⟨2, ![2048, 32768]⟩ .f32} {lab : IVec S1024 32} (hp : Parts m x w lab)

include hp in
theorem total_sums (c : Dev nD) (a : Fin 8) (b : Fin 128) :
    accum (conts m) c idx15 ((conts m).St c) (ix2 ⟨a.val, by omega⟩ b) = ∑ j : Fin 32768, E x w (tok a b) j := by
  rw [accum_at, ← sum_cols]
  exact Finset.sum_congr rfl fun d _ => st_sums hp d a b

include hp in
theorem total_labs (c : Dev nD) (a : Fin 8) (b : Fin 128) :
    accum (conts m) c idx15 ((conts m).St c) (ix2 ⟨8 + a.val, by omega⟩ b)
      = ∑ j : Fin 32768, if BitVec.ofNat 32 j.val = lab (ix1 (tok a b)) then E x w (tok a b) j else 0 := by
  rw [accum_at, ← sum_cols]
  exact Finset.sum_congr rfl fun d _ => st_labs hp d a b

include hp in
theorem result_tok (c : Dev nD) (a : Fin 8) (b : Fin 128) :
    result m c (ix1 (tok a b)) = (Ideal.log (∑ j : Fin 32768, E x w (tok a b) j)
      - Ideal.log (∑ j : Fin 32768, if BitVec.ofNat 32 j.val = lab (ix1 (tok a b)) then E x w (tok a b) j else 0) : EReal) := by
  refine (flatOut_at (accum (conts m) c idx15 ((conts m).St c)) a b).trans ?_
  rw [total_sums hp, total_labs hp]

/-- A word is a label when its number is. -/
theorem word_label (j : Fin 32768) (l : BitVec 32) (i : Fin 32768) (h : l.toInt = i.val) : BitVec.ofNat 32 j.val = l ↔ j = i := by
  have hl : l = BitVec.ofNat 32 i.val := by
    refine BitVec.eq_of_toInt_eq ?_
    rw [h, BitVec.toInt_eq_toNat_cond, BitVec.toNat_ofNat]
    have := i.isLt
    rw [Nat.mod_eq_of_lt (by omega), if_pos (by omega)]
  constructor
  · intro e
    have e' := congrArg BitVec.toNat (e.trans hl)
    rw [BitVec.toNat_ofNat, BitVec.toNat_ofNat] at e'
    have := i.isLt
    have := j.isLt
    exact Fin.ext (by omega)
  · rintro rfl
    exact hl.symm

include hp in
theorem result_at (c : Dev nD) (t : Fin 1024) (i : Fin 32768) (h : (lab (ix1 t)).toInt = i.val) :
    result m c (ix1 t) = (Ideal.log (∑ j : Fin 32768, E x w t j) - Ideal.log (∑ j : Fin 32768, if j = i then E x w t j else 0) : EReal) := by
  have ht : t = tok ⟨t.val / 128, by omega⟩ ⟨t.val % 128, by omega⟩ := Fin.ext (by show t.val = t.val / 128 * 128 + t.val % 128; omega)
  have hr := result_tok hp c ⟨t.val / 128, by omega⟩ ⟨t.val % 128, by omega⟩
  rw [← ht] at hr
  refine hr.trans ?_
  refine congrArg (fun s : EReal => (Ideal.log (∑ j : Fin 32768, E x w t j) - Ideal.log s : EReal)) ?_
  exact Finset.sum_congr rfl fun j _ => if_congr (word_label j _ i h) rfl rfl

end Cert.KernelIdeal.Own

end
-- ==== Proof.Ref.lean ====
/- The reference's result, element by element, over the extended reals. -/
module

public import proofs.«01_k».proof.Proof.Gen.ReferenceIdeal.Run
public import Idealize.ShloMosaic.Lib.Pointwise

@[expose] public section

set_option maxRecDepth 16384

noncomputable section

namespace Cert.ReferenceIdeal.Own

open Idealize.ShloMosaic Idealize.ShloMosaic.TcCoe
open Cert.ReferenceIdeal Cert.ReferenceIdeal.Gen

variable {α : Type}

/-- A gather of single elements of a matrix at pairs of index words: each word is read signed and clamped into its axis. -/
theorem gather_at (x : S1024x32768.Idx → α) (idx : IVec S1024x2 32) (t : Fin 1024) :
    Host.gather gather_S1024x32768_S1024x2_S1024_n_01_n_n_01_1_11 x idx (ix1 t)
      = x (ix2 ⟨min (idx (ix2 t 0)).toInt.toNat 1023, by omega⟩ ⟨min (idx (ix2 t 1)).toInt.toNat 32767, by omega⟩) := by
  unfold Host.gather
  congr 1
  funext a
  refine Fin.ext ?_
  show gather_S1024x32768_S1024x2_S1024_n_01_n_n_01_1_11.start (ix1 t) idx a + gather_S1024x32768_S1024x2_S1024_n_01_n_n_01_1_11.batchCoord (ix1 t) a
      + gather_S1024x32768_S1024x2_S1024_n_01_n_n_01_1_11.offCoord (ix1 t) a = _
  have hmem : ∀ b : Fin 2, b ∈ ([0, 1] : List (Fin 2)) := by decide
  rw [GatherDims.batchCoord_eq_zero _ _ _ List.not_mem_nil,
    GatherDims.offCoord_eq_zero _ _ _ (fun h => ((GatherDims.mem_sKept _ _).mp h).1 (hmem a))]
  simp only [Nat.add_zero]
  unfold GatherDims.start
  rw [dif_pos (show a ∈ gather_S1024x32768_S1024x2_S1024_n_01_n_n_01_1_11.startIndexMap from hmem a)]
  have h01 : a = 0 ∨ a = 1 := by
    match a with
    | ⟨0, _⟩ => exact Or.inl rfl
    | ⟨1, _⟩ => exact Or.inr rfl
  have hsi (c : Fin 2) : gather_S1024x32768_S1024x2_S1024_n_01_n_n_01_1_11.siIdx (ix1 t) c = ix2 t c := by
    funext b; refine Fin.ext ?_
    match b with
    | ⟨0, _⟩ => rfl
    | ⟨1, _⟩ => rfl
  rcases h01 with rfl | rfl
  · exact congrArg (fun i => min (idx i).toInt.toNat 1023) (hsi 0)
  · exact congrArg (fun i => min (idx i).toInt.toNat 32767) (hsi 1)

/-- The logits. -/
def logits (x : FVec Ideal S1024x2048 .f32) (w : FVec Ideal S2048x32768 .f32) : FVec Ideal S1024x32768 .f32 :=
  Host.dotGeneral dot_S1024x2048_S2048x32768_S1024x32768_1_0_0_1_n_n none x w

theorem logits_at (x : FVec Ideal S1024x2048 .f32) (w : FVec Ideal S2048x32768 .f32) (t : Fin 1024) (v : Fin 32768) :
    logits x w (ix2 t v) = ∑ k : Fin 2048, x (ix2 t k) * w (ix2 k v) := by
  pointwise [logits]

/-- Each row's greatest logit. -/
def rowMax (l : FVec Ideal S1024x32768 .f32) : FVec Ideal S1024 .f32 :=
  Host.reduce FloatOps.maximumf l (constant S_ .f32 0xFF800000#32) reducesTo_S1024x32768_S1024_d1 h_S_

theorem rowMax_at (l : FVec Ideal S1024x32768 .f32) (t : Fin 1024) :
    rowMax l (ix1 t) = Finset.fold max (⊥ : EReal) (fun v : Fin 32768 => l (ix2 t v)) Finset.univ := by
  have hb : Ideal.ofBits .f32 0xFF800000#32 = ⊥ := by simp [Ideal.ofBits, Ideal.ieee]
  rw [← hb]
  pointwise [rowMax]

/-- The exponentials of the logits less each row's given number. -/
def expLess (l : FVec Ideal S1024x32768 .f32) (M : FVec Ideal S1024 .f32) : FVec Ideal S1024x32768 .f32 :=
  Host.exp (subf l (broadcastInDim S1024x32768 ![0, 1] bcast_S1024x1_S1024x32768_0_1 (broadcastInDim S1024x1 ![0] bcast_S1024_S1024x1_0 M)))

theorem expLess_at (l : FVec Ideal S1024x32768 .f32) (M : FVec Ideal S1024 .f32) (t : Fin 1024) (v : Fin 32768) :
    expLess l M (ix2 t v) = Ideal.exp (l (ix2 t v) - M (ix1 t)) := by
  pointwise [expLess]

/-- Each row's sum. -/
def rowSum (e : FVec Ideal S1024x32768 .f32) : FVec Ideal S1024 .f32 :=
  Host.reduceAdd e (constant S_ .f32 0x00000000#32) reducesTo_S1024x32768_S1024_d1 h_S_

theorem rowSum_at (e : FVec Ideal S1024x32768 .f32) (t : Fin 1024) : rowSum e (ix1 t) = ∑ v : Fin 32768, e (ix2 t v) := by
  pointwise [rowSum]

/-- A row's number and the logarithm of another, added. -/
def plusLog (M s : FVec Ideal S1024 .f32) : FVec Ideal S1024 .f32 :=
  shapeCast S1024 (addf (broadcastInDim S1024x1 ![0] bcast_S1024_S1024x1_0 M) (Host.log (broadcastInDim S1024x1 ![0] bcast_S1024_S1024x1_0 s)))
    shapeCasts_S1024x1_S1024

theorem plusLog_at (M s : FVec Ideal S1024 .f32) (t : Fin 1024) : plusLog M s (ix1 t) = M (ix1 t) + Ideal.log (s (ix1 t)) := by
  pointwise [plusLog]

/-- The logarithm of each row's sum of exponentials, its greatest logit taken out first. -/
def lse (l : FVec Ideal S1024x32768 .f32) : FVec Ideal S1024 .f32 := plusLog (rowMax l) (rowSum (expLess l (rowMax l)))

theorem lse_at (l : FVec Ideal S1024x32768 .f32) (t : Fin 1024) :
    lse l (ix1 t) = rowMax l (ix1 t) + Ideal.log (∑ v : Fin 32768, Ideal.exp (l (ix2 t v) - rowMax l (ix1 t))) := by
  rw [lse, plusLog_at, rowSum_at]
  exact congrArg (fun z => rowMax l (ix1 t) + Ideal.log z) (Finset.sum_congr rfl fun v _ => expLess_at l (rowMax l) t v)

/-- The pairs of index words: the row's number and its label, each with its axis's extent added if it is negative. -/
def pairs (lab : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩,
    ⟨S1024x1, (broadcastInDim S1024x1 ![0] bcast_S1024_S1024x1_0 (select (cmpi .slt lab (broadcastInDim S1024 ![] bcast_S_S1024 (constantI S_ 32 0#32))) (addi lab (broadcastInDim S1024 ![] bcast_S_S1024 (constantI S_ 32 32768#32))) lab))⟩]
    concatenates_S1024x1_S1024x1_S1024x2_d1

/-- A word that is not negative is kept. -/
theorem wrap_nonneg (b n : BitVec 32) (h : 0 ≤ b.toInt) : Scalar.select (IntOp.cmpi CmpIPredicate.slt b 0#32) (IntOp.addi b n) b = b := by
  have hs : IntOp.cmpi CmpIPredicate.slt b 0#32 = 0#1 := by
    show BitVec.ofBool (BitVec.slt b 0#32) = 0#1
    rw [BitVec.slt_eq_decide, show (0#32 : BitVec 32).toInt = 0 from rfl, decide_eq_false (by omega)]
    rfl
  rw [hs]
  rfl

theorem pairs_row (lab : IVec S1024 32) (t : Fin 1024) : pairs lab (ix2 t 0) = BitVec.ofNat 32 t.val := by
  pointwise [pairs]
  exact wrap_nonneg _ _ (by rw [BitVec.toInt_eq_toNat_cond, BitVec.toNat_ofNat]; have := t.isLt; split <;> omega)

theorem pairs_label (lab : IVec S1024 32) (t : Fin 1024) (h : 0 ≤ (lab (ix1 t)).toInt) : pairs lab (ix2 t 1) = lab (ix1 t) := by
  pointwise [pairs]
  exact wrap_nonneg _ _ h

/-- The reference's result. -/
def nll (x : FVec Ideal S1024x2048 .f32) (w : FVec Ideal S2048x32768 .f32) (lab : IVec S1024 32) : FVec Ideal S1024 .f32 :=
  subf (lse (logits x w)) (Host.gather gather_S1024x32768_S1024x2_S1024_n_01_n_n_01_1_11 (logits x w) (pairs lab))

theorem sub_at (a b : FVec Ideal S1024 .f32) (i : S1024.Idx) : subf a b i = (a i : EReal) - b i := rfl

/-- At a row whose label is in range. -/
theorem nll_at (x : FVec Ideal S1024x2048 .f32) (w : FVec Ideal S2048x32768 .f32) (lab : IVec S1024 32) (t : Fin 1024) (j : Fin 32768)
    (h : (lab (ix1 t)).toInt = j.val) :
    nll x w lab (ix1 t) = lse (logits x w) (ix1 t) - logits x w (ix2 t j) := by
  have h0 : Host.gather gather_S1024x32768_S1024x2_S1024_n_01_n_n_01_1_11 (logits x w) (pairs lab) (ix1 t) = logits x w (ix2 t j) := by
    rw [gather_at]
    refine congrArg (logits x w) ?_
    have ht : min (pairs lab (ix2 t 0)).toInt.toNat 1023 = t.val := by
      rw [pairs_row, BitVec.toInt_eq_toNat_cond, BitVec.toNat_ofNat]; have := t.isLt; split <;> omega
    have hj : min (pairs lab (ix2 t 1)).toInt.toNat 32767 = j.val := by
      rw [pairs_label lab t (by omega), h]; have := j.isLt; omega
    exact congrArg₂ ix2 (Fin.ext ht) (Fin.ext hj)
  rw [nll, sub_at, h0]

theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = nll (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.Own

end
-- ==== Proof.Lse.lean ====
/- The equation between the two ways of writing a row's loss, over the extended reals. -/
module

public import Idealize.ShloMosaic.PureOps.Ideal
public import Mathlib.Analysis.SpecialFunctions.Log.Basic

@[expose] public section

noncomputable section

namespace Cert.Lse

open Idealize.ShloMosaic

theorem exp_coe (r : ℝ) : Ideal.exp (r : EReal) = ((Real.exp r : ℝ) : EReal) := rfl

theorem log_coe (r : ℝ) (h : 0 < r) : Ideal.log (r : EReal) = ((Real.log r : ℝ) : EReal) := by
  show (if r ≤ 0 then ⊥ else ((Real.log r : ℝ) : EReal)) = _
  rw [if_neg (not_le.mpr h)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many finite numbers is one of them. -/
theorem fold_max_coe {n : ℕ} (hn : 0 < n) (r : Fin n → ℝ) :
    ∃ v : Fin n, Finset.fold max (⊥ : EReal) (fun i => (r i : EReal)) Finset.univ = (r v : EReal) := by
  have hne : (Finset.univ : Finset (Fin n)).Nonempty := ⟨⟨0, hn⟩, Finset.mem_univ _⟩
  obtain ⟨v, -, hv⟩ := Finset.exists_mem_eq_sup Finset.univ hne (fun i => (r i : EReal))
  exact ⟨v, hv⟩

/-- A sum of finite numbers' products is finite. -/
theorem finite_dot {ι : Type} [Fintype ι] (x w : ι → EReal) (hx : ∀ k, x k ≠ ⊤ ∧ x k ≠ ⊥) (hw : ∀ k, w k ≠ ⊤ ∧ w k ≠ ⊥) :
    ∃ r : ℝ, ∑ k, x k * w k = (r : EReal) := by
  refine ⟨∑ k, (x k).toReal * (w k).toReal, ?_⟩
  rw [coe_sum]
  refine Finset.sum_congr rfl fun k _ => ?_
  rw [EReal.coe_mul, EReal.coe_toReal (hx k).1 (hx k).2, EReal.coe_toReal (hw k).1 (hw k).2]

/-- For finite logits: the logarithm of the sum of the exponentials less the logarithm of the label's exponential is the
    logarithm of the sum of the exponentials, the greatest logit taken out first, less the label's logit. -/
theorem loss {n : ℕ} (hn : 0 < n) (l : Fin n → EReal) (hl : ∀ v, ∃ r : ℝ, l v = (r : EReal)) (j : Fin n) :
    Ideal.log (∑ v, Ideal.exp (l v)) - Ideal.log (∑ v, if v = j then Ideal.exp (l v) else 0)
      = (Finset.fold max (⊥ : EReal) l Finset.univ + Ideal.log (∑ v, Ideal.exp (l v - Finset.fold max (⊥ : EReal) l Finset.univ))) - l j := by
  obtain ⟨r, rfl⟩ : ∃ r : Fin n → ℝ, l = fun v => (r v : EReal) := ⟨fun v => (hl v).choose, funext fun v => (hl v).choose_spec⟩
  obtain ⟨v₀, hv₀⟩ := fold_max_coe hn r
  rw [hv₀]
  have hne : (Finset.univ : Finset (Fin n)).Nonempty := ⟨⟨0, hn⟩, Finset.mem_univ _⟩
  have h1 : ∑ v, Ideal.exp ((r v : EReal)) = ((∑ v, Real.exp (r v) : ℝ) : EReal) := (coe_sum _ _).symm
  have h2 : ∑ v, Ideal.exp ((r v : EReal) - (r v₀ : EReal)) = ((∑ v, Real.exp (r v - r v₀) : ℝ) : EReal) := by
    rw [coe_sum]
    exact Finset.sum_congr rfl fun v _ => rfl
  have h3 : (∑ v, if v = j then Ideal.exp ((r v : EReal)) else 0) = ((Real.exp (r j) : ℝ) : EReal) := by
    rw [Finset.sum_ite_eq' Finset.univ j, if_pos (Finset.mem_univ _), exp_coe]
  have p1 : 0 < ∑ v, Real.exp (r v) := Finset.sum_pos (fun v _ => Real.exp_pos _) hne
  have p2 : 0 < ∑ v, Real.exp (r v - r v₀) := Finset.sum_pos (fun v _ => Real.exp_pos _) hne
  have h4 : ∑ v, Real.exp (r v - r v₀) = (∑ v, Real.exp (r v)) * Real.exp (-r v₀) := by
    rw [Finset.sum_mul]
    exact Finset.sum_congr rfl fun v _ => by rw [← Real.exp_add, sub_eq_add_neg]
  rw [h1, h2, h3, log_coe _ p1, log_coe _ p2, log_coe _ (Real.exp_pos _), Real.log_exp, ← EReal.coe_add, ← EReal.coe_sub, ← EReal.coe_sub]
  congr 1
  rw [h4, Real.log_mul p1.ne' (Real.exp_pos _).ne', Real.log_exp]
  ring

end Cert.Lse

end
-- ==== Proof.Algebraic.lean ====
/- The kernel's result is the reference's: from what each is at a row. -/
module

public import proofs.«01_k».proof.Defs
public import proofs.«01_k».proof.Proof.Value
public import proofs.«01_k».proof.Proof.Ref
public import proofs.«01_k».proof.Proof.Lse
public import proofs.«01_k».proof.Proof.Pre

@[expose] public section

set_option maxRecDepth 16384

noncomputable section

namespace Cert.Proof

open Idealize.ShloMosaic Idealize.ShloMosaic.TcCoe Idealize.SL.Sem
open Cert.KernelIdeal

section

open Cert.KernelIdeal.Own

/-- A device's block of the weights is the half of the columns that its place on the middle mesh axis names. -/
theorem block_at (w : FVec Ideal ⟨2, ![2048, 32768]⟩ .f32) (c : Dev nD) (k : Fin 2048) (j : Fin 16384) :
    (Layout.blockN ⟨2, ![2048, 16384]⟩ ⟨2, ![2048, 32768]⟩ (Layout.meshBlock [2, 2, 4] ![[], [1]] c) w) (ix2 k j)
      = w (ix2 k ⟨16384 * (c.val / 4 % 2) + j.val, by omega⟩) := by
  rw [Layout.blockN_apply]
  refine congrArg w (funext fun a => Fin.ext ?_)
  match a with
  | ⟨0, _⟩ => exact (Nat.zero_add k.val) ▸ congrArg (· + k.val) (Nat.zero_mul 2048)
  | ⟨1, _⟩ =>
    have h : ((Layout.meshBlock [2, 2, 4] ![[], [1]] c) (1 : Fin 2)).val = c.val / 4 % 2 := by revert c; decide
    exact (congrArg (fun n => n * 16384 + j.val) h).trans (congrArg (· + j.val) (Nat.mul_comm _ _))

variable {m : (ℓ : Loc nD τ sig) → Buf (Elt Ideal) ℓ}
variable {x : FVec Ideal S1024x2048 .f32} {w : FVec Ideal ⟨2, ![2048, 32768]⟩ .f32} {lab : IVec S1024 32} (hp : Parts m x w lab)

include hp in
/-- Finite on every device, finite as a whole: the first device has the lower half, the fifth the upper. -/
theorem whole_finite (hf : ∀ c i, argW m c i ≠ (⊤ : EReal) ∧ argW m c i ≠ (⊥ : EReal)) (k : Fin 2048) (j : Fin 32768) :
    w (ix2 k j) ≠ (⊤ : EReal) ∧ w (ix2 k j) ≠ (⊥ : EReal) := by
  have key (c : Dev nD) (i : Fin 16384) (h : 16384 * (c.val / 4 % 2) + i.val = j.val) : w (ix2 k j) ≠ (⊤ : EReal) ∧ w (ix2 k j) ≠ (⊥ : EReal) := by
    have e : argW m c (ix2 k i) = w (ix2 k j) := (hp.hw c k i).trans (congrArg (fun q => w (ix2 k q)) (Fin.ext h))
    exact e ▸ hf c (ix2 k i)
  by_cases hj : j.val < 16384
  · exact key ⟨0, by decide⟩ ⟨j.val, hj⟩ (Nat.zero_add _)
  · exact key ⟨4, by decide⟩ ⟨j.val - 16384, by omega⟩ (by show 16384 * (4 / 4 % 2) + (j.val - 16384) = j.val; omega)

include hp in
theorem result_row (hx : ∀ i, x i ≠ (⊤ : EReal) ∧ x i ≠ (⊥ : EReal)) (hw : ∀ k j, w (ix2 k j) ≠ (⊤ : EReal) ∧ w (ix2 k j) ≠ (⊥ : EReal))
    (c : Dev nD) (t : Fin 1024) (i : Fin 32768) (h : (lab (ix1 t)).toInt = i.val) :
    result m c (ix1 t) = Cert.ReferenceIdeal.Own.nll x w lab (ix1 t) := by
  refine (result_at hp c t i h).trans ?_
  rw [Cert.ReferenceIdeal.Own.nll_at x w lab t i h, Cert.ReferenceIdeal.Own.lse_at, Cert.ReferenceIdeal.Own.rowMax_at]
  have hl (v : Fin 32768) : Cert.ReferenceIdeal.Own.logits x w (ix2 t v) = (∑ k : Fin 2048, x (ix2 t k) * w (ix2 k v) : EReal) :=
    Cert.ReferenceIdeal.Own.logits_at x w t v
  generalize Cert.ReferenceIdeal.Own.logits x w = l at hl
  have he (v : Fin 32768) : E x w t v = Ideal.exp (l (ix2 t v)) := congrArg Ideal.exp (hl v).symm
  simp only [he]
  refine Cert.Lse.loss (by decide) (fun v => l (ix2 t v)) (fun v => ?_) i
  rw [hl]
  exact Cert.Lse.finite_dot _ _ (fun k => hx (ix2 t k)) (fun k => hw k v)

include hp in
theorem result_eq (hx : ∀ i, x i ≠ (⊤ : EReal) ∧ x i ≠ (⊥ : EReal)) (hw : ∀ k j, w (ix2 k j) ≠ (⊤ : EReal) ∧ w (ix2 k j) ≠ (⊥ : EReal))
    (hr : ∀ i, 0 ≤ (lab i).toInt ∧ (lab i).toInt < 32768) (c : Dev nD) :
    result m c = Cert.ReferenceIdeal.Own.nll x w lab := by
  funext i
  have hi : i = ix1 (i 0) := by funext a; match a with | ⟨0, _⟩ => rfl
  rw [hi]
  obtain ⟨h0, h1⟩ := hr (ix1 (i 0))
  exact result_row hp hx hw c (i 0) ⟨(lab (ix1 (i 0))).toInt.toNat, by omega⟩ (Int.toNat_of_nonneg h0).symm

end

attribute [local instance] Cert.KernelIdeal.Gen.facts Cert.ReferenceIdeal.Gen.facts pre_kernel_facts

theorem algebraic : Cert.algebraic_KernelIdeal_ReferenceIdeal_pre_finite_in_range_KernelIdeal := by
  intro m g m' g' hpre hargs
  have hp : Cert.KernelIdeal.Own.Parts m (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2)) :=
    ⟨fun c => (hargs c).1, fun c k j => (congrFun (hargs c).2.1 (ix2 k j)).trans (block_at _ c k j), fun c => (hargs c).2.2⟩
  have hd (c : Dev nD) := decode _ _ _ (hpre c)
  have hx := (hd 0).1
  have hr := (hd 0).2.2
  rw [(hargs 0).1] at hx
  rw [(hargs 0).2.2] at hr
  have hw := whole_finite hp (fun c => (hd c).2.1)
  refine ⟨Cert.ReferenceIdeal.Own.nll (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2)), ?_, ?_⟩
  · exact (θ_run Cert.KernelIdeal.defs _ _).mono (fun r h c => ⟨(h.1 c).1.trans (result_eq hp hx hw hr c), (h.1 c).2⟩)
      (Cert.KernelIdeal.Own.run_main m g)
  · exact (θ_run Cert.ReferenceIdeal.defs _ _).mono (fun r h => h 0) (Cert.ReferenceIdeal.Own.run_main m' g')

end Cert.Proof

end
-- ==== Proof.lean ====
/- The claim, from the run of the kernel, the run of the reference and the value of each. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Pre
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  pre_kernel_facts, pre_reference_facts,
  frame_kernel, frame_ideal, fun m g _ => frame_ideal m g trivial, frame_reference, fun m g _ => frame_reference m g trivial,
  trivial, algebraic⟩

end Cert.Proof

end
